-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_conditions [hPre_finite_conditions : Cert.Pre_finite_conditions.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_conditions.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_conditions [hPre_finite_conditions : Cert.Pre_finite_conditions.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_conditions.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_conditions [hKernel4Ideal : Cert.Kernel4Ideal.Facts] [hPre_finite_conditions : Cert.Pre_finite_conditions.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_conditions m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_conditions [hReference4Ideal : Cert.Reference4Ideal.Facts] [hPre_finite_conditions : Cert.Pre_finite_conditions.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_conditions m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v27)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal_pre_finite_conditions [hKernel4Ideal : Cert.Kernel4Ideal.Facts] [hReference4Ideal : Cert.Reference4Ideal.Facts] [hPre_finite_conditions : Cert.Pre_finite_conditions.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_conditions m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v90_1)) (v1 : (c : Dev Cert.Kernel5Ideal.nD) → Buf (Elt Ideal) ((c.tc : Thread Cert.Kernel5Ideal.nD Cert.Kernel5Ideal.τ).loc Cert.Kernel5Ideal.main_v90_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v90_1) = v0 c
          ∧ r.2.mem ((c.tc : Thread Cert.Kernel5Ideal.nD Cert.Kernel5Ideal.τ).loc Cert.Kernel5Ideal.main_v90_4) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v97) = v0 c
          ∧ r.2.mem ((c.tc : Thread Cert.Reference5Ideal.nD Cert.Reference5Ideal.τ).loc Cert.Reference5Ideal.main_v98) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_inputs : Cert.Pre_finite_inputs.Facts) (hPre_finite_ffn : Cert.Pre_finite_ffn.Facts) (hPre_finite_conditions : Cert.Pre_finite_conditions.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_conditions (hKernel4Ideal := hKernel4Ideal) (hPre_finite_conditions := hPre_finite_conditions)
    ∧ quiescent_Reference4Ideal (hReference4Ideal := hReference4Ideal)
    ∧ quiescent_Reference4Ideal_pre_finite_conditions (hReference4Ideal := hReference4Ideal) (hPre_finite_conditions := hPre_finite_conditions)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_conditions (hKernel4Ideal := hKernel4Ideal) (hReference4Ideal := hReference4Ideal) (hPre_finite_conditions := hPre_finite_conditions)
    ∧ preserves_Kernel5_Kernel5Ideal
    ∧ algebraic_Kernel5Ideal_Reference5Ideal (hKernel5Ideal := hKernel5Ideal) (hReference5Ideal := hReference5Ideal)
-- ==== Pre_finite_conditions.lean ====
abbrev S4x1024 : Shape := ⟨2, ![4, 1024]⟩
abbrev S1024 : Shape := ⟨1, ![1024]⟩
abbrev S1x1024x6144 : Shape := ⟨3, ![1, 1024, 6144]⟩
abbrev S1x6144 : Shape := ⟨2, ![1, 6144]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x1024 .f32) (main_arg1 : FVec F S1024 .f32) (main_arg2 : FVec F S1x1024x6144 .f32) (main_arg3 : FVec F S1x6144 .f32) : IVec S_ 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Pre_finite_ffn.lean ====
abbrev S4x8192x1024 : Shape := ⟨3, ![4, 8192, 1024]⟩
abbrev S4x6144 : Shape := ⟨2, ![4, 6144]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x6144 : S_.BroadcastsInDim S4x6144 (![] : Fin 0 → Fin S4x6144.rank)
  reducesTo_S4x6144_S_d0_1 : S4x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_

variable [Facts]

def fn_part1 {F : FTy → Type} [FloatOps F] (main_v13 : IVec S_ 1) (main_v16 : IVec S1x1024x5632 1) : IVec S_ 1 :=
  let main_c_5 : IVec S_ 1 := constantI S_ 1 1#1
  let main_v17 : IVec S_ 1 := (fun x v => Host.reduce IntOp.andi x v reducesTo_S1x1024x5632_S_d0_1_2 h_S_) main_v16 main_c_5
  let main_v18 : IVec S_ 1 := andi main_v13 main_v17
  main_v18

def fn {F : FTy → Type} [FloatOps F] (main_arg0 : FVec F S4x8192x1024 .f32) (main_arg1 : FVec F S4x6144 .f32) (main_arg2 : FVec F S1x1024 .f32) (main_arg3 : FVec F S1x1024x5632 .f32) (main_arg4 : FVec F S1x2816x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x6144 .f32 := Host.absf main_arg1
  let main_cst_0 : FVec F S_ .f32 := constant S_ .f32 0x7F800000#32
  let main_v5 : FVec F S4x6144 .f32 := broadcastInDim S4x6144 ![] bcast_S_S4x6144 main_cst_0
  let main_v6 : IVec S4x6144 1 := cmpf .olt main_v4 main_v5
  let main_c_1 : IVec S_ 1 := constantI S_ 1 1#1
  let main_v7 : IVec S_ 1 := (fun x v => Host.reduce IntOp.andi x v reducesTo_S4x6144_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x5632 .f32 := Host.absf main_arg3
  let main_cst_4 : FVec F S_ .f32 := constant S_ .f32 0x7F800000#32
  let main_v15 : FVec F S1x1024x5632 .f32 := broadcastInDim S1x1024x5632 ![] bcast_S_S1x1024x5632 main_cst_4
  let main_v16 : IVec S1x1024x5632 1 := cmpf .olt main_v14 main_v15
  fn_part1 (F := F) main_v13 main_v16
-- ==== Pre_finite_inputs.lean ====
abbrev S4x8x8192x64 : Shape := ⟨4, ![4, 8, 8192, 64]⟩
abbrev S4x8x8448x64 : Shape := ⟨4, ![4, 8, 8448, 64]⟩
abbrev S4x8x8448x128 : Shape := ⟨4, ![4, 8, 8448, 128]⟩
abbrev S1x4x64 : Shape := ⟨3, ![1, 4, 64]⟩
abbrev S1x128 : Shape := ⟨2, ![1, 128]⟩
abbrev S_ : Shape := ⟨0, ![]⟩

class Facts : Prop where
  bcast_S_S4x8x8192x64 : S_.BroadcastsInDim S4x8x8192x64 (![] : Fin 0 → Fin S4x8x8192x64.rank)
  reducesTo_S4x8x8192x64_S_d0_1_2_3 : S4x8x8192x64.ReducesTo [0, 1, 2, 3] S_
  h_S_ : 0 < S_.numel
  bcast_S_S4x8x8448x64 : S_.BroadcastsInDim S4x8x8448x64 (![] : Fin 0 → Fin S4x8x8448x64.rank)
  reducesTo_S4x8x8448x64_S_d0_1_2_3 : S4x8x8448x64.ReducesTo [0, 1, 2, 3] S_
  bcast_S_S4x8x8448x128 : S_.BroadcastsInDim S4x8x8448x128 (![] : Fin 0 → Fin S4x8x8448x128.rank)
  reducesTo_S4x8x8448x128_S_d0_1_2_3 : S4x8x8448x128.ReducesTo [0, 1, 2, 3] S_
  bcast_S_S1x4x64 : S_.BroadcastsInDim S1x4x64 (![] : Fin 0 → Fin S1x4x64.rank)
  reducesTo_S1x4x64_S_d0_1_2 : S1x4x64.ReducesTo [0, 1, 2] S_

variable [Facts]

def fn_part1 {F : FTy → Type} [FloatOps F] (main_arg4 : FVec F S4x8x8448x128 .f32) (main_arg5 : FVec F S1x4x64 .f32) (main_v13 : IVec S_ 1) (main_v16 : IVec S4x8x8448x64 1) : IVec S_ 1 :=
  let main_c_5 : IVec S_ 1 := constantI S_ 1 1#1
  let main_v17 : IVec S_ 1 := (fun x v => Host.reduce IntOp.andi x v reducesTo_S4x8x8448x64_S_d0_1_2_3 h_S_) main_v16 main_c_5
  let main_v18 : IVec S_ 1 := andi main_v13 main_v17
  let main_v19 : FVec F S4x8x8448x128 .f32 := Host.absf main_arg4
  let main_cst_6 : FVec F S_ .f32 := constant S_ .f32 0x7F800000#32
  let main_v20 : FVec F S4x8x8448x128 .f32 := broadcastInDim S4x8x8448x128 ![] bcast_S_S4x8x8448x128 main_cst_6
  let main_v21 : IVec S4x8x8448x128 1 := cmpf .olt main_v19 main_v20
  let main_c_7 : IVec S_ 1 := constantI S_ 1 1#1
  let main_v22 : IVec S_ 1 := (fun x v => Host.reduce IntOp.andi x v reducesTo_S4x8x8448x128_S_d0_1_2_3 h_S_) main_v21 main_c_7
  let main_v23 : IVec S_ 1 := andi main_v18 main_v22
  let main_v24 : FVec F S1x4x64 .f32 := Host.absf main_arg5
  let main_cst_8 : FVec F S_ .f32 := constant S_ .f32 0x7F800000#32
  let main_v25 : FVec F S1x4x64 .f32 := broadcastInDim S1x4x64 ![] bcast_S_S1x4x64 main_cst_8
  let main_v26 : IVec S1x4x64 1 := cmpf .olt main_v24 main_v25
  let main_c_9 : IVec S_ 1 := constantI S_ 1 1#1
  let main_v27 : IVec S_ 1 := (fun x v => Host.reduce IntOp.andi x v reducesTo_S1x4x64_S_d0_1_2 h_S_) main_v26 main_c_9
  let main_v28 : IVec S_ 1 := andi main_v23 main_v27
  main_v28

def fn {F : FTy → Type} [FloatOps F] (main_arg0 : FVec F S4x8x8192x64 .f32) (main_arg1 : FVec F S4x8x8192x64 .f32) (main_arg2 : FVec F S4x8x8448x64 .f32) (main_arg3 : FVec F S4x8x8448x64 .f32) (main_arg4 : FVec F S4x8x8448x128 .f32) (main_arg5 : FVec F S1x4x64 .f32) (main_arg6 : FVec F S1x128 .f32) : IVec S_ 1 :=
  let main_v0 : FVec F S4x8x8192x64 .f32 := Host.absf main_arg0
  let main_cst : FVec F S_ .f32 := constant S_ .f32 0x7F800000#32
  let main_v1 : FVec F S4x8x8192x64 .f32 := broadcastInDim S4x8x8192x64 ![] bcast_S_S4x8x8192x64 main_cst
  let main_v2 : IVec S4x8x8192x64 1 := cmpf .olt main_v0 main_v1
  let main_c : IVec S_ 1 := constantI S_ 1 1#1
  let main_v3 : IVec S_ 1 := (fun x v => Host.reduce IntOp.andi x v reducesTo_S4x8x8192x64_S_d0_1_2_3 h_S_) main_v2 main_c
  let main_v4 : FVec F S4x8x8192x64 .f32 := Host.absf main_arg1
  let main_cst_0 : FVec F S_ .f32 := constant S_ .f32 0x7F800000#32
  let main_v5 : FVec F S4x8x8192x64 .f32 := broadcastInDim S4x8x8192x64 ![] bcast_S_S4x8x8192x64 main_cst_0
  let main_v6 : IVec S4x8x8192x64 1 := cmpf .olt main_v4 main_v5
  let main_c_1 : IVec S_ 1 := constantI S_ 1 1#1
  let main_v7 : IVec S_ 1 := (fun x v => Host.reduce IntOp.andi x v reducesTo_S4x8x8192x64_S_d0_1_2_3 h_S_) main_v6 main_c_1
  let main_v8 : IVec S_ 1 := andi main_v3 main_v7
  let main_v9 : FVec F S4x8x8448x64 .f32 := Host.absf main_arg2
  let main_cst_2 : FVec F S_ .f32 := constant S_ .f32 0x7F800000#32
  let main_v10 : FVec F S4x8x8448x64 .f32 := broadcastInDim S4x8x8448x64 ![] bcast_S_S4x8x8448x64 main_cst_2
  let main_v11 : IVec S4x8x8448x64 1 := cmpf .olt main_v9 main_v10
  let main_c_3 : IVec S_ 1 := constantI S_ 1 1#1
  let main_v12 : IVec S_ 1 := (fun x v => Host.reduce IntOp.andi x v reducesTo_S4x8x8448x64_S_d0_1_2_3 h_S_) main_v11 main_c_3
  let main_v13 : IVec S_ 1 := andi main_v8 main_v12
  let main_v14 : FVec F S4x8x8448x64 .f32 := Host.absf main_arg3
  let main_cst_4 : FVec F S_ .f32 := constant S_ .f32 0x7F800000#32
  let main_v15 : FVec F S4x8x8448x64 .f32 := broadcastInDim S4x8x8448x64 ![] bcast_S_S4x8x8448x64 main_cst_4
  let main_v16 : IVec S4x8x8448x64 1 := cmpf .olt main_v14 main_v15
  fn_part1 (F := F) main_arg4 main_arg5 main_v13 main_v16
-- ==== Kernel.lean ====
abbrev S4x8x8192x64 : Shape := ⟨4, ![4, 8, 8192, 64]⟩
abbrev S4x8x8448x64 : Shape := ⟨4, ![4, 8, 8448, 64]⟩
abbrev S4x8x8448x128 : Shape := ⟨4, ![4, 8, 8448, 128]⟩
abbrev S1x4x64 : Shape := ⟨3, ![1, 4, 64]⟩
abbrev S1x128 : Shape := ⟨2, ![1, 128]⟩
abbrev S_ : Shape := ⟨0, ![]⟩
abbrev S4x8x8192x128 : Shape := ⟨4, ![4, 8, 8192, 128]⟩
abbrev S4x8x8192x2x2x2x16 : Shape := ⟨7, ![4, 8, 8192, 2, 2, 2, 16]⟩
abbrev S4x8x128x8192 : Shape := ⟨4, ![4, 8, 128, 8192]⟩
abbrev S4x1024x8192 : Shape := ⟨3, ![4, 1024, 8192]⟩
abbrev S4x8x8448x2x2x2x16 : Shape := ⟨7, ![4, 8, 8448, 2, 2, 2, 16]⟩
abbrev S4x8448x8x128 : Shape := ⟨4, ![4, 8448, 8, 128]⟩
abbrev S4x8448x1024 : Shape := ⟨3, ![4, 8448, 1024]⟩
abbrev S4x8x128x8448 : Shape := ⟨4, ![4, 8, 128, 8448]⟩
abbrev S4x8x16x8448 : Shape := ⟨4, ![4, 8, 16, 8448]⟩
abbrev S4x8x144x8448 : Shape := ⟨4, ![4, 8, 144, 8448]⟩
abbrev S4x1152x8448 : Shape := ⟨3, ![4, 1152, 8448]⟩
abbrev S4x64 : Shape := ⟨2, ![4, 64]⟩
abbrev S4x8192x1024 : Shape := ⟨3, ![4, 8192, 1024]⟩
abbrev S1x128x8192 : Shape := ⟨3, ![1, 128, 8192]⟩
abbrev S1x8448x128 : Shape := ⟨3, ![1, 8448, 128]⟩
abbrev S1x144x8448 : Shape := ⟨3, ![1, 144, 8448]⟩
abbrev S1x8192x128 : Shape := ⟨3, ![1, 8192, 128]⟩
abbrev S8448x512 : Shape := ⟨2, ![8448, 512]⟩
abbrev S8x512 : Shape := ⟨2, ![8, 512]⟩
abbrev S128x256 : Shape := ⟨2, ![128, 256]⟩
abbrev S1x128x256 : Shape := ⟨3, ![1, 128, 256]⟩
abbrev S128x512 : Shape := ⟨2, ![128, 512]⟩
abbrev S8448x128 : Shape := ⟨2, ![8448, 128]⟩
abbrev S1056x8x512 : Shape := ⟨3, ![1056, 8, 512]⟩
abbrev S512 : Shape := ⟨1, ![512]⟩
abbrev S1x512 : Shape := ⟨2, ![1, 512]⟩
abbrev S1x64 : Shape := ⟨2, ![1, 64]⟩
abbrev S1 : Shape := ⟨1, ![1]⟩
abbrev S1x1 : Shape := ⟨2, ![1, 1]⟩
abbrev S144x8448 : Shape := ⟨2, ![144, 8448]⟩
abbrev S144x512 : Shape := ⟨2, ![144, 512]⟩
abbrev S256 : Shape := ⟨1, ![256]⟩
abbrev S1x256 : Shape := ⟨2, ![1, 256]⟩
abbrev S256x128 : Shape := ⟨2, ![256, 128]⟩
abbrev S1x256x128 : Shape := ⟨3, ![1, 256, 128]⟩

abbrev nBuf : Space → Nat
  | .hbm => 35
  | .vmem => 13
  | .smem => 0
  | _ => 0

abbrev bufTy : (tb : Table) → Fin (tcTables nBuf tb) → BufTy
  | .hbm, ⟨0, _⟩ => ⟨S4x8x8192x64, .f32⟩
  | .hbm, ⟨1, _⟩ => ⟨S4x8x8192x64, .f32⟩
  | .hbm, ⟨2, _⟩ => ⟨S4x8x8448x64, .f32⟩
  | .hbm, ⟨3, _⟩ => ⟨S4x8x8448x64, .f32⟩
  | .hbm, ⟨4, _⟩ => ⟨S4x8x8448x128, .f32⟩
  | .hbm, ⟨5, _⟩ => ⟨S1x4x64, .f32⟩
  | .hbm, ⟨6, _⟩ => ⟨S1x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x8x8192x128, .f32⟩
  | .hbm, ⟨12, _⟩ => ⟨S4x8x8192x2x2x2x16, .f32⟩
  | .hbm, ⟨13, _⟩ => ⟨S4x8x8192x2x2x2x16, .f32⟩
  | .hbm, ⟨14, _⟩ => ⟨S4x8x8192x128, .f32⟩
  | .hbm, ⟨15, _⟩ => ⟨S4x8x8192x128, .f32⟩
  | .hbm, ⟨16, _⟩ => ⟨S4x8x8192x128, .f32⟩
  | .hbm, ⟨17, _⟩ => ⟨S4x8x128x8192, .f32⟩
  | .hbm, ⟨18, _⟩ => ⟨S4x1024x8192, .f32⟩
  | .hbm, ⟨19, _⟩ => ⟨S4x1024x8192, .bf16⟩
  | .hbm, ⟨20, _⟩ => ⟨S4x8x8448x128, .f32⟩
  | .hbm, ⟨21, _⟩ => ⟨S4x8x8448x2x2x2x16, .f32⟩
  | .hbm, ⟨22, _⟩ => ⟨S4x8x8448x2x2x2x16, .f32⟩
  | .hbm, ⟨23, _⟩ => ⟨S4x8x8448x128, .f32⟩
  | .hbm, ⟨24, _⟩ => ⟨S4x8448x8x128, .f32⟩
  | .hbm, ⟨25, _⟩ => ⟨S4x8448x1024, .f32⟩
  | .hbm, ⟨26, _⟩ => ⟨S4x8448x1024, .bf16⟩
  | .hbm, ⟨27, _⟩ => ⟨S4x8x128x8448, .f32⟩
  | .hbm, ⟨28, _⟩ => ⟨S4x8x128x8448, .bf16⟩
  | .hbm, ⟨29, _⟩ => ⟨S_, .bf16⟩
  | .hbm, ⟨30, _⟩ => ⟨S4x8x16x8448, .bf16⟩
  | .hbm, ⟨31, _⟩ => ⟨S4x8x144x8448, .bf16⟩
  | .hbm, ⟨32, _⟩ => ⟨S4x1152x8448, .bf16⟩
  | .hbm, ⟨33, _⟩ => ⟨S4x64, .f32⟩
  | .hbm, ⟨34, _⟩ => ⟨S4x8192x1024, .bf16⟩
  | .local _ .vmem, ⟨0, _⟩ => ⟨S1x128x8192, .bf16⟩
  | .local _ .vmem, ⟨1, _⟩ => ⟨S1x128x8192, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x144x8448, .bf16⟩
  | .local _ .vmem, ⟨5, _⟩ => ⟨S1x144x8448, .bf16⟩
  | .local _ .vmem, ⟨6, _⟩ => ⟨S4x64, .f32⟩
  | .local _ .vmem, ⟨7, _⟩ => ⟨S1x128, .f32⟩
  | .local _ .vmem, ⟨8, _⟩ => ⟨S1x8192x128, .bf16⟩
  | .local _ .vmem, ⟨9, _⟩ => ⟨S1x8192x128, .bf16⟩
  | .local _ .vmem, ⟨10, _⟩ => ⟨S8448x512, .f32⟩
  | .local _ .vmem, ⟨11, _⟩ => ⟨S8x512, .f32⟩
  | .local _ .vmem, ⟨12, _⟩ => ⟨S8448x512, .bf16⟩
  | _, _ => ⟨S4x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def k0_mult1 : BitVec 32 :=
  let c0_i32_3 : BitVec 32 := 0#32
  c0_i32_3
def k0_mult2 : BitVec 32 :=
  let c256_i32 : BitVec 32 := 256#32
  c256_i32
@[reducible] def k0_t1_loop : Scf.Loop 32 :=
  let c2_i32 : BitVec 32 := 2#32
  let c30_i32 : BitVec 32 := 30#32
  let v68 : BitVec 32 := Scalar.addi c2_i32 c30_i32
  let c1_i32_33 : BitVec 32 := 1#32
  ⟨c2_i32, v68, c1_i32_33⟩
def k0_mult3 (k0_t1 : Fin k0_t1_loop.trips) : BitVec 32 :=
  let c2_i32 : BitVec 32 := 2#32
  let c1_i32_33 : BitVec 32 := 1#32
  let arg11 : BitVec 32 := Scf.iv c2_i32 c1_i32_33 k0_t1
  let c2_i32_82 : BitVec 32 := 2#32
  let v188 : BitVec 32 := Scalar.subi arg11 c2_i32_82
  let c256_i32_101 : BitVec 32 := 256#32
  let v238 : BitVec 32 := Scalar.muli v188 c256_i32_101
  v238
def k0_off1 (k0_t1 : Fin k0_t1_loop.trips) : Fin 3 → Nat :=
  let c0_102 : Index := 0#32
  let c2_i32 : BitVec 32 := 2#32
  let c1_i32_33 : BitVec 32 := 1#32
  let arg11 : BitVec 32 := Scf.iv c2_i32 c1_i32_33 k0_t1
  let c2_i32_82 : BitVec 32 := 2#32
  let v188 : BitVec 32 := Scalar.subi arg11 c2_i32_82
  let c256_i32_101 : BitVec 32 := 256#32
  let v238 : BitVec 32 := Scalar.muli v188 c256_i32_101
  let v239 : BitVec 32 := v238
  let v240 : Index := Scalar.indexCast v239
  let c0_103 : Index := 0#32
  ![0, v240.toNat, 0]
def k0_mult4 (k0_t1 : Fin k0_t1_loop.trips) : BitVec 32 :=
  let c2_i32 : BitVec 32 := 2#32
  let c1_i32_33 : BitVec 32 := 1#32
  let arg11 : BitVec 32 := Scf.iv c2_i32 c1_i32_33 k0_t1
  let c256_i32_111 : BitVec 32 := 256#32
  let v255 : BitVec 32 := Scalar.muli arg11 c256_i32_111
  v255
def k0_off2 (k0_t1 : Fin k0_t1_loop.trips) : Fin 3 → Nat :=
  let c0_112 : Index := 0#32
  let c0_113 : Index := 0#32
  let c2_i32 : BitVec 32 := 2#32
  let c1_i32_33 : BitVec 32 := 1#32
  let arg11 : BitVec 32 := Scf.iv c2_i32 c1_i32_33 k0_t1
  let c256_i32_111 : BitVec 32 := 256#32
  let v255 : BitVec 32 := Scalar.muli arg11 c256_i32_111
  let v256 : BitVec 32 := v255
  let v257 : Index := Scalar.indexCast v256
  ![0, 0, v257.toNat]
def k0_mult5 : BitVec 32 :=
  let c7680_i32 : BitVec 32 := 7680#32
  c7680_i32
def k0_mult6 : BitVec 32 :=
  let c7936_i32 : BitVec 32 := 7936#32
  c7936_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x144x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x8x8192x64 : Shape := ⟨4, ![4, 8, 8192, 64]⟩
abbrev S4x8x8448x64 : Shape := ⟨4, ![4, 8, 8448, 64]⟩
abbrev S4x8x8448x128 : Shape := ⟨4, ![4, 8, 8448, 128]⟩
abbrev S1x4x64 : Shape := ⟨3, ![1, 4, 64]⟩
abbrev S1x128 : Shape := ⟨2, ![1, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S4x8x8192x8448 : Shape := ⟨4, ![4, 8, 8192, 8448]⟩
abbrev S4x8x8192 : Shape := ⟨3, ![4, 8, 8192]⟩
abbrev S4x8x8192x1 : Shape := ⟨4, ![4, 8, 8192, 1]⟩
abbrev S4x8x8192x128 : Shape := ⟨4, ![4, 8, 8192, 128]⟩
abbrev S128 : Shape := ⟨1, ![128]⟩
abbrev S1x1x1x128 : Shape := ⟨4, ![1, 1, 1, 128]⟩
abbrev S4x8192x8x128 : Shape := ⟨4, ![4, 8192, 8, 128]⟩
abbrev S4x8192x1024 : Shape := ⟨3, ![4, 8192, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4x8x8192x64, .f32⟩
  | .hbm, ⟨1, _⟩ => ⟨S4x8x8192x64, .f32⟩
  | .hbm, ⟨2, _⟩ => ⟨S4x8x8448x64, .f32⟩
  | .hbm, ⟨3, _⟩ => ⟨S4x8x8448x64, .f32⟩
  | .hbm, ⟨4, _⟩ => ⟨S4x8x8448x128, .f32⟩
  | .hbm, ⟨5, _⟩ => ⟨S1x4x64, .f32⟩
  | .hbm, ⟨6, _⟩ => ⟨S1x128, .f32⟩
  | .hbm, ⟨7, _⟩ => ⟨S4x64, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x8x8192x64, .f32⟩
  | .hbm, ⟨29, _⟩ => ⟨S4x8x8192x64, .f32⟩
  | .hbm, ⟨30, _⟩ => ⟨S_, .f32⟩
  | .hbm, ⟨31, _⟩ => ⟨S4x8x8192x64, .f32⟩
  | .hbm, ⟨32, _⟩ => ⟨S4x8x8192x64, .f32⟩
  | .hbm, ⟨33, _⟩ => ⟨S4x8x8192x8448, .f32⟩
  | .hbm, ⟨34, _⟩ => ⟨S4x8x8192x8448, .f32⟩
  | .hbm, ⟨35, _⟩ => ⟨S_, .f32⟩
  | .hbm, ⟨36, _⟩ => ⟨S4x8x8192, .f32⟩
  | .hbm, ⟨37, _⟩ => ⟨S_, .f32⟩
  | .hbm, ⟨38, _⟩ => ⟨S4x8x8192, .f32⟩
  | .hbm, ⟨39, _⟩ => ⟨S4x8x8192, .f32⟩
  | .hbm, ⟨40, _⟩ => ⟨S4x8x8192x1, .f32⟩
  | .hbm, ⟨41, _⟩ => ⟨S4x8x8192x8448, .f32⟩
  | .hbm, ⟨42, _⟩ => ⟨S4x8x8192x8448, .f32⟩
  | .hbm, ⟨43, _⟩ => ⟨S4x8x8192x8448, .f32⟩
  | .hbm, ⟨44, _⟩ => ⟨S_, .f32⟩
  | .hbm, ⟨45, _⟩ => ⟨S4x8x8192, .f32⟩
  | .hbm, ⟨46, _⟩ => ⟨S4x8x8192x1, .f32⟩
  | .hbm, ⟨47, _⟩ => ⟨S4x8x8192x8448, .f32⟩
  | .hbm, ⟨48, _⟩ => ⟨S4x8x8192x8448, .f32⟩
  | .hbm, ⟨49, _⟩ => ⟨S_, .f32⟩
  | .hbm, ⟨50, _⟩ => ⟨S4x8x8192, .f32⟩
  | .hbm, ⟨51, _⟩ => ⟨S_, .f32⟩
  | .hbm, ⟨52, _⟩ => ⟨S4x8x8192, .f32⟩
  | .hbm, ⟨53, _⟩ => ⟨S4x8x8192, .f32⟩
  | .hbm, ⟨54, _⟩ => ⟨S4x8x8192x1, .f32⟩
  | .hbm, ⟨55, _⟩ => ⟨S4x8x8192x8448, .f32⟩
  | .hbm, ⟨56, _⟩ => ⟨S4x8x8192x8448, .f32⟩
  | .hbm, ⟨57, _⟩ => ⟨S4x8x8192x8448, .f32⟩
  | .hbm, ⟨58, _⟩ => ⟨S_, .f32⟩
  | .hbm, ⟨59, _⟩ => ⟨S4x8x8192, .f32⟩
  | .hbm, ⟨60, _⟩ => ⟨S4x8x8192x1, .f32⟩
  | .hbm, ⟨61, _⟩ => ⟨S4x8x8192x8448, .f32⟩
  | .hbm, ⟨62, _⟩ => ⟨S4x8x8192x8448, .f32⟩
  | .hbm, ⟨63, _⟩ => ⟨S4x8x8192x8448, .f32⟩
  | .hbm, ⟨64, _⟩ => ⟨S4x8x8192x8448, .f32⟩
  | .hbm, ⟨65, _⟩ => ⟨S4x8x8192x8448, .f32⟩
  | .hbm, ⟨66, _⟩ => ⟨S4x8x8192x128, .f32⟩
  | .hbm, ⟨67, _⟩ => ⟨S128, .f32⟩
  | .hbm, ⟨68, _⟩ => ⟨S4x8x8192x128, .f32⟩
  | .hbm, ⟨69, _⟩ => ⟨S_, .f32⟩
  | .hbm, ⟨70, _⟩ => ⟨S4x8x8192, .f32⟩
  | .hbm, ⟨71, _⟩ => ⟨S4x8x8192x1, .f32⟩
  | .hbm, ⟨72, _⟩ => ⟨S_, .f32⟩
  | .hbm, ⟨73, _⟩ => ⟨S4x8x8192x1, .f32⟩
  | .hbm, ⟨74, _⟩ => ⟨S4x8x8192x1, .f32⟩
  | .hbm, ⟨75, _⟩ => ⟨S_, .f32⟩
  | .hbm, ⟨76, _⟩ => ⟨S4x8x8192x1, .f32⟩
  | .hbm, ⟨77, _⟩ => ⟨S4x8x8192x1, .f32⟩
  | .hbm, ⟨78, _⟩ => ⟨S4x8x8192x1, .f32⟩
  | .hbm, ⟨79, _⟩ => ⟨S4x8x8192x128, .f32⟩
  | .hbm, ⟨80, _⟩ => ⟨S4x8x8192x128, .f32⟩
  | .hbm, ⟨81, _⟩ => ⟨S1x1x1x128, .f32⟩
  | .hbm, ⟨82, _⟩ => ⟨S4x8x8192x128, .f32⟩
  | .hbm, ⟨83, _⟩ => ⟨S4x8x8192x128, .f32⟩
  | .hbm, ⟨84, _⟩ => ⟨S_, .f32⟩
  | .hbm, ⟨85, _⟩ => ⟨S4x8x8192x128, .f32⟩
  | .hbm, ⟨86, _⟩ => ⟨S4x8x8192x128, .f32⟩
  | .hbm, ⟨87, _⟩ => ⟨S4x8192x8x128, .f32⟩
  | .hbm, ⟨88, _⟩ => ⟨S4x8192x1024, .f32⟩
  | .hbm, ⟨89, _⟩ => ⟨S4x8192x1024, .bf16⟩
  | _, _ => ⟨S4x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x6144 : Shape := ⟨2, ![4, 6144]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S8x6144 : Shape := ⟨2, ![8, 6144]⟩
abbrev S8x1x6144 : Shape := ⟨3, ![8, 1, 6144]⟩
abbrev S1024x5632 : Shape := ⟨2, ![1024, 5632]⟩
abbrev S2816x1024 : Shape := ⟨2, ![2816, 1024]⟩
abbrev S1x512x1024 : Shape := ⟨3, ![1, 512, 1024]⟩
abbrev S1x1x6144 : Shape := ⟨3, ![1, 1, 6144]⟩
abbrev S512x1024 : Shape := ⟨2, ![512, 1024]⟩
abbrev S1x6144 : Shape := ⟨2, ![1, 6144]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 14
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S_, .f32⟩
  | .hbm, ⟨6, _⟩ => ⟨S4x6144, .f32⟩
  | .hbm, ⟨7, _⟩ => ⟨S8x6144, .f32⟩
  | .hbm, ⟨8, _⟩ => ⟨S8x1x6144, .f32⟩
  | .hbm, ⟨9, _⟩ => ⟨S1024x5632, .f32⟩
  | .hbm, ⟨10, _⟩ => ⟨S1024x5632, .bf16⟩
  | .hbm, ⟨11, _⟩ => ⟨S2816x1024, .f32⟩
  | .hbm, ⟨12, _⟩ => ⟨S2816x1024, .bf16⟩
  | .hbm, ⟨13, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x8192x1024 : Shape := ⟨3, ![4, 8192, 1024]⟩
abbrev S4x6144 : Shape := ⟨2, ![4, 6144]⟩
abbrev S1x1024 : Shape := ⟨2, ![1, 1024]⟩
abbrev S1x1024x5632 : Shape := ⟨3, ![1, 1024, 5632]⟩
abbrev S1x2816x1024 : Shape := ⟨3, ![1, 2816, 1024]⟩
abbrev S4x1024 : Shape := ⟨2, ![4, 1024]⟩
abbrev S4x1x1024 : Shape := ⟨3, ![4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S1024, .f32⟩
  | .hbm, ⟨18, _⟩ => ⟨S4x8192x1024, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S1024x5632, .f32⟩
  | .hbm, ⟨42, _⟩ => ⟨S2816x1024, .f32⟩
  | .hbm, ⟨43, _⟩ => ⟨S4x8192x5632, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S_, .f32⟩
  | .hbm, ⟨49, _⟩ => ⟨S4x8192x2816, .f32⟩
  | .hbm, ⟨50, _⟩ => ⟨S4x8192x2816, .f32⟩
  | .hbm, ⟨51, _⟩ => ⟨S_, .f32⟩
  | .hbm, ⟨52, _⟩ => ⟨S4x8192x2816, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel3.lean ====
abbrev S4x4x8192x256 : Shape := ⟨4, ![4, 4, 8192, 256]⟩
abbrev S4x8192x1024 : Shape := ⟨3, ![4, 8192, 1024]⟩
abbrev S4x6144 : Shape := ⟨2, ![4, 6144]⟩
abbrev S1x1024 : Shape := ⟨2, ![1, 1024]⟩
abbrev S1x1024x1024 : Shape := ⟨3, ![1, 1024, 1024]⟩
abbrev S_ : Shape := ⟨0, ![]⟩
abbrev S4x8192x4096 : Shape := ⟨3, ![4, 8192, 4096]⟩
abbrev S4x256x4096 : Shape := ⟨3, ![4, 256, 4096]⟩
abbrev S4x8448x4096 : Shape := ⟨3, ![4, 8448, 4096]⟩
abbrev S4x8192x4x256 : Shape := ⟨4, ![4, 8192, 4, 256]⟩
abbrev S4x256x1024 : Shape := ⟨3, ![4, 256, 1024]⟩
abbrev S4x8448x1024 : Shape := ⟨3, ![4, 8448, 1024]⟩
abbrev S8x6144 : Shape := ⟨2, ![8, 6144]⟩
abbrev S8x1x6144 : Shape := ⟨3, ![8, 1, 6144]⟩
abbrev S1024x1024 : Shape := ⟨2, ![1024, 1024]⟩
abbrev S1x512x1024 : Shape := ⟨3, ![1, 512, 1024]⟩
abbrev S1x1x6144 : Shape := ⟨3, ![1, 1, 6144]⟩
abbrev S512x1024 : Shape := ⟨2, ![512, 1024]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩
abbrev S1x6144 : Shape := ⟨2, ![1, 6144]⟩

abbrev nBuf : Space → Nat
  | .hbm => 45
  | .vmem => 22
  | .smem => 0
  | _ => 0

abbrev bufTy : (tb : Table) → Fin (tcTables nBuf tb) → BufTy
  | .hbm, ⟨0, _⟩ => ⟨S4x4x8192x256, .f32⟩
  | .hbm, ⟨1, _⟩ => ⟨S4x4x8192x256, .f32⟩
  | .hbm, ⟨2, _⟩ => ⟨S4x8192x1024, .f32⟩
  | .hbm, ⟨3, _⟩ => ⟨S4x8192x1024, .f32⟩
  | .hbm, ⟨4, _⟩ => ⟨S4x8192x1024, .f32⟩
  | .hbm, ⟨5, _⟩ => ⟨S4x8192x1024, .f32⟩
  | .hbm, ⟨6, _⟩ => ⟨S4x8192x1024, .f32⟩
  | .hbm, ⟨7, _⟩ => ⟨S4x6144, .f32⟩
  | .hbm, ⟨8, _⟩ => ⟨S1x1024, .f32⟩
  | .hbm, ⟨9, _⟩ => ⟨S1x1024x1024, .f32⟩
  | .hbm, ⟨10, _⟩ => ⟨S1x1024x1024, .f32⟩
  | .hbm, ⟨11, _⟩ => ⟨S1x1024x1024, .f32⟩
  | .hbm, ⟨12, _⟩ => ⟨S_, .bf16⟩
  | .hbm, ⟨13, _⟩ => ⟨S4x8192x1024, .bf16⟩
  | .hbm, ⟨14, _⟩ => ⟨S4x8192x1024, .bf16⟩
  | .hbm, ⟨15, _⟩ => ⟨S4x8192x1024, .bf16⟩
  | .hbm, ⟨16, _⟩ => ⟨S4x8192x1024, .bf16⟩
  | .hbm, ⟨17, _⟩ => ⟨S4x8192x4096, .bf16⟩
  | .hbm, ⟨18, _⟩ => ⟨S_, .bf16⟩
  | .hbm, ⟨19, _⟩ => ⟨S4x256x4096, .bf16⟩
  | .hbm, ⟨20, _⟩ => ⟨S4x8448x4096, .bf16⟩
  | .hbm, ⟨21, _⟩ => ⟨S4x8192x4x256, .f32⟩
  | .hbm, ⟨22, _⟩ => ⟨S4x8192x1024, .f32⟩
  | .hbm, ⟨23, _⟩ => ⟨S4x8192x1024, .bf16⟩
  | .hbm, ⟨24, _⟩ => ⟨S_, .bf16⟩
  | .hbm, ⟨25, _⟩ => ⟨S4x256x1024, .bf16⟩
  | .hbm, ⟨26, _⟩ => ⟨S4x8448x1024, .bf16⟩
  | .hbm, ⟨27, _⟩ => ⟨S4x8192x4x256, .f32⟩
  | .hbm, ⟨28, _⟩ => ⟨S4x8192x1024, .f32⟩
  | .hbm, ⟨29, _⟩ => ⟨S4x8192x1024, .bf16⟩
  | .hbm, ⟨30, _⟩ => ⟨S_, .bf16⟩
  | .hbm, ⟨31, _⟩ => ⟨S4x256x1024, .bf16⟩
  | .hbm, ⟨32, _⟩ => ⟨S4x8448x1024, .bf16⟩
  | .hbm, ⟨33, _⟩ => ⟨S4x8192x1024, .bf16⟩
  | .hbm, ⟨34, _⟩ => ⟨S_, .f32⟩
  | .hbm, ⟨35, _⟩ => ⟨S4x6144, .f32⟩
  | .hbm, ⟨36, _⟩ => ⟨S8x6144, .f32⟩
  | .hbm, ⟨37, _⟩ => ⟨S8x1x6144, .f32⟩
  | .hbm, ⟨38, _⟩ => ⟨S1024x1024, .f32⟩
  | .hbm, ⟨39, _⟩ => ⟨S1024x1024, .bf16⟩
  | .hbm, ⟨40, _⟩ => ⟨S1024x1024, .f32⟩
  | .hbm, ⟨41, _⟩ => ⟨S1024x1024, .bf16⟩
  | .hbm, ⟨42, _⟩ => ⟨S1024x1024, .f32⟩
  | .hbm, ⟨43, _⟩ => ⟨S1024x1024, .bf16⟩
  | .hbm, ⟨44, _⟩ => ⟨S4x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x1x6144, .f32⟩
  | .local _ .vmem, ⟨15, _⟩ => ⟨S1x1x6144, .f32⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x512x1024, .f32⟩
  | .local _ .vmem, ⟨21, _⟩ => ⟨S1x512x1024, .f32⟩
  | _, _ => ⟨S4x4x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S4x4x8192x256 : Shape := ⟨4, ![4, 4, 8192, 256]⟩
abbrev S4x8192x1024 : Shape := ⟨3, ![4, 8192, 1024]⟩
abbrev S4x6144 : Shape := ⟨2, ![4, 6144]⟩
abbrev S1x1024 : Shape := ⟨2, ![1, 1024]⟩
abbrev S1x1024x1024 : Shape := ⟨3, ![1, 1024, 1024]⟩
abbrev S4x1024 : Shape := ⟨2, ![4, 1024]⟩
abbrev S4x1x1024 : Shape := ⟨3, ![4, 1, 1024]⟩
abbrev S1024 : Shape := ⟨1, ![1024]⟩
abbrev S4x8192x4x256 : Shape := ⟨4, ![4, 8192, 4, 256]⟩
abbrev S4x256 : Shape := ⟨2, ![4, 256]⟩
abbrev S_ : Shape := ⟨0, ![]⟩
abbrev S4x8192x4 : Shape := ⟨3, ![4, 8192, 4]⟩
abbrev S4x8192x4x1 : Shape := ⟨4, ![4, 8192, 4, 1]⟩
abbrev S1x1x4x256 : Shape := ⟨4, ![1, 1, 4, 256]⟩
abbrev S1024x1024 : Shape := ⟨2, ![1024, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4x4x8192x256, .f32⟩
  | .hbm, ⟨1, _⟩ => ⟨S4x4x8192x256, .f32⟩
  | .hbm, ⟨2, _⟩ => ⟨S4x8192x1024, .f32⟩
  | .hbm, ⟨3, _⟩ => ⟨S4x8192x1024, .f32⟩
  | .hbm, ⟨4, _⟩ => ⟨S4x8192x1024, .f32⟩
  | .hbm, ⟨5, _⟩ => ⟨S4x8192x1024, .f32⟩
  | .hbm, ⟨6, _⟩ => ⟨S4x8192x1024, .f32⟩
  | .hbm, ⟨7, _⟩ => ⟨S4x6144, .f32⟩
  | .hbm, ⟨8, _⟩ => ⟨S1x1024, .f32⟩
  | .hbm, ⟨9, _⟩ => ⟨S1x1024x1024, .f32⟩
  | .hbm, ⟨10, _⟩ => ⟨S1x1024x1024, .f32⟩
  | .hbm, ⟨11, _⟩ => ⟨S1x1024x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x1x1024, .f32⟩
  | .hbm, ⟨23, _⟩ => ⟨S4x1x1024, .f32⟩
  | .hbm, ⟨24, _⟩ => ⟨S4x4x8192x256, .f32⟩
  | .hbm, ⟨25, _⟩ => ⟨S1024, .f32⟩
  | .hbm, ⟨26, _⟩ => ⟨S4x8192x4x256, .f32⟩
  | .hbm, ⟨27, _⟩ => ⟨S4x256, .f32⟩
  | .hbm, ⟨28, _⟩ => ⟨S4x8192x4x256, .f32⟩
  | .hbm, ⟨29, _⟩ => ⟨S_, .f32⟩
  | .hbm, ⟨30, _⟩ => ⟨S4x8192x4, .f32⟩
  | .hbm, ⟨31, _⟩ => ⟨S4x8192x4x1, .f32⟩
  | .hbm, ⟨32, _⟩ => ⟨S_, .f32⟩
  | .hbm, ⟨33, _⟩ => ⟨S4x8192x4x1, .f32⟩
  | .hbm, ⟨34, _⟩ => ⟨S4x8192x4x1, .f32⟩
  | .hbm, ⟨35, _⟩ => ⟨S_, .f32⟩
  | .hbm, ⟨36, _⟩ => ⟨S4x8192x4x1, .f32⟩
  | .hbm, ⟨37, _⟩ => ⟨S4x8192x4x1, .f32⟩
  | .hbm, ⟨38, _⟩ => ⟨S4x8192x4x1, .f32⟩
  | .hbm, ⟨39, _⟩ => ⟨S4x8192x4x256, .f32⟩
  | .hbm, ⟨40, _⟩ => ⟨S4x8192x4x256, .f32⟩
  | .hbm, ⟨41, _⟩ => ⟨S1x1x4x256, .f32⟩
  | .hbm, ⟨42, _⟩ => ⟨S4x8192x4x256, .f32⟩
  | .hbm, ⟨43, _⟩ => ⟨S4x8192x4x256, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S_, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S4x8192x1024, .f32⟩
  | .hbm, ⟨58, _⟩ => ⟨S4x8192x1024, .f32⟩
  | .hbm, ⟨59, _⟩ => ⟨S_, .f32⟩
  | .hbm, ⟨60, _⟩ => ⟨S4x8192x1024, .f32⟩
  | .hbm, ⟨61, _⟩ => ⟨S4x8192x1024, .f32⟩
  | .hbm, ⟨62, _⟩ => ⟨S_, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S_, .f32⟩
  | .hbm, ⟨70, _⟩ => ⟨S4x8192x1024, .f32⟩
  | .hbm, ⟨71, _⟩ => ⟨S4x8192x1024, .f32⟩
  | .hbm, ⟨72, _⟩ => ⟨S_, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | _, _ => ⟨S4x4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_6 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Kernel4.lean ====
abbrev S4x1024 : Shape := ⟨2, ![4, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1024x6144, .f32⟩
  | .hbm, ⟨9, _⟩ => ⟨S6144, .f32⟩
  | .hbm, ⟨10, _⟩ => ⟨S1x6144, .f32⟩
  | .hbm, ⟨11, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x1024 : Shape := ⟨2, ![4, 1024]⟩
abbrev S1024 : Shape := ⟨1, ![1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S4x6144 : Shape := ⟨2, ![4, 6144]⟩
abbrev S6144 : Shape := ⟨1, ![6144]⟩
abbrev S3x6144 : Shape := ⟨2, ![3, 6144]⟩
abbrev S8x6144 : Shape := ⟨2, ![8, 6144]⟩

abbrev nBuf : Space → Nat
  | .hbm => 35
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S1024x6144, .f32⟩
  | .hbm, ⟨14, _⟩ => ⟨S4x6144, .f32⟩
  | .hbm, ⟨15, _⟩ => ⟨S6144, .f32⟩
  | .hbm, ⟨16, _⟩ => ⟨S1x6144, .f32⟩
  | .hbm, ⟨17, _⟩ => ⟨S4x6144, .f32⟩
  | .hbm, ⟨18, _⟩ => ⟨S4x6144, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024x6144, .f32⟩
  | .hbm, ⟨29, _⟩ => ⟨S6144, .f32⟩
  | .hbm, ⟨30, _⟩ => ⟨S6144, .f32⟩
  | .hbm, ⟨31, _⟩ => ⟨S6144, .f32⟩
  | .hbm, ⟨32, _⟩ => ⟨S3x6144, .f32⟩
  | .hbm, ⟨33, _⟩ => ⟨S1x6144, .f32⟩
  | .hbm, ⟨34, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x256x1024 : Shape := ⟨3, ![4, 256, 1024]⟩
abbrev S4x6144 : Shape := ⟨2, ![4, 6144]⟩
abbrev S1x6144 : Shape := ⟨2, ![1, 6144]⟩
abbrev S1x1024 : Shape := ⟨2, ![1, 1024]⟩
abbrev S1x1024x8208 : Shape := ⟨3, ![1, 1024, 8208]⟩
abbrev S1x16 : Shape := ⟨2, ![1, 16]⟩
abbrev S1x5x1024 : Shape := ⟨3, ![1, 5, 1024]⟩
abbrev S1x64 : Shape := ⟨2, ![1, 64]⟩
abbrev S1024 : Shape := ⟨1, ![1024]⟩
abbrev S128 : Shape := ⟨1, ![128]⟩
abbrev S1x128 : Shape := ⟨2, ![1, 128]⟩
abbrev S1024x8208 : Shape := ⟨2, ![1024, 8208]⟩
abbrev S1024x3072 : Shape := ⟨2, ![1024, 3072]⟩
abbrev S1024x2048 : Shape := ⟨2, ![1024, 2048]⟩
abbrev S1024x1024 : Shape := ⟨2, ![1024, 1024]⟩
abbrev S_ : Shape := ⟨0, ![]⟩
abbrev S1024x1 : Shape := ⟨2, ![1024, 1]⟩
abbrev S1024x16 : Shape := ⟨2, ![1024, 16]⟩
abbrev S1024x128 : Shape := ⟨2, ![1024, 128]⟩
abbrev S1024x256 : Shape := ⟨2, ![1024, 256]⟩
abbrev S16 : Shape := ⟨1, ![16]⟩
abbrev S5x1024 : Shape := ⟨2, ![5, 1024]⟩
abbrev S8x1024 : Shape := ⟨2, ![8, 1024]⟩
abbrev S64 : Shape := ⟨1, ![64]⟩
abbrev S128x1 : Shape := ⟨2, ![128, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8192 : Shape := ⟨1, ![8192]⟩
abbrev S8192x1 : Shape := ⟨2, ![8192, 1]⟩
abbrev S8192x128 : Shape := ⟨2, ![8192, 128]⟩
abbrev S256x128 : Shape := ⟨2, ![256, 128]⟩
abbrev S8448x128 : Shape := ⟨2, ![8448, 128]⟩
abbrev S3x6144 : Shape := ⟨2, ![3, 6144]⟩
abbrev S8x6144 : Shape := ⟨2, ![8, 6144]⟩
abbrev S8x1x6144 : Shape := ⟨3, ![8, 1, 6144]⟩
abbrev S4x8448x1024 : Shape := ⟨3, ![4, 8448, 1024]⟩
abbrev S4x8448x4096 : Shape := ⟨3, ![4, 8448, 4096]⟩
abbrev S4x1024x8448 : Shape := ⟨3, ![4, 1024, 8448]⟩
abbrev S4x1152x8448 : Shape := ⟨3, ![4, 1152, 8448]⟩
abbrev S4x8448x128 : Shape := ⟨3, ![4, 8448, 128]⟩
abbrev S4x33x16x256 : Shape := ⟨4, ![4, 33, 16, 256]⟩
abbrev S1x256x1024 : Shape := ⟨3, ![1, 256, 1024]⟩
abbrev S1x8x1024 : Shape := ⟨3, ![1, 8, 1024]⟩
abbrev S1x1x6144 : Shape := ⟨3, ![1, 1, 6144]⟩
abbrev S1x256x4096 : Shape := ⟨3, ![1, 256, 4096]⟩
abbrev S1x1024x256 : Shape := ⟨3, ![1, 1024, 256]⟩
abbrev S1x1152x256 : Shape := ⟨3, ![1, 1152, 256]⟩
abbrev S1x256x128 : Shape := ⟨3, ![1, 256, 128]⟩
abbrev S1x1x16x256 : Shape := ⟨4, ![1, 1, 16, 256]⟩
abbrev S272x1024 : Shape := ⟨2, ![272, 1024]⟩
abbrev S256x1024 : Shape := ⟨2, ![256, 1024]⟩
abbrev S16x1024 : Shape := ⟨2, ![16, 1024]⟩
abbrev S16x1 : Shape := ⟨2, ![16, 1]⟩
abbrev S16x256 : Shape := ⟨2, ![16, 256]⟩
abbrev S128x256 : Shape := ⟨2, ![128, 256]⟩
abbrev S1x128x256 : Shape := ⟨3, ![1, 128, 256]⟩
abbrev S1x16x256 : Shape := ⟨3, ![1, 16, 256]⟩
abbrev S1x256x256 : Shape := ⟨3, ![1, 256, 256]⟩

abbrev nBuf : Space → Nat
  | .hbm => 232
  | .vmem => 46
  | .smem => 0
  | _ => 0

abbrev hbmTy0_0 (i : Nat) : BufTy := match i % 128 with
  | 0 => ⟨S4x8192x1024, .f32⟩
  | 1 => ⟨S4x256x1024, .f32⟩
  | 2 => ⟨S4x6144, .f32⟩
  | 3 => ⟨S1x6144, .f32⟩
  | 4 => ⟨S1x1024, .f32⟩
  | 5 => ⟨S1x1024x8208, .f32⟩
  | 6 => ⟨S1x16, .f32⟩
  | 7 => ⟨S1x5x1024, .f32⟩
  | 8 => ⟨S1x1024, .f32⟩
  | 9 => ⟨S1x64, .f32⟩
  | 10 => ⟨S1x64, .f32⟩
  | 11 => ⟨S1024, .i32⟩
  | 12 => ⟨S1024, .i1⟩
  | 13 => ⟨S1024, .i1⟩
  | 14 => ⟨S128, .i32⟩
  | 15 => ⟨S128, .i1⟩
  | 16 => ⟨S128, .i32⟩
  | 17 => ⟨S128, .i1⟩
  | 18 => ⟨S1x128, .i1⟩
  | 19 => ⟨S128, .f32⟩
  | 20 => ⟨S1x128, .f32⟩
  | 21 => ⟨S128, .i1⟩
  | 22 => ⟨S1024x8208, .f32⟩
  | 23 => ⟨S1024x3072, .f32⟩
  | 24 => ⟨S1024x3072, .bf16⟩
  | 25 => ⟨S1024x8208, .f32⟩
  | 26 => ⟨S1024x2048, .f32⟩
  | 27 => ⟨S1024x2048, .bf16⟩
  | 28 => ⟨S1024x8208, .f32⟩
  | 29 => ⟨S1024x1024, .f32⟩
  | 30 => ⟨S1024x1024, .bf16⟩
  | 31 => ⟨S_, .i32⟩
  | 32 => ⟨S1024, .i32⟩
  | 33 => ⟨S1024, .i32⟩
  | 34 => ⟨S1024, .i32⟩
  | 35 => ⟨S1024x1, .i32⟩
  | 36 => ⟨S1024x1024, .bf16⟩
  | 37 => ⟨S1024x8208, .f32⟩
  | 38 => ⟨S1024x1024, .f32⟩
  | 39 => ⟨S1024x1024, .bf16⟩
  | 40 => ⟨S_, .i32⟩
  | 41 => ⟨S1024, .i32⟩
  | 42 => ⟨S1024, .i32⟩
  | 43 => ⟨S1024, .i32⟩
  | 44 => ⟨S1024x1, .i32⟩
  | 45 => ⟨S1024x1024, .bf16⟩
  | 46 => ⟨S1024x8208, .f32⟩
  | 47 => ⟨S1024x1024, .f32⟩
  | 48 => ⟨S1024x1024, .bf16⟩
  | 49 => ⟨S1024x3072, .bf16⟩
  | 50 => ⟨S1024x8208, .f32⟩
  | 51 => ⟨S1024x16, .f32⟩
  | 52 => ⟨S_, .i32⟩
  | 53 => ⟨S_, .f32⟩
  | 54 => ⟨S1024x128, .f32⟩
  | 55 => ⟨S1024x128, .bf16⟩
  | 56 => ⟨S1024x128, .f32⟩
  | 57 => ⟨S1024x128, .f32⟩
  | 58 => ⟨S1024x128, .bf16⟩
  | 59 => ⟨S1024x256, .bf16⟩
  | 60 => ⟨S16, .f32⟩
  | 61 => ⟨S_, .i32⟩
  | 62 => ⟨S_, .f32⟩
  | 63 => ⟨S128, .f32⟩
  | 64 => ⟨S1x128, .f32⟩
  | 65 => ⟨S5x1024, .f32⟩
  | 66 => ⟨S_, .i32⟩
  | 67 => ⟨S_, .f32⟩
  | 68 => ⟨S8x1024, .f32⟩
  | 69 => ⟨S64, .f32⟩
  | 70 => ⟨S_, .i32⟩
  | 71 => ⟨S128, .i32⟩
  | 72 => ⟨S128, .i32⟩
  | 73 => ⟨S128, .i32⟩
  | 74 => ⟨S128x1, .i32⟩
  | 75 => ⟨S128, .f32⟩
  | 76 => ⟨S1x128, .f32⟩
  | 77 => ⟨S64, .f32⟩
  | 78 => ⟨S_, .i32⟩
  | 79 => ⟨S128, .i32⟩
  | 80 => ⟨S128, .i32⟩
  | 81 => ⟨S128, .i32⟩
  | 82 => ⟨S128x1, .i32⟩
  | 83 => ⟨S128, .f32⟩
  | 84 => ⟨S1x128, .f32⟩
  | 85 => ⟨S256, .i32⟩
  | 86 => ⟨S_, .i32⟩
  | 87 => ⟨S_, .i32⟩
  | 88 => ⟨S256, .i32⟩
  | 89 => ⟨S256, .i32⟩
  | 90 => ⟨S256, .i32⟩
  | 91 => ⟨S_, .i32⟩
  | 92 => ⟨S256, .i32⟩
  | 93 => ⟨S256, .i1⟩
  | 94 => ⟨S256, .i32⟩
  | 95 => ⟨S256, .i32⟩
  | 96 => ⟨S_, .i32⟩
  | 97 => ⟨S256, .i32⟩
  | 98 => ⟨S256, .i1⟩
  | 99 => ⟨S256, .i1⟩
  | 100 => ⟨S_, .i32⟩
  | 101 => ⟨S256, .i32⟩
  | 102 => ⟨S256, .i32⟩
  | 103 => ⟨S256, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S256, .i32⟩
  | 111 => ⟨S256, .i32⟩
  | 112 => ⟨S_, .i32⟩
  | 113 => ⟨S256, .i32⟩
  | 114 => ⟨S256, .i1⟩
  | 115 => ⟨S_, .i32⟩
  | 116 => ⟨S256, .i32⟩
  | 117 => ⟨S256, .i1⟩
  | 118 => ⟨S_, .i32⟩
  | 119 => ⟨S_, .i1⟩
  | 120 => ⟨S256, .i1⟩
  | 121 => ⟨S256, .i1⟩
  | 122 => ⟨S256, .i1⟩
  | 123 => ⟨S256, .i32⟩
  | 124 => ⟨S256, .i32⟩
  | 125 => ⟨S256, .i32⟩
  | 126 => ⟨S_, .i32⟩
  | 127 => ⟨S_, .i32⟩
  | _ => ⟨S4x8192x1024, .f32⟩

abbrev hbmTy0_1 (i : Nat) : BufTy := match i % 128 with
  | 0 => ⟨S256, .i32⟩
  | 1 => ⟨S256, .i32⟩
  | 2 => ⟨S256, .i32⟩
  | 3 => ⟨S_, .i32⟩
  | 4 => ⟨S256, .i32⟩
  | 5 => ⟨S256, .i1⟩
  | 6 => ⟨S256, .i32⟩
  | 7 => ⟨S256, .i32⟩
  | 8 => ⟨S_, .i32⟩
  | 9 => ⟨S256, .i32⟩
  | 10 => ⟨S256, .i1⟩
  | 11 => ⟨S256, .i1⟩
  | 12 => ⟨S_, .i32⟩
  | 13 => ⟨S256, .i32⟩
  | 14 => ⟨S256, .i32⟩
  | 15 => ⟨S256, .i32⟩
  | 16 => ⟨S_, .i32⟩
  | 17 => ⟨S256, .i32⟩
  | 18 => ⟨S256, .i32⟩
  | 19 => ⟨S256, .i32⟩
  | 20 => ⟨S256x1, .i32⟩
  | 21 => ⟨S1x256, .i32⟩
  | 22 => ⟨S256x256, .i32⟩
  | 23 => ⟨S256x256, .i32⟩
  | 24 => ⟨S256x256, .i1⟩
  | 25 => ⟨S256x256, .bf16⟩
  | 26 => ⟨S8192, .i32⟩
  | 27 => ⟨S_, .i32⟩
  | 28 => ⟨S_, .i32⟩
  | 29 => ⟨S8192, .i32⟩
  | 30 => ⟨S8192, .i32⟩
  | 31 => ⟨S8192, .i32⟩
  | 32 => ⟨S_, .i32⟩
  | 33 => ⟨S8192, .i32⟩
  | 34 => ⟨S8192, .i1⟩
  | 35 => ⟨S8192, .i32⟩
  | 36 => ⟨S8192, .i32⟩
  | 37 => ⟨S_, .i32⟩
  | 38 => ⟨S8192, .i32⟩
  | 39 => ⟨S8192, .i1⟩
  | 40 => ⟨S8192, .i1⟩
  | 41 => ⟨S_, .i32⟩
  | 42 => ⟨S8192, .i32⟩
  | 43 => ⟨S8192, .i32⟩
  | 44 => ⟨S8192, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S8192, .i32⟩
  | 52 => ⟨S8192, .i32⟩
  | 53 => ⟨S_, .i32⟩
  | 54 => ⟨S8192, .i32⟩
  | 55 => ⟨S8192, .i1⟩
  | 56 => ⟨S_, .i32⟩
  | 57 => ⟨S8192, .i32⟩
  | 58 => ⟨S8192, .i1⟩
  | 59 => ⟨S_, .i32⟩
  | 60 => ⟨S_, .i1⟩
  | 61 => ⟨S8192, .i1⟩
  | 62 => ⟨S8192, .i1⟩
  | 63 => ⟨S8192, .i1⟩
  | 64 => ⟨S8192, .i32⟩
  | 65 => ⟨S8192, .i32⟩
  | 66 => ⟨S8192, .i32⟩
  | 67 => ⟨S8192x1, .i32⟩
  | 68 => ⟨S8192x1, .i32⟩
  | 69 => ⟨S8192x128, .i1⟩
  | 70 => ⟨S8192x128, .i32⟩
  | 71 => ⟨S8192x128, .i32⟩
  | 72 => ⟨S8192x128, .i32⟩
  | 73 => ⟨S8192x128, .f32⟩
  | 74 => ⟨S8192x128, .f32⟩
  | 75 => ⟨S8192x128, .f32⟩
  | 76 => ⟨S8192x128, .f32⟩
  | 77 => ⟨S_, .f32⟩
  | 78 => ⟨S256x128, .f32⟩
  | 79 => ⟨S8448x128, .f32⟩
  | 80 => ⟨S8192x128, .f32⟩
  | 81 => ⟨S_, .f32⟩
  | 82 => ⟨S_, .f32⟩
  | 83 => ⟨S128, .f32⟩
  | 84 => ⟨S128, .f32⟩
  | 85 => ⟨S128, .f32⟩
  | 86 => ⟨S1x128, .f32⟩
  | 87 => ⟨S1x128, .f32⟩
  | 88 => ⟨S8192x128, .f32⟩
  | 89 => ⟨S8192x128, .f32⟩
  | 90 => ⟨S_, .f32⟩
  | 91 => ⟨S256x128, .f32⟩
  | 92 => ⟨S8448x128, .f32⟩
  | 93 => ⟨S_, .f32⟩
  | 94 => ⟨S3x6144, .f32⟩
  | 95 => ⟨S8x6144, .f32⟩
  | 96 => ⟨S8x1x6144, .f32⟩
  | 97 => ⟨S4x8448x1024, .bf16⟩
  | 98 => ⟨S4x8448x4096, .bf16⟩
  | 99 => ⟨S4x1024x8448, .bf16⟩
  | 100 => ⟨S4x8448x1024, .bf16⟩
  | 101 => ⟨S4x1152x8448, .bf16⟩
  | 102 => ⟨S4x8448x128, .f32⟩
  | 103 => ⟨S4x33x16x256, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1x6144, .f32⟩
  | .local _ .vmem, ⟨9, _⟩ => ⟨S1x1x6144, .f32⟩
  | .local _ .vmem, ⟨10, _⟩ => ⟨S1x1024, .f32⟩
  | .local _ .vmem, ⟨11, _⟩ => ⟨S1024x3072, .bf16⟩
  | .local _ .vmem, ⟨12, _⟩ => ⟨S1024x2048, .bf16⟩
  | .local _ .vmem, ⟨13, _⟩ => ⟨S1024x3072, .bf16⟩
  | .local _ .vmem, ⟨14, _⟩ => ⟨S1024x256, .bf16⟩
  | .local _ .vmem, ⟨15, _⟩ => ⟨S1x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S1x128, .f32⟩
  | .local _ .vmem, ⟨21, _⟩ => ⟨S1x128, .f32⟩
  | .local _ .vmem, ⟨22, _⟩ => ⟨S256x256, .bf16⟩
  | .local _ .vmem, ⟨23, _⟩ => ⟨S8x1024, .f32⟩
  | .local _ .vmem, ⟨24, _⟩ => ⟨S1x1024, .f32⟩
  | .local _ .vmem, ⟨25, _⟩ => ⟨S1x256x1024, .bf16⟩
  | .local _ .vmem, ⟨26, _⟩ => ⟨S1x256x1024, .bf16⟩
  | .local _ .vmem, ⟨27, _⟩ => ⟨S1x256x4096, .bf16⟩
  | .local _ .vmem, ⟨28, _⟩ => ⟨S1x256x4096, .bf16⟩
  | .local _ .vmem, ⟨29, _⟩ => ⟨S1x1024x256, .bf16⟩
  | .local _ .vmem, ⟨30, _⟩ => ⟨S1x1024x256, .bf16⟩
  | .local _ .vmem, ⟨31, _⟩ => ⟨S1x256x1024, .bf16⟩
  | .local _ .vmem, ⟨32, _⟩ => ⟨S1x256x1024, .bf16⟩
  | .local _ .vmem, ⟨33, _⟩ => ⟨S1x1152x256, .bf16⟩
  | .local _ .vmem, ⟨34, _⟩ => ⟨S1x1152x256, .bf16⟩
  | .local _ .vmem, ⟨35, _⟩ => ⟨S1x256x128, .f32⟩
  | .local _ .vmem, ⟨36, _⟩ => ⟨S1x256x128, .f32⟩
  | .local _ .vmem, ⟨37, _⟩ => ⟨S1x1x16x256, .f32⟩
  | .local _ .vmem, ⟨38, _⟩ => ⟨S1x1x16x256, .f32⟩
  | .local _ .vmem, ⟨39, _⟩ => ⟨S272x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S256x128, .f32⟩
  | .local _ .vmem, ⟨44, _⟩ => ⟨S272x1024, .bf16⟩
  | .local _ .vmem, ⟨45, _⟩ => ⟨S256x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_c_4 : Ref sig .tc := ⟨.hbm, 16, rfl⟩
abbrev main_c_5 : Ref sig .tc := ⟨.hbm, 17, rfl⟩
abbrev main_c_6 : Ref sig .tc := ⟨.hbm, 18, rfl⟩
abbrev main_cst : Ref sig .tc := ⟨.hbm, 19, rfl⟩
abbrev main_v0 : Ref sig .tc := ⟨.hbm, 20, rfl⟩
abbrev main_c_7 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_8 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_9 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_10 : Ref sig .tc := ⟨.hbm, 52, rfl⟩
abbrev main_call0_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_11 : Ref sig .tc := ⟨.hbm, 61, rfl⟩
abbrev main_call1_v0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_12 : Ref sig .tc := ⟨.hbm, 66, rfl⟩
abbrev main_call2_v0 : Ref sig .tc := ⟨.hbm, 67, rfl⟩
abbrev main_v39 : Ref sig .tc := ⟨.hbm, 68, rfl⟩
abbrev main_v40 : Ref sig .tc := ⟨.hbm, 69, rfl⟩
abbrev main_c_13 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_14 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_15 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_c : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_0 : Ref sig .tc := ⟨.hbm, 100, rfl⟩
abbrev main_call3_v12 : Ref sig .tc := ⟨.hbm, 101, rfl⟩
abbrev main_call3_v13 : Ref sig .tc := ⟨.hbm, 102, rfl⟩
abbrev main_v55 : Ref sig .tc := ⟨.hbm, 103, rfl⟩
abbrev main_c_16 : Ref sig .tc := ⟨.hbm, 104, rfl⟩
abbrev main_call4_v0 : Ref sig .tc := ⟨.hbm, 105, rfl⟩
abbrev main_call4_c : Ref sig .tc := ⟨.hbm, 106, rfl⟩
abbrev main_call4_v1 : Ref sig .tc := ⟨.hbm, 107, rfl⟩
abbrev main_call4_c_0 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_call4_c_1 : Ref sig .tc := ⟨.hbm, 112, rfl⟩
abbrev main_call4_v5 : Ref sig .tc := ⟨.hbm, 113, rfl⟩
abbrev main_call4_v6 : Ref sig .tc := ⟨.hbm, 114, rfl⟩
abbrev main_call4_c_2 : Ref sig .tc := ⟨.hbm, 115, rfl⟩
abbrev main_call4_v7 : Ref sig .tc := ⟨.hbm, 116, rfl⟩
abbrev main_call4_v8 : Ref sig .tc := ⟨.hbm, 117, rfl⟩
abbrev main_call4_c_3 : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_v12 : Ref sig .tc := ⟨.hbm, 122, rfl⟩
abbrev main_call4_v13 : Ref sig .tc := ⟨.hbm, 123, rfl⟩
abbrev main_call4_v14 : Ref sig .tc := ⟨.hbm, 124, rfl⟩
abbrev main_v56 : Ref sig .tc := ⟨.hbm, 125, rfl⟩
abbrev main_c_17 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_call5_v5 : Ref sig .tc := ⟨.hbm, 132, rfl⟩
abbrev main_call5_v6 : Ref sig .tc := ⟨.hbm, 133, rfl⟩
abbrev main_call5_v7 : Ref sig .tc := ⟨.hbm, 134, rfl⟩
abbrev main_call5_v8 : Ref sig .tc := ⟨.hbm, 135, rfl⟩
abbrev main_call5_c : Ref sig .tc := ⟨.hbm, 136, rfl⟩
abbrev main_call5_v9 : Ref sig .tc := ⟨.hbm, 137, rfl⟩
abbrev main_call5_v10 : Ref sig .tc := ⟨.hbm, 138, rfl⟩
abbrev main_call5_v11 : Ref sig .tc := ⟨.hbm, 139, rfl⟩
abbrev main_call5_c_0 : Ref sig .tc := ⟨.hbm, 140, rfl⟩
abbrev main_call5_v12 : Ref sig .tc := ⟨.hbm, 141, rfl⟩
abbrev main_call5_v13 : Ref sig .tc := ⟨.hbm, 142, rfl⟩
abbrev main_v57 : Ref sig .tc := ⟨.hbm, 143, rfl⟩
abbrev main_c_18 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_c_19 : Ref sig .tc := ⟨.hbm, 155, rfl⟩
abbrev main_call6_v0 : Ref sig .tc := ⟨.hbm, 156, rfl⟩
abbrev main_call6_v1 : Ref sig .tc := ⟨.hbm, 157, rfl⟩
abbrev main_call6_v2 : Ref sig .tc := ⟨.hbm, 158, rfl⟩
abbrev main_call6_v3 : Ref sig .tc := ⟨.hbm, 159, rfl⟩
abbrev main_call6_v4 : Ref sig .tc := ⟨.hbm, 160, rfl⟩
abbrev main_call6_v5 : Ref sig .tc := ⟨.hbm, 161, rfl⟩
abbrev main_call6_v6 : Ref sig .tc := ⟨.hbm, 162, rfl⟩
abbrev main_call6_v7 : Ref sig .tc := ⟨.hbm, 163, rfl⟩
abbrev main_call6_v8 : Ref sig .tc := ⟨.hbm, 164, rfl⟩
abbrev main_call6_c : Ref sig .tc := ⟨.hbm, 165, rfl⟩
abbrev main_call6_v9 : Ref sig .tc := ⟨.hbm, 166, rfl⟩
abbrev main_call6_v10 : Ref sig .tc := ⟨.hbm, 167, rfl⟩
abbrev main_call6_v11 : Ref sig .tc := ⟨.hbm, 168, rfl⟩
abbrev main_call6_c_0 : Ref sig .tc := ⟨.hbm, 169, rfl⟩
abbrev main_call6_v12 : Ref sig .tc := ⟨.hbm, 170, rfl⟩
abbrev main_call6_v13 : Ref sig .tc := ⟨.hbm, 171, rfl⟩
abbrev main_v68 : Ref sig .tc := ⟨.hbm, 172, rfl⟩
abbrev main_c_20 : Ref sig .tc := ⟨.hbm, 173, rfl⟩
abbrev main_call7_v0 : Ref sig .tc := ⟨.hbm, 174, rfl⟩
abbrev main_call7_c : Ref sig .tc := ⟨.hbm, 175, rfl⟩
abbrev main_call7_v1 : Ref sig .tc := ⟨.hbm, 176, rfl⟩
abbrev main_call7_c_0 : Ref sig .tc := ⟨.hbm, 177, rfl⟩
abbrev main_call7_v2 : Ref sig .tc := ⟨.hbm, 178, rfl⟩
abbrev main_call7_v3 : Ref sig .tc := ⟨.hbm, 179, rfl⟩
abbrev main_call7_v4 : Ref sig .tc := ⟨.hbm, 180, rfl⟩
abbrev main_call7_c_1 : Ref sig .tc := ⟨.hbm, 181, rfl⟩
abbrev main_call7_v5 : Ref sig .tc := ⟨.hbm, 182, rfl⟩
abbrev main_call7_v6 : Ref sig .tc := ⟨.hbm, 183, rfl⟩
abbrev main_call7_c_2 : Ref sig .tc := ⟨.hbm, 184, rfl⟩
abbrev main_call7_v7 : Ref sig .tc := ⟨.hbm, 185, rfl⟩
abbrev main_call7_v8 : Ref sig .tc := ⟨.hbm, 186, rfl⟩
abbrev main_call7_c_3 : Ref sig .tc := ⟨.hbm, 187, rfl⟩
abbrev main_call7_v9 : Ref sig .tc := ⟨.hbm, 188, rfl⟩
abbrev main_call7_v10 : Ref sig .tc := ⟨.hbm, 189, rfl⟩
abbrev main_call7_v11 : Ref sig .tc := ⟨.hbm, 190, rfl⟩
abbrev main_call7_v12 : Ref sig .tc := ⟨.hbm, 191, rfl⟩
abbrev main_call7_v13 : Ref sig .tc := ⟨.hbm, 192, rfl⟩
abbrev main_call7_v14 : Ref sig .tc := ⟨.hbm, 193, rfl⟩
abbrev main_v69 : Ref sig .tc := ⟨.hbm, 194, rfl⟩
abbrev main_v70 : Ref sig .tc := ⟨.hbm, 195, rfl⟩
abbrev main_v71 : Ref sig .tc := ⟨.hbm, 196, rfl⟩
abbrev main_call8_v0 : Ref sig .tc := ⟨.hbm, 197, rfl⟩
abbrev main_call8_v1 : Ref sig .tc := ⟨.hbm, 198, rfl⟩
abbrev main_call8_v2 : Ref sig .tc := ⟨.hbm, 199, rfl⟩
abbrev main_v72 : Ref sig .tc := ⟨.hbm, 200, rfl⟩
abbrev main_v73 : Ref sig .tc := ⟨.hbm, 201, rfl⟩
abbrev main_v74 : Ref sig .tc := ⟨.hbm, 202, rfl⟩
abbrev main_v75 : Ref sig .tc := ⟨.hbm, 203, rfl⟩
abbrev main_v76 : Ref sig .tc := ⟨.hbm, 204, rfl⟩
abbrev main_cst_21 : Ref sig .tc := ⟨.hbm, 205, rfl⟩
abbrev main_v77 : Ref sig .tc := ⟨.hbm, 206, rfl⟩
abbrev main_v78 : Ref sig .tc := ⟨.hbm, 207, rfl⟩
abbrev main_v79 : Ref sig .tc := ⟨.hbm, 208, rfl⟩
abbrev main_cst_22 : Ref sig .tc := ⟨.hbm, 209, rfl⟩
abbrev main_cst_23 : Ref sig .tc := ⟨.hbm, 210, rfl⟩
abbrev main_call9_v0 : Ref sig .tc := ⟨.hbm, 211, rfl⟩
abbrev main_call9_v1 : Ref sig .tc := ⟨.hbm, 212, rfl⟩
abbrev main_v80 : Ref sig .tc := ⟨.hbm, 213, rfl⟩
abbrev main_v81 : Ref sig .tc := ⟨.hbm, 214, rfl⟩
abbrev main_v82 : Ref sig .tc := ⟨.hbm, 215, rfl⟩
abbrev main_v83 : Ref sig .tc := ⟨.hbm, 216, rfl⟩
abbrev main_v84 : Ref sig .tc := ⟨.hbm, 217, rfl⟩
abbrev main_cst_24 : Ref sig .tc := ⟨.hbm, 218, rfl⟩
abbrev main_v85 : Ref sig .tc := ⟨.hbm, 219, rfl⟩
abbrev main_v86 : Ref sig .tc := ⟨.hbm, 220, rfl⟩
abbrev main_cst_25 : Ref sig .tc := ⟨.hbm, 221, rfl⟩
abbrev main_v87 : Ref sig .tc := ⟨.hbm, 222, rfl⟩
abbrev main_v88 : Ref sig .tc := ⟨.hbm, 223, rfl⟩
abbrev main_v89 : Ref sig .tc := ⟨.hbm, 224, rfl⟩
abbrev main_v90_0 : Ref sig .tc := ⟨.hbm, 225, rfl⟩
abbrev main_v90_1 : Ref sig .tc := ⟨.hbm, 226, rfl⟩
abbrev main_v90_2 : Ref sig .tc := ⟨.hbm, 227, rfl⟩
abbrev main_v90_3 : Ref sig .tc := ⟨.hbm, 228, rfl⟩
abbrev main_v90_4 : Ref sig .tc := ⟨.hbm, 229, rfl⟩
abbrev main_v90_5 : Ref sig .tc := ⟨.hbm, 230, rfl⟩
abbrev main_v90_6 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_scratch4 : Ref sig .tc := ⟨.vmem, 43, rfl⟩
abbrev cc0_scratch5 : Ref sig .tc := ⟨.vmem, 44, rfl⟩
abbrev cc0_scratch6 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38

abbrev nD : Nat := 1
abbrev τ : Topo := Topo.v7x

variable {F : FTy → Type} [FloatOps F]

abbrev grid0 : Pipeline.Grid := ⟨1, ![133], ![false]⟩

def cc0_transform_0 (i : grid0.Coords) : Fin 3 → Nat :=
  let arg0 : BitVec 32 := BitVec.ofNat 32 (i 0).val
  let c131_i32 : BitVec 32 := 131#32
  let v0 : BitVec 32 := Scalar.minsi arg0 c131_i32
  let c33_i32 : BitVec 32 := 33#32
  let v1 : BitVec 32 := Scalar.divsi v0 c33_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c33_i32 c0_i32_1
  let v8 : BitVec 32 := Scalar.extui v7
  let c0_i32_2 : BitVec 32 := 0#32
  let v9 : BitVec 1 := Scalar.cmpi .slt c33_i32 c0_i32_2
  let v10 : BitVec 32 := Scalar.extui v9
  let v11 : BitVec 32 := Scalar.subi v8 v10
  let v12 : BitVec 1 := Scalar.cmpi .ne v6 v11
  let v13 : BitVec 32 := Scalar.remsi v0 c33_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c33_i32_4 : BitVec 32 := 33#32
  let c0_i32_5 : BitVec 32 := 0#32
  let v18 : BitVec 1 := Scalar.cmpi .eq c33_i32_4 c0_i32_5
  let c1_i32_6 : BitVec 32 := 1#32
  let v19 : BitVec 32 := Scalar.select v18 c1_i32_6 c33_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c131_i32_10 : BitVec 32 := 131#32
  let v28 : BitVec 32 := Scalar.minsi arg0 c131_i32_10
  let c33_i32_11 : BitVec 32 := 33#32
  let v29 : BitVec 32 := Scalar.divsi v28 c33_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c33_i32_11 c0_i32_14
  let v36 : BitVec 32 := Scalar.extui v35
  let c0_i32_15 : BitVec 32 := 0#32
  let v37 : BitVec 1 := Scalar.cmpi .slt c33_i32_11 c0_i32_15
  let v38 : BitVec 32 := Scalar.extui v37
  let v39 : BitVec 32 := Scalar.subi v36 v38
  let v40 : BitVec 1 := Scalar.cmpi .ne v34 v39
  let v41 : BitVec 32 := Scalar.remsi v28 c33_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c33_i32_18 : BitVec 32 := 33#32
  let c0_i32_19 : BitVec 32 := 0#32
  let v46 : BitVec 1 := Scalar.cmpi .eq c33_i32_18 c0_i32_19
  let c1_i32_20 : BitVec 32 := 1#32
  let v47 : BitVec 32 := Scalar.select v46 c1_i32_20 c33_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c31_i32 : BitVec 32 := 31#32
  let v56 : BitVec 32 := Scalar.minsi v55 c31_i32
  let c0_i32_24 : BitVec 32 := 0#32
  let c0_i32_25 : BitVec 32 := 0#32
  ![v17.toNat, v56.toNat, c0_i32_24.toNat]

def cc0_transform_1 (i : grid0.Coords) : Fin 3 → Nat :=
  let arg0 : BitVec 32 := BitVec.ofNat 32 (i 0).val
  let c131_i32 : BitVec 32 := 131#32
  let v0 : BitVec 32 := Scalar.minsi arg0 c131_i32
  let c33_i32 : BitVec 32 := 33#32
  let v1 : BitVec 32 := Scalar.divsi v0 c33_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c33_i32 c0_i32_1
  let v8 : BitVec 32 := Scalar.extui v7
  let c0_i32_2 : BitVec 32 := 0#32
  let v9 : BitVec 1 := Scalar.cmpi .slt c33_i32 c0_i32_2
  let v10 : BitVec 32 := Scalar.extui v9
  let v11 : BitVec 32 := Scalar.subi v8 v10
  let v12 : BitVec 1 := Scalar.cmpi .ne v6 v11
  let v13 : BitVec 32 := Scalar.remsi v0 c33_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c33_i32_4 : BitVec 32 := 33#32
  let c0_i32_5 : BitVec 32 := 0#32
  let v18 : BitVec 1 := Scalar.cmpi .eq c33_i32_4 c0_i32_5
  let c1_i32_6 : BitVec 32 := 1#32
  let v19 : BitVec 32 := Scalar.select v18 c1_i32_6 c33_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c131_i32_10 : BitVec 32 := 131#32
  let v28 : BitVec 32 := Scalar.minsi arg0 c131_i32_10
  let c33_i32_11 : BitVec 32 := 33#32
  let v29 : BitVec 32 := Scalar.divsi v28 c33_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c33_i32_11 c0_i32_14
  let v36 : BitVec 32 := Scalar.extui v35
  let c0_i32_15 : BitVec 32 := 0#32
  let v37 : BitVec 1 := Scalar.cmpi .slt c33_i32_11 c0_i32_15
  let v38 : BitVec 32 := Scalar.extui v37
  let v39 : BitVec 32 := Scalar.subi v36 v38
  let v40 : BitVec 1 := Scalar.cmpi .ne v34 v39
  let v41 : BitVec 32 := Scalar.remsi v28 c33_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c33_i32_18 : BitVec 32 := 33#32
  let c0_i32_19 : BitVec 32 := 0#32
  let v46 : BitVec 1 := Scalar.cmpi .eq c33_i32_18 c0_i32_19
  let c1_i32_20 : BitVec 32 := 1#32
  let v47 : BitVec 32 := Scalar.select v46 c1_i32_20 c33_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c32_i32 : BitVec 32 := 32#32
  let v56 : BitVec 32 := Scalar.muli v55 c32_i32
  let c1_i32_24 : BitVec 32 := 1#32
  let v57 : BitVec 32 := Scalar.subi v56 c1_i32_24
  let c0_i32_25 : BitVec 32 := 0#32
  let c1023_i32 : BitVec 32 := 1023#32
  let v58 : BitVec 32 := Scalar.maxsi c0_i32_25 v57
  let v59 : BitVec 32 := Scalar.minsi c1023_i32 v58
  let c0_i32_26 : BitVec 32 := 0#32
  let c0_i32_27 : BitVec 32 := 0#32
  ![v17.toNat, v59.toNat, c0_i32_26.toNat]

def cc0_transform_2 (i : grid0.Coords) : Fin 3 → Nat :=
  let arg0 : BitVec 32 := BitVec.ofNat 32 (i 0).val
  let c131_i32 : BitVec 32 := 131#32
  let v0 : BitVec 32 := Scalar.minsi arg0 c131_i32
  let c33_i32 : BitVec 32 := 33#32
  let v1 : BitVec 32 := Scalar.divsi v0 c33_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c33_i32 c0_i32_1
  let v8 : BitVec 32 := Scalar.extui v7
  let c0_i32_2 : BitVec 32 := 0#32
  let v9 : BitVec 1 := Scalar.cmpi .slt c33_i32 c0_i32_2
  let v10 : BitVec 32 := Scalar.extui v9
  let v11 : BitVec 32 := Scalar.subi v8 v10
  let v12 : BitVec 1 := Scalar.cmpi .ne v6 v11
  let v13 : BitVec 32 := Scalar.remsi v0 c33_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c33_i32_4 : BitVec 32 := 33#32
  let c0_i32_5 : BitVec 32 := 0#32
  let v18 : BitVec 1 := Scalar.cmpi .eq c33_i32_4 c0_i32_5
  let c1_i32_6 : BitVec 32 := 1#32
  let v19 : BitVec 32 := Scalar.select v18 c1_i32_6 c33_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c131_i32_10 : BitVec 32 := 131#32
  let v28 : BitVec 32 := Scalar.minsi arg0 c131_i32_10
  let c33_i32_11 : BitVec 32 := 33#32
  let v29 : BitVec 32 := Scalar.divsi v28 c33_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c33_i32_11 c0_i32_14
  let v36 : BitVec 32 := Scalar.extui v35
  let c0_i32_15 : BitVec 32 := 0#32
  let v37 : BitVec 1 := Scalar.cmpi .slt c33_i32_11 c0_i32_15
  let v38 : BitVec 32 := Scalar.extui v37
  let v39 : BitVec 32 := Scalar.subi v36 v38
  let v40 : BitVec 1 := Scalar.cmpi .ne v34 v39
  let v41 : BitVec 32 := Scalar.remsi v28 c33_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c33_i32_18 : BitVec 32 := 33#32
  let c0_i32_19 : BitVec 32 := 0#32
  let v46 : BitVec 1 := Scalar.cmpi .eq c33_i32_18 c0_i32_19
  let c1_i32_20 : BitVec 32 := 1#32
  let v47 : BitVec 32 := Scalar.select v46 c1_i32_20 c33_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c1_i32_24 : BitVec 32 := 1#32
  let v56 : BitVec 32 := Scalar.addi v55 c1_i32_24
  let c32_i32 : BitVec 32 := 32#32
  let v57 : BitVec 32 := Scalar.muli v56 c32_i32
  let c0_i32_25 : BitVec 32 := 0#32
  let c1023_i32 : BitVec 32 := 1023#32
  let v58 : BitVec 32 := Scalar.maxsi c0_i32_25 v57
  let v59 : BitVec 32 := Scalar.minsi c1023_i32 v58
  let c0_i32_26 : BitVec 32 := 0#32
  let c0_i32_27 : BitVec 32 := 0#32
  ![v17.toNat, v59.toNat, c0_i32_26.toNat]

def cc0_transform_3 (i : grid0.Coords) : Fin 3 → Nat :=
  let arg0 : BitVec 32 := BitVec.ofNat 32 (i 0).val
  let c131_i32 : BitVec 32 := 131#32
  let v0 : BitVec 32 := Scalar.minsi arg0 c131_i32
  let c33_i32 : BitVec 32 := 33#32
  let v1 : BitVec 32 := Scalar.divsi v0 c33_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c33_i32 c0_i32_1
  let v8 : BitVec 32 := Scalar.extui v7
  let c0_i32_2 : BitVec 32 := 0#32
  let v9 : BitVec 1 := Scalar.cmpi .slt c33_i32 c0_i32_2
  let v10 : BitVec 32 := Scalar.extui v9
  let v11 : BitVec 32 := Scalar.subi v8 v10
  let v12 : BitVec 1 := Scalar.cmpi .ne v6 v11
  let v13 : BitVec 32 := Scalar.remsi v0 c33_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c33_i32_4 : BitVec 32 := 33#32
  let c0_i32_5 : BitVec 32 := 0#32
  let v18 : BitVec 1 := Scalar.cmpi .eq c33_i32_4 c0_i32_5
  let c1_i32_6 : BitVec 32 := 1#32
  let v19 : BitVec 32 := Scalar.select v18 c1_i32_6 c33_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c131_i32_10 : BitVec 32 := 131#32
  let v28 : BitVec 32 := Scalar.minsi arg0 c131_i32_10
  let c33_i32_11 : BitVec 32 := 33#32
  let v29 : BitVec 32 := Scalar.divsi v28 c33_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c33_i32_11 c0_i32_14
  let v36 : BitVec 32 := Scalar.extui v35
  let c0_i32_15 : BitVec 32 := 0#32
  let v37 : BitVec 1 := Scalar.cmpi .slt c33_i32_11 c0_i32_15
  let v38 : BitVec 32 := Scalar.extui v37
  let v39 : BitVec 32 := Scalar.subi v36 v38
  let v40 : BitVec 1 := Scalar.cmpi .ne v34 v39
  let v41 : BitVec 32 := Scalar.remsi v28 c33_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c33_i32_18 : BitVec 32 := 33#32
  let c0_i32_19 : BitVec 32 := 0#32
  let v46 : BitVec 1 := Scalar.cmpi .eq c33_i32_18 c0_i32_19
  let c1_i32_20 : BitVec 32 := 1#32
  let v47 : BitVec 32 := Scalar.select v46 c1_i32_20 c33_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c32_i32 : BitVec 32 := 32#32
  let v56 : BitVec 32 := Scalar.subi v55 c32_i32
  let c0_i32_24 : BitVec 32 := 0#32
  let c0_i32_25 : BitVec 32 := 0#32
  let v57 : BitVec 32 := Scalar.maxsi c0_i32_24 v56
  let v58 : BitVec 32 := Scalar.minsi c0_i32_25 v57
  let c0_i32_26 : BitVec 32 := 0#32
  let c0_i32_27 : BitVec 32 := 0#32
  ![v17.toNat, v58.toNat, c0_i32_26.toNat]

def cc0_transform_4 (i : grid0.Coords) : Fin 3 → Nat :=
  let arg0 : BitVec 32 := BitVec.ofNat 32 (i 0).val
  let c131_i32 : BitVec 32 := 131#32
  let v0 : BitVec 32 := Scalar.minsi arg0 c131_i32
  let c33_i32 : BitVec 32 := 33#32
  let v1 : BitVec 32 := Scalar.divsi v0 c33_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c33_i32 c0_i32_1
  let v8 : BitVec 32 := Scalar.extui v7
  let c0_i32_2 : BitVec 32 := 0#32
  let v9 : BitVec 1 := Scalar.cmpi .slt c33_i32 c0_i32_2
  let v10 : BitVec 32 := Scalar.extui v9
  let v11 : BitVec 32 := Scalar.subi v8 v10
  let v12 : BitVec 1 := Scalar.cmpi .ne v6 v11
  let v13 : BitVec 32 := Scalar.remsi v0 c33_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c33_i32_4 : BitVec 32 := 33#32
  let c0_i32_5 : BitVec 32 := 0#32
  let v18 : BitVec 1 := Scalar.cmpi .eq c33_i32_4 c0_i32_5
  let c1_i32_6 : BitVec 32 := 1#32
  let v19 : BitVec 32 := Scalar.select v18 c1_i32_6 c33_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c32_i32 : BitVec 32 := 32#32
  let v28 : BitVec 1 := Scalar.cmpi .slt v27 c32_i32
  let c131_i32_10 : BitVec 32 := 131#32
  let v29 : BitVec 32 := Scalar.minsi arg0 c131_i32_10
  let c33_i32_11 : BitVec 32 := 33#32
  let v30 : BitVec 32 := Scalar.divsi v29 c33_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c0_i32_14 : BitVec 32 := 0#32
  let v36 : BitVec 1 := Scalar.cmpi .sgt c33_i32_11 c0_i32_14
  let v37 : BitVec 32 := Scalar.extui v36
  let c0_i32_15 : BitVec 32 := 0#32
  let v38 : BitVec 1 := Scalar.cmpi .slt c33_i32_11 c0_i32_15
  let v39 : BitVec 32 := Scalar.extui v38
  let v40 : BitVec 32 := Scalar.subi v37 v39
  let v41 : BitVec 1 := Scalar.cmpi .ne v35 v40
  let v42 : BitVec 32 := Scalar.remsi v29 c33_i32_11
  let c0_i32_16 : BitVec 32 := 0#32
  let v43 : BitVec 1 := Scalar.cmpi .ne v42 c0_i32_16
  let v44 : BitVec 1 := Scalar.andi v41 v43
  let c1_i32_17 : BitVec 32 := 1#32
  let v45 : BitVec 32 := Scalar.subi v30 c1_i32_17
  let v46 : BitVec 32 := Scalar.select v44 v45 v30
  let c33_i32_18 : BitVec 32 := 33#32
  let c0_i32_19 : BitVec 32 := 0#32
  let v47 : BitVec 1 := Scalar.cmpi .eq c33_i32_18 c0_i32_19
  let c1_i32_20 : BitVec 32 := 1#32
  let v48 : BitVec 32 := Scalar.select v47 c1_i32_20 c33_i32_18
  let v49 : BitVec 32 := Scalar.remsi v29 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let c4_i32 : BitVec 32 := 4#32
  let v57 : BitVec 32 := Scalar.select v28 v46 c4_i32
  let c0_i32_24 : BitVec 32 := 0#32
  let c0_i32_25 : BitVec 32 := 0#32
  let c0_i32_26 : BitVec 32 := 0#32
  ![v57.toNat, c0_i32_24.toNat, c0_i32_25.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c33_i32 : BitVec 32 := 33#32
  let v2 : BitVec 32 := Scalar.divsi v1 c33_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c33_i32 c0_i32_2
  let v9 : BitVec 32 := Scalar.extui v8
  let c0_i32_3 : BitVec 32 := 0#32
  let v10 : BitVec 1 := Scalar.cmpi .slt c33_i32 c0_i32_3
  let v11 : BitVec 32 := Scalar.extui v10
  let v12 : BitVec 32 := Scalar.subi v9 v11
  let v13 : BitVec 1 := Scalar.cmpi .ne v7 v12
  let v14 : BitVec 32 := Scalar.remsi v1 c33_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c33_i32_6 : BitVec 32 := 33#32
  let c0_i32_7 : BitVec 32 := 0#32
  let v19 : BitVec 1 := Scalar.cmpi .eq c33_i32_6 c0_i32_7
  let c1_i32_8 : BitVec 32 := 1#32
  let v20 : BitVec 32 := Scalar.select v19 c1_i32_8 c33_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v28.toNat, c0_i32_12.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c33_i32 : BitVec 32 := 33#32
  let v2 : BitVec 32 := Scalar.divsi v1 c33_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c33_i32 c0_i32_2
  let v9 : BitVec 32 := Scalar.extui v8
  let c0_i32_3 : BitVec 32 := 0#32
  let v10 : BitVec 1 := Scalar.cmpi .slt c33_i32 c0_i32_3
  let v11 : BitVec 32 := Scalar.extui v10
  let v12 : BitVec 32 := Scalar.subi v9 v11
  let v13 : BitVec 1 := Scalar.cmpi .ne v7 v12
  let v14 : BitVec 32 := Scalar.remsi v1 c33_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c33_i32_6 : BitVec 32 := 33#32
  let c0_i32_7 : BitVec 32 := 0#32
  let v19 : BitVec 1 := Scalar.cmpi .eq c33_i32_6 c0_i32_7
  let c1_i32_8 : BitVec 32 := 1#32
  let v20 : BitVec 32 := Scalar.select v19 c1_i32_8 c33_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v28.toNat, c0_i32_12.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c33_i32 : BitVec 32 := 33#32
  let v2 : BitVec 32 := Scalar.divsi v1 c33_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c33_i32 c0_i32_2
  let v9 : BitVec 32 := Scalar.extui v8
  let c0_i32_3 : BitVec 32 := 0#32
  let v10 : BitVec 1 := Scalar.cmpi .slt c33_i32 c0_i32_3
  let v11 : BitVec 32 := Scalar.extui v10
  let v12 : BitVec 32 := Scalar.subi v9 v11
  let v13 : BitVec 1 := Scalar.cmpi .ne v7 v12
  let v14 : BitVec 32 := Scalar.remsi v1 c33_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c33_i32_6 : BitVec 32 := 33#32
  let c0_i32_7 : BitVec 32 := 0#32
  let v19 : BitVec 1 := Scalar.cmpi .eq c33_i32_6 c0_i32_7
  let c1_i32_8 : BitVec 32 := 1#32
  let v20 : BitVec 32 := Scalar.select v19 c1_i32_8 c33_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.subi arg0 c1_i32_12
  let c0_i32_13 : BitVec 32 := 0#32
  let v30 : BitVec 32 := Scalar.maxsi v29 c0_i32_13
  let c33_i32_14 : BitVec 32 := 33#32
  let v31 : BitVec 32 := Scalar.divsi v30 c33_i32_14
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c0_i32_17 : BitVec 32 := 0#32
  let v37 : BitVec 1 := Scalar.cmpi .sgt c33_i32_14 c0_i32_17
  let v38 : BitVec 32 := Scalar.extui v37
  let c0_i32_18 : BitVec 32 := 0#32
  let v39 : BitVec 1 := Scalar.cmpi .slt c33_i32_14 c0_i32_18
  let v40 : BitVec 32 := Scalar.extui v39
  let v41 : BitVec 32 := Scalar.subi v38 v40
  let v42 : BitVec 1 := Scalar.cmpi .ne v36 v41
  let v43 : BitVec 32 := Scalar.remsi v30 c33_i32_14
  let c0_i32_19 : BitVec 32 := 0#32
  let v44 : BitVec 1 := Scalar.cmpi .ne v43 c0_i32_19
  let v45 : BitVec 1 := Scalar.andi v42 v44
  let c1_i32_20 : BitVec 32 := 1#32
  let v46 : BitVec 32 := Scalar.subi v31 c1_i32_20
  let v47 : BitVec 32 := Scalar.select v45 v46 v31
  let c33_i32_21 : BitVec 32 := 33#32
  let c0_i32_22 : BitVec 32 := 0#32
  let v48 : BitVec 1 := Scalar.cmpi .eq c33_i32_21 c0_i32_22
  let c1_i32_23 : BitVec 32 := 1#32
  let v49 : BitVec 32 := Scalar.select v48 c1_i32_23 c33_i32_21
  let v50 : BitVec 32 := Scalar.remsi v30 v49
  let c0_i32_24 : BitVec 32 := 0#32
  let v51 : BitVec 1 := Scalar.cmpi .ne v50 c0_i32_24
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let v55 : BitVec 1 := Scalar.andi v54 v51
  let v56 : BitVec 32 := Scalar.addi v50 v49
  let v57 : BitVec 32 := Scalar.select v55 v56 v50
  let c0_i32_27 : BitVec 32 := 0#32
  let c0_i32_28 : BitVec 32 := 0#32
  ![v18.toNat, v57.toNat, c0_i32_27.toNat]

def cc0_transform_19 (i : grid0.Coords) : Fin 3 → Nat :=
  let arg0 : BitVec 32 := BitVec.ofNat 32 (i 0).val
  let c131_i32 : BitVec 32 := 131#32
  let v0 : BitVec 32 := Scalar.minsi arg0 c131_i32
  let c33_i32 : BitVec 32 := 33#32
  let v1 : BitVec 32 := Scalar.divsi v0 c33_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c33_i32 c0_i32_1
  let v8 : BitVec 32 := Scalar.extui v7
  let c0_i32_2 : BitVec 32 := 0#32
  let v9 : BitVec 1 := Scalar.cmpi .slt c33_i32 c0_i32_2
  let v10 : BitVec 32 := Scalar.extui v9
  let v11 : BitVec 32 := Scalar.subi v8 v10
  let v12 : BitVec 1 := Scalar.cmpi .ne v6 v11
  let v13 : BitVec 32 := Scalar.remsi v0 c33_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c33_i32_4 : BitVec 32 := 33#32
  let c0_i32_5 : BitVec 32 := 0#32
  let v18 : BitVec 1 := Scalar.cmpi .eq c33_i32_4 c0_i32_5
  let c1_i32_6 : BitVec 32 := 1#32
  let v19 : BitVec 32 := Scalar.select v18 c1_i32_6 c33_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c131_i32_10 : BitVec 32 := 131#32
  let v28 : BitVec 32 := Scalar.minsi arg0 c131_i32_10
  let c33_i32_11 : BitVec 32 := 33#32
  let v29 : BitVec 32 := Scalar.divsi v28 c33_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c33_i32_11 c0_i32_14
  let v36 : BitVec 32 := Scalar.extui v35
  let c0_i32_15 : BitVec 32 := 0#32
  let v37 : BitVec 1 := Scalar.cmpi .slt c33_i32_11 c0_i32_15
  let v38 : BitVec 32 := Scalar.extui v37
  let v39 : BitVec 32 := Scalar.subi v36 v38
  let v40 : BitVec 1 := Scalar.cmpi .ne v34 v39
  let v41 : BitVec 32 := Scalar.remsi v28 c33_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c33_i32_18 : BitVec 32 := 33#32
  let c0_i32_19 : BitVec 32 := 0#32
  let v46 : BitVec 1 := Scalar.cmpi .eq c33_i32_18 c0_i32_19
  let c1_i32_20 : BitVec 32 := 1#32
  let v47 : BitVec 32 := Scalar.select v46 c1_i32_20 c33_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v17.toNat, v55.toNat, c0_i32_24.toNat]

def cc0_transform_20 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c33_i32 : BitVec 32 := 33#32
  let v2 : BitVec 32 := Scalar.divsi v1 c33_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c33_i32 c0_i32_2
  let v9 : BitVec 32 := Scalar.extui v8
  let c0_i32_3 : BitVec 32 := 0#32
  let v10 : BitVec 1 := Scalar.cmpi .slt c33_i32 c0_i32_3
  let v11 : BitVec 32 := Scalar.extui v10
  let v12 : BitVec 32 := Scalar.subi v9 v11
  let v13 : BitVec 1 := Scalar.cmpi .ne v7 v12
  let v14 : BitVec 32 := Scalar.remsi v1 c33_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c33_i32_6 : BitVec 32 := 33#32
  let c0_i32_7 : BitVec 32 := 0#32
  let v19 : BitVec 1 := Scalar.cmpi .eq c33_i32_6 c0_i32_7
  let c1_i32_8 : BitVec 32 := 1#32
  let v20 : BitVec 32 := Scalar.select v19 c1_i32_8 c33_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.subi arg0 c1_i32_12
  let c0_i32_13 : BitVec 32 := 0#32
  let v30 : BitVec 32 := Scalar.maxsi v29 c0_i32_13
  let c33_i32_14 : BitVec 32 := 33#32
  let v31 : BitVec 32 := Scalar.divsi v30 c33_i32_14
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c0_i32_17 : BitVec 32 := 0#32
  let v37 : BitVec 1 := Scalar.cmpi .sgt c33_i32_14 c0_i32_17
  let v38 : BitVec 32 := Scalar.extui v37
  let c0_i32_18 : BitVec 32 := 0#32
  let v39 : BitVec 1 := Scalar.cmpi .slt c33_i32_14 c0_i32_18
  let v40 : BitVec 32 := Scalar.extui v39
  let v41 : BitVec 32 := Scalar.subi v38 v40
  let v42 : BitVec 1 := Scalar.cmpi .ne v36 v41
  let v43 : BitVec 32 := Scalar.remsi v30 c33_i32_14
  let c0_i32_19 : BitVec 32 := 0#32
  let v44 : BitVec 1 := Scalar.cmpi .ne v43 c0_i32_19
  let v45 : BitVec 1 := Scalar.andi v42 v44
  let c1_i32_20 : BitVec 32 := 1#32
  let v46 : BitVec 32 := Scalar.subi v31 c1_i32_20
  let v47 : BitVec 32 := Scalar.select v45 v46 v31
  let c33_i32_21 : BitVec 32 := 33#32
  let c0_i32_22 : BitVec 32 := 0#32
  let v48 : BitVec 1 := Scalar.cmpi .eq c33_i32_21 c0_i32_22
  let c1_i32_23 : BitVec 32 := 1#32
  let v49 : BitVec 32 := Scalar.select v48 c1_i32_23 c33_i32_21
  let v50 : BitVec 32 := Scalar.remsi v30 v49
  let c0_i32_24 : BitVec 32 := 0#32
  let v51 : BitVec 1 := Scalar.cmpi .ne v50 c0_i32_24
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let v55 : BitVec 1 := Scalar.andi v54 v51
  let v56 : BitVec 32 := Scalar.addi v50 v49
  let v57 : BitVec 32 := Scalar.select v55 v56 v50
  let c0_i32_27 : BitVec 32 := 0#32
  let c0_i32_28 : BitVec 32 := 0#32
  ![v18.toNat, c0_i32_27.toNat, v57.toNat]

def cc0_transform_21 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c33_i32 : BitVec 32 := 33#32
  let v2 : BitVec 32 := Scalar.divsi v1 c33_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c33_i32 c0_i32_2
  let v9 : BitVec 32 := Scalar.extui v8
  let c0_i32_3 : BitVec 32 := 0#32
  let v10 : BitVec 1 := Scalar.cmpi .slt c33_i32 c0_i32_3
  let v11 : BitVec 32 := Scalar.extui v10
  let v12 : BitVec 32 := Scalar.subi v9 v11
  let v13 : BitVec 1 := Scalar.cmpi .ne v7 v12
  let v14 : BitVec 32 := Scalar.remsi v1 c33_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c33_i32_6 : BitVec 32 := 33#32
  let c0_i32_7 : BitVec 32 := 0#32
  let v19 : BitVec 1 := Scalar.cmpi .eq c33_i32_6 c0_i32_7
  let c1_i32_8 : BitVec 32 := 1#32
  let v20 : BitVec 32 := Scalar.select v19 c1_i32_8 c33_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.subi arg0 c1_i32_12
  let c0_i32_13 : BitVec 32 := 0#32
  let v30 : BitVec 32 := Scalar.maxsi v29 c0_i32_13
  let c33_i32_14 : BitVec 32 := 33#32
  let v31 : BitVec 32 := Scalar.divsi v30 c33_i32_14
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c0_i32_17 : BitVec 32 := 0#32
  let v37 : BitVec 1 := Scalar.cmpi .sgt c33_i32_14 c0_i32_17
  let v38 : BitVec 32 := Scalar.extui v37
  let c0_i32_18 : BitVec 32 := 0#32
  let v39 : BitVec 1 := Scalar.cmpi .slt c33_i32_14 c0_i32_18
  let v40 : BitVec 32 := Scalar.extui v39
  let v41 : BitVec 32 := Scalar.subi v38 v40
  let v42 : BitVec 1 := Scalar.cmpi .ne v36 v41
  let v43 : BitVec 32 := Scalar.remsi v30 c33_i32_14
  let c0_i32_19 : BitVec 32 := 0#32
  let v44 : BitVec 1 := Scalar.cmpi .ne v43 c0_i32_19
  let v45 : BitVec 1 := Scalar.andi v42 v44
  let c1_i32_20 : BitVec 32 := 1#32
  let v46 : BitVec 32 := Scalar.subi v31 c1_i32_20
  let v47 : BitVec 32 := Scalar.select v45 v46 v31
  let c33_i32_21 : BitVec 32 := 33#32
  let c0_i32_22 : BitVec 32 := 0#32
  let v48 : BitVec 1 := Scalar.cmpi .eq c33_i32_21 c0_i32_22
  let c1_i32_23 : BitVec 32 := 1#32
  let v49 : BitVec 32 := Scalar.select v48 c1_i32_23 c33_i32_21
  let v50 : BitVec 32 := Scalar.remsi v30 v49
  let c0_i32_24 : BitVec 32 := 0#32
  let v51 : BitVec 1 := Scalar.cmpi .ne v50 c0_i32_24
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let v55 : BitVec 1 := Scalar.andi v54 v51
  let v56 : BitVec 32 := Scalar.addi v50 v49
  let v57 : BitVec 32 := Scalar.select v55 v56 v50
  let c0_i32_27 : BitVec 32 := 0#32
  let c0_i32_28 : BitVec 32 := 0#32
  ![v18.toNat, v57.toNat, c0_i32_27.toNat]

def cc0_transform_22 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c33_i32 : BitVec 32 := 33#32
  let v2 : BitVec 32 := Scalar.divsi v1 c33_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c33_i32 c0_i32_2
  let v9 : BitVec 32 := Scalar.extui v8
  let c0_i32_3 : BitVec 32 := 0#32
  let v10 : BitVec 1 := Scalar.cmpi .slt c33_i32 c0_i32_3
  let v11 : BitVec 32 := Scalar.extui v10
  let v12 : BitVec 32 := Scalar.subi v9 v11
  let v13 : BitVec 1 := Scalar.cmpi .ne v7 v12
  let v14 : BitVec 32 := Scalar.remsi v1 c33_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c33_i32_6 : BitVec 32 := 33#32
  let c0_i32_7 : BitVec 32 := 0#32
  let v19 : BitVec 1 := Scalar.cmpi .eq c33_i32_6 c0_i32_7
  let c1_i32_8 : BitVec 32 := 1#32
  let v20 : BitVec 32 := Scalar.select v19 c1_i32_8 c33_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.subi arg0 c1_i32_12
  let c0_i32_13 : BitVec 32 := 0#32
  let v30 : BitVec 32 := Scalar.maxsi v29 c0_i32_13
  let c33_i32_14 : BitVec 32 := 33#32
  let v31 : BitVec 32 := Scalar.divsi v30 c33_i32_14
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c0_i32_17 : BitVec 32 := 0#32
  let v37 : BitVec 1 := Scalar.cmpi .sgt c33_i32_14 c0_i32_17
  let v38 : BitVec 32 := Scalar.extui v37
  let c0_i32_18 : BitVec 32 := 0#32
  let v39 : BitVec 1 := Scalar.cmpi .slt c33_i32_14 c0_i32_18
  let v40 : BitVec 32 := Scalar.extui v39
  let v41 : BitVec 32 := Scalar.subi v38 v40
  let v42 : BitVec 1 := Scalar.cmpi .ne v36 v41
  let v43 : BitVec 32 := Scalar.remsi v30 c33_i32_14
  let c0_i32_19 : BitVec 32 := 0#32
  let v44 : BitVec 1 := Scalar.cmpi .ne v43 c0_i32_19
  let v45 : BitVec 1 := Scalar.andi v42 v44
  let c1_i32_20 : BitVec 32 := 1#32
  let v46 : BitVec 32 := Scalar.subi v31 c1_i32_20
  let v47 : BitVec 32 := Scalar.select v45 v46 v31
  let c33_i32_21 : BitVec 32 := 33#32
  let c0_i32_22 : BitVec 32 := 0#32
  let v48 : BitVec 1 := Scalar.cmpi .eq c33_i32_21 c0_i32_22
  let c1_i32_23 : BitVec 32 := 1#32
  let v49 : BitVec 32 := Scalar.select v48 c1_i32_23 c33_i32_21
  let v50 : BitVec 32 := Scalar.remsi v30 v49
  let c0_i32_24 : BitVec 32 := 0#32
  let v51 : BitVec 1 := Scalar.cmpi .ne v50 c0_i32_24
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let v55 : BitVec 1 := Scalar.andi v54 v51
  let v56 : BitVec 32 := Scalar.addi v50 v49
  let v57 : BitVec 32 := Scalar.select v55 v56 v50
  let c0_i32_27 : BitVec 32 := 0#32
  let c0_i32_28 : BitVec 32 := 0#32
  ![v18.toNat, c0_i32_27.toNat, v57.toNat]

def cc0_transform_23 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c33_i32 : BitVec 32 := 33#32
  let v2 : BitVec 32 := Scalar.divsi v1 c33_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c33_i32 c0_i32_2
  let v9 : BitVec 32 := Scalar.extui v8
  let c0_i32_3 : BitVec 32 := 0#32
  let v10 : BitVec 1 := Scalar.cmpi .slt c33_i32 c0_i32_3
  let v11 : BitVec 32 := Scalar.extui v10
  let v12 : BitVec 32 := Scalar.subi v9 v11
  let v13 : BitVec 1 := Scalar.cmpi .ne v7 v12
  let v14 : BitVec 32 := Scalar.remsi v1 c33_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c33_i32_6 : BitVec 32 := 33#32
  let c0_i32_7 : BitVec 32 := 0#32
  let v19 : BitVec 1 := Scalar.cmpi .eq c33_i32_6 c0_i32_7
  let c1_i32_8 : BitVec 32 := 1#32
  let v20 : BitVec 32 := Scalar.select v19 c1_i32_8 c33_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.subi arg0 c1_i32_12
  let c0_i32_13 : BitVec 32 := 0#32
  let v30 : BitVec 32 := Scalar.maxsi v29 c0_i32_13
  let c33_i32_14 : BitVec 32 := 33#32
  let v31 : BitVec 32 := Scalar.divsi v30 c33_i32_14
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c0_i32_17 : BitVec 32 := 0#32
  let v37 : BitVec 1 := Scalar.cmpi .sgt c33_i32_14 c0_i32_17
  let v38 : BitVec 32 := Scalar.extui v37
  let c0_i32_18 : BitVec 32 := 0#32
  let v39 : BitVec 1 := Scalar.cmpi .slt c33_i32_14 c0_i32_18
  let v40 : BitVec 32 := Scalar.extui v39
  let v41 : BitVec 32 := Scalar.subi v38 v40
  let v42 : BitVec 1 := Scalar.cmpi .ne v36 v41
  let v43 : BitVec 32 := Scalar.remsi v30 c33_i32_14
  let c0_i32_19 : BitVec 32 := 0#32
  let v44 : BitVec 1 := Scalar.cmpi .ne v43 c0_i32_19
  let v45 : BitVec 1 := Scalar.andi v42 v44
  let c1_i32_20 : BitVec 32 := 1#32
  let v46 : BitVec 32 := Scalar.subi v31 c1_i32_20
  let v47 : BitVec 32 := Scalar.select v45 v46 v31
  let c33_i32_21 : BitVec 32 := 33#32
  let c0_i32_22 : BitVec 32 := 0#32
  let v48 : BitVec 1 := Scalar.cmpi .eq c33_i32_21 c0_i32_22
  let c1_i32_23 : BitVec 32 := 1#32
  let v49 : BitVec 32 := Scalar.select v48 c1_i32_23 c33_i32_21
  let v50 : BitVec 32 := Scalar.remsi v30 v49
  let c0_i32_24 : BitVec 32 := 0#32
  let v51 : BitVec 1 := Scalar.cmpi .ne v50 c0_i32_24
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let v55 : BitVec 1 := Scalar.andi v54 v51
  let v56 : BitVec 32 := Scalar.addi v50 v49
  let v57 : BitVec 32 := Scalar.select v55 v56 v50
  let c0_i32_27 : BitVec 32 := 0#32
  let c0_i32_28 : BitVec 32 := 0#32
  ![v18.toNat, v57.toNat, c0_i32_27.toNat]

def cc0_transform_24 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c33_i32 : BitVec 32 := 33#32
  let v2 : BitVec 32 := Scalar.divsi v1 c33_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c33_i32 c0_i32_2
  let v9 : BitVec 32 := Scalar.extui v8
  let c0_i32_3 : BitVec 32 := 0#32
  let v10 : BitVec 1 := Scalar.cmpi .slt c33_i32 c0_i32_3
  let v11 : BitVec 32 := Scalar.extui v10
  let v12 : BitVec 32 := Scalar.subi v9 v11
  let v13 : BitVec 1 := Scalar.cmpi .ne v7 v12
  let v14 : BitVec 32 := Scalar.remsi v1 c33_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c33_i32_6 : BitVec 32 := 33#32
  let c0_i32_7 : BitVec 32 := 0#32
  let v19 : BitVec 1 := Scalar.cmpi .eq c33_i32_6 c0_i32_7
  let c1_i32_8 : BitVec 32 := 1#32
  let v20 : BitVec 32 := Scalar.select v19 c1_i32_8 c33_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.subi arg0 c1_i32_12
  let c0_i32_13 : BitVec 32 := 0#32
  let v30 : BitVec 32 := Scalar.maxsi v29 c0_i32_13
  let c33_i32_14 : BitVec 32 := 33#32
  let v31 : BitVec 32 := Scalar.divsi v30 c33_i32_14
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c0_i32_17 : BitVec 32 := 0#32
  let v37 : BitVec 1 := Scalar.cmpi .sgt c33_i32_14 c0_i32_17
  let v38 : BitVec 32 := Scalar.extui v37
  let c0_i32_18 : BitVec 32 := 0#32
  let v39 : BitVec 1 := Scalar.cmpi .slt c33_i32_14 c0_i32_18
  let v40 : BitVec 32 := Scalar.extui v39
  let v41 : BitVec 32 := Scalar.subi v38 v40
  let v42 : BitVec 1 := Scalar.cmpi .ne v36 v41
  let v43 : BitVec 32 := Scalar.remsi v30 c33_i32_14
  let c0_i32_19 : BitVec 32 := 0#32
  let v44 : BitVec 1 := Scalar.cmpi .ne v43 c0_i32_19
  let v45 : BitVec 1 := Scalar.andi v42 v44
  let c1_i32_20 : BitVec 32 := 1#32
  let v46 : BitVec 32 := Scalar.subi v31 c1_i32_20
  let v47 : BitVec 32 := Scalar.select v45 v46 v31
  let c33_i32_21 : BitVec 32 := 33#32
  let c0_i32_22 : BitVec 32 := 0#32
  let v48 : BitVec 1 := Scalar.cmpi .eq c33_i32_21 c0_i32_22
  let c1_i32_23 : BitVec 32 := 1#32
  let v49 : BitVec 32 := Scalar.select v48 c1_i32_23 c33_i32_21
  let v50 : BitVec 32 := Scalar.remsi v30 v49
  let c0_i32_24 : BitVec 32 := 0#32
  let v51 : BitVec 1 := Scalar.cmpi .ne v50 c0_i32_24
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let v55 : BitVec 1 := Scalar.andi v54 v51
  let v56 : BitVec 32 := Scalar.addi v50 v49
  let v57 : BitVec 32 := Scalar.select v55 v56 v50
  let c0_i32_27 : BitVec 32 := 0#32
  let c0_i32_28 : BitVec 32 := 0#32
  let c0_i32_29 : BitVec 32 := 0#32
  ![v18.toNat, v57.toNat, c0_i32_27.toNat, c0_i32_28.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256x4096 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1152x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x16x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference5Ideal.lean ====
abbrev S4x8192x1024 : Shape := ⟨3, ![4, 8192, 1024]⟩
abbrev S4x256x1024 : Shape := ⟨3, ![4, 256, 1024]⟩
abbrev S4x6144 : Shape := ⟨2, ![4, 6144]⟩
abbrev S1x6144 : Shape := ⟨2, ![1, 6144]⟩
abbrev S1x1024 : Shape := ⟨2, ![1, 1024]⟩
abbrev S1x1024x8208 : Shape := ⟨3, ![1, 1024, 8208]⟩
abbrev S1x16 : Shape := ⟨2, ![1, 16]⟩
abbrev S1x5x1024 : Shape := ⟨3, ![1, 5, 1024]⟩
abbrev S1x64 : Shape := ⟨2, ![1, 64]⟩
abbrev S4x1024 : Shape := ⟨2, ![4, 1024]⟩
abbrev S4x1x1024 : Shape := ⟨3, ![4, 1, 1024]⟩
abbrev S6144 : Shape := ⟨1, ![6144]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x256 : Shape := ⟨2, ![4, 256]⟩
abbrev S4x256x1 : Shape := ⟨3, ![4, 256, 1]⟩
abbrev S1024x8208 : Shape := ⟨2, ![1024, 8208]⟩
abbrev S4x8192x8208 : Shape := ⟨3, ![4, 8192, 8208]⟩
abbrev S4x8192x512 : Shape := ⟨3, ![4, 8192, 512]⟩
abbrev S4x8192x16 : Shape := ⟨3, ![4, 8192, 16]⟩
abbrev S4x8192x4096 : Shape := ⟨3, ![4, 8192, 4096]⟩
abbrev S4x8192x8x128 : Shape := ⟨4, ![4, 8192, 8, 128]⟩
abbrev S4x8x8192x128 : Shape := ⟨4, ![4, 8, 8192, 128]⟩
abbrev S4x256x8208 : Shape := ⟨3, ![4, 256, 8208]⟩
abbrev S4x256x512 : Shape := ⟨3, ![4, 256, 512]⟩
abbrev S4x256x16 : Shape := ⟨3, ![4, 256, 16]⟩
abbrev S4x256x4096 : Shape := ⟨3, ![4, 256, 4096]⟩
abbrev S4x256x8x128 : Shape := ⟨4, ![4, 256, 8, 128]⟩
abbrev S4x8x256x128 : Shape := ⟨4, ![4, 8, 256, 128]⟩
abbrev S4x8x8448x128 : Shape := ⟨4, ![4, 8, 8448, 128]⟩
abbrev S4x8x16x8448 : Shape := ⟨4, ![4, 8, 16, 8448]⟩
abbrev S4x8x128x8448 : Shape := ⟨4, ![4, 8, 128, 8448]⟩
abbrev S4x8x144x8448 : Shape := ⟨4, ![4, 8, 144, 8448]⟩
abbrev S4x1152x8448 : Shape := ⟨3, ![4, 1152, 8448]⟩
abbrev S4x8448x4096 : Shape := ⟨3, ![4, 8448, 4096]⟩

abbrev nBuf : Space → Nat
  | .hbm => 119
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x6144, .f32⟩
  | .hbm, ⟨3, _⟩ => ⟨S1x6144, .f32⟩
  | .hbm, ⟨4, _⟩ => ⟨S1x1024, .f32⟩
  | .hbm, ⟨5, _⟩ => ⟨S1x1024x8208, .f32⟩
  | .hbm, ⟨6, _⟩ => ⟨S1x16, .f32⟩
  | .hbm, ⟨7, _⟩ => ⟨S1x5x1024, .f32⟩
  | .hbm, ⟨8, _⟩ => ⟨S1x1024, .f32⟩
  | .hbm, ⟨9, _⟩ => ⟨S1x64, .f32⟩
  | .hbm, ⟨10, _⟩ => ⟨S1x64, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x1x1024, .f32⟩
  | .hbm, ⟨23, _⟩ => ⟨S6144, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S4x8192x1024, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1, .f32⟩
  | .hbm, ⟨42, _⟩ => ⟨S4x8192x1024, .f32⟩
  | .hbm, ⟨43, _⟩ => ⟨S4x8192x1024, .f32⟩
  | .hbm, ⟨44, _⟩ => ⟨S1x1x1024, .f32⟩
  | .hbm, ⟨45, _⟩ => ⟨S4x8192x1024, .f32⟩
  | .hbm, ⟨46, _⟩ => ⟨S4x8192x1024, .f32⟩
  | .hbm, ⟨47, _⟩ => ⟨S_, .f32⟩
  | .hbm, ⟨48, _⟩ => ⟨S4x1x1024, .f32⟩
  | .hbm, ⟨49, _⟩ => ⟨S4x1x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S1024, .f32⟩
  | .hbm, ⟨55, _⟩ => ⟨S4x256x1024, .f32⟩
  | .hbm, ⟨56, _⟩ => ⟨S_, .f32⟩
  | .hbm, ⟨57, _⟩ => ⟨S4x256, .f32⟩
  | .hbm, ⟨58, _⟩ => ⟨S4x256x1, .f32⟩
  | .hbm, ⟨59, _⟩ => ⟨S_, .f32⟩
  | .hbm, ⟨60, _⟩ => ⟨S4x256x1, .f32⟩
  | .hbm, ⟨61, _⟩ => ⟨S4x256x1, .f32⟩
  | .hbm, ⟨62, _⟩ => ⟨S_, .f32⟩
  | .hbm, ⟨63, _⟩ => ⟨S4x256x1, .f32⟩
  | .hbm, ⟨64, _⟩ => ⟨S4x256x1, .f32⟩
  | .hbm, ⟨65, _⟩ => ⟨S4x256x1, .f32⟩
  | .hbm, ⟨66, _⟩ => ⟨S4x256x1024, .f32⟩
  | .hbm, ⟨67, _⟩ => ⟨S4x256x1024, .f32⟩
  | .hbm, ⟨68, _⟩ => ⟨S1x1x1024, .f32⟩
  | .hbm, ⟨69, _⟩ => ⟨S4x256x1024, .f32⟩
  | .hbm, ⟨70, _⟩ => ⟨S4x256x1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1x1x1024, .f32⟩
  | .hbm, ⟨75, _⟩ => ⟨S4x256x1024, .f32⟩
  | .hbm, ⟨76, _⟩ => ⟨S4x256x1024, .f32⟩
  | .hbm, ⟨77, _⟩ => ⟨S1x1x1024, .f32⟩
  | .hbm, ⟨78, _⟩ => ⟨S4x256x1024, .f32⟩
  | .hbm, ⟨79, _⟩ => ⟨S4x256x1024, .f32⟩
  | .hbm, ⟨80, _⟩ => ⟨S1024x8208, .f32⟩
  | .hbm, ⟨81, _⟩ => ⟨S4x8192x8208, .f32⟩
  | .hbm, ⟨82, _⟩ => ⟨S4x8192x512, .f32⟩
  | .hbm, ⟨83, _⟩ => ⟨S4x8192x512, .f32⟩
  | .hbm, ⟨84, _⟩ => ⟨S4x8192x1024, .f32⟩
  | .hbm, ⟨85, _⟩ => ⟨S4x8192x1024, .f32⟩
  | .hbm, ⟨86, _⟩ => ⟨S4x8192x16, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | .hbm, ⟨91, _⟩ => ⟨S4x8192x1024, .f32⟩
  | .hbm, ⟨92, _⟩ => ⟨S4x8192x4096, .f32⟩
  | .hbm, ⟨93, _⟩ => ⟨S4x8192x8x128, .f32⟩
  | .hbm, ⟨94, _⟩ => ⟨S4x8x8192x128, .f32⟩
  | .hbm, ⟨95, _⟩ => ⟨S1024x8208, .f32⟩
  | .hbm, ⟨96, _⟩ => ⟨S4x256x8208, .f32⟩
  | .hbm, ⟨97, _⟩ => ⟨S4x256x512, .f32⟩
  | .hbm, ⟨98, _⟩ => ⟨S4x256x512, .f32⟩
  | .hbm, ⟨99, _⟩ => ⟨S4x256x1024, .f32⟩
  | .hbm, ⟨100, _⟩ => ⟨S4x256x1024, .f32⟩
  | .hbm, ⟨101, _⟩ => ⟨S4x256x16, .f32⟩
  | .hbm, ⟨102, _⟩ => ⟨S4x256x1024, .f32⟩
  | .hbm, ⟨103, _⟩ => ⟨S4x256x1024, .f32⟩
  | .hbm, ⟨104, _⟩ => ⟨S4x256x1024, .f32⟩
  | .hbm, ⟨105, _⟩ => ⟨S4x256x1024, .f32⟩
  | .hbm, ⟨106, _⟩ => ⟨S4x256x1024, .f32⟩
  | .hbm, ⟨107, _⟩ => ⟨S4x256x4096, .f32⟩
  | .hbm, ⟨108, _⟩ => ⟨S4x256x8x128, .f32⟩
  | .hbm, ⟨109, _⟩ => ⟨S4x8x256x128, .f32⟩
  | .hbm, ⟨110, _⟩ => ⟨S4x8x8448x128, .f32⟩
  | .hbm, ⟨111, _⟩ => ⟨S_, .f32⟩
  | .hbm, ⟨112, _⟩ => ⟨S4x8x16x8448, .f32⟩
  | .hbm, ⟨113, _⟩ => ⟨S4x8x128x8448, .f32⟩
  | .hbm, ⟨114, _⟩ => ⟨S4x8x144x8448, .f32⟩
  | .hbm, ⟨115, _⟩ => ⟨S4x1152x8448, .f32⟩
  | .hbm, ⟨116, _⟩ => ⟨S4x8448x4096, .f32⟩
  | .hbm, ⟨117, _⟩ => ⟨S4x8448x4096, .bf16⟩
  | .hbm, ⟨118, _⟩ => ⟨S4x1152x8448, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_7 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩

abbrev nD : Nat := 1
abbrev τ : Topo := Topo.v7x

variable {F : FTy → Type} [FloatOps F]
-- ==== Proof.Loop.lean ====
/-
  What the attention body leaves in its output window. The body goes through the queries in blocks of 256 columns, and
  the block whose output a trip stores had its scores taken two trips earlier and its exponentials one trip earlier. Here the
  three scratch buffers are followed through the loop (`loop_inv`): before trip `k` they hold the scores and the partial
  maxima of block `k + 1` and the exponentials of block `k`. So every piece stored into the output window is `outBlk`
  of its own block (`read_out`).
-/
module

public import proofs.«01_k».proof.Proof.Gen.KernelIdeal.Loops
public import Idealize.ShloMosaic.Lib.VecWindow

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL.Sem

variable {F : FTy → Type} [FloatOps F]

/-- Where block `j`'s columns start; the last block's start bounds it. -/
def qoff (j : ℕ) : Fin 3 → ℕ := ![0, 0, min (256 * j) 7936]

theorem qoff_inb (j : ℕ) : ∀ a, qoff j a + S1x128x256.size a ≤ S1x128x8192.size a := by
  intro a
  fin_cases a
  · show 0 + 1 ≤ 1; omega
  · show 0 + 128 ≤ 128; omega
  · show min (256 * j) 7936 + 256 ≤ 8192; omega

/-- The columns of block `j` of the transposed queries. -/
def qcol (x0 : Vec F S1x128x8192 .bf16) (j : ℕ) : Vec F S1x128x256 .bf16 :=
  View.ld x0 (Rect.unit (s := S1x128x8192) (qoff j) S1x128x256.size (qoff_inb j))

/-- Block `j`'s scores, both maps side by side. -/
def sBlk (x0 : Vec F S1x128x8192 .bf16) (x1 : Vec F S1x8448x128 .bf16) (j : ℕ) : FVec F S8448x512 .f32 :=
  k0_pay15 (k0_pay5 k0_pay6 (qcol x0 j) x1)

/-- Block `j`'s maxima over the slices of eight keys. -/
def pmBlk (x0 : Vec F S1x128x8192 .bf16) (x1 : Vec F S1x8448x128 .bf16) (j : ℕ) : FVec F S8x512 .f32 :=
  k0_pay16 (k0_pay5 k0_pay6 (qcol x0 j) x1)

/-- Block `j`'s exponentials. -/
def eBlk (x0 : Vec F S1x128x8192 .bf16) (x1 : Vec F S1x8448x128 .bf16) (j : ℕ) : FVec F S8448x512 .bf16 :=
  k0_pay4 (pmBlk x0 x1 j) (sBlk x0 x1 j)

/-- Block `j`'s rows of the output. -/
def outBlk (x0 : Vec F S1x128x8192 .bf16) (x1 : Vec F S1x8448x128 .bf16) (x2 : Vec F S1x144x8448 .bf16) (x3 : Vec F S4x64 .f32)
    (x4 : Vec F S1x128 .f32) (j : ℕ) : FVec F S1x256x128 .bf16 :=
  k0_pay3 (k0_pay2 x3 x2 (eBlk x0 x1 j)) x4

/-- A row within a block, and its block, of a row of the output window. -/
def rowIdx (y : S1x8192x128.Idx) : S1x256x128.Idx := fun a => match a with
  | ⟨0, _⟩ => ⟨(y 0).val, (y 0).isLt⟩
  | ⟨1, _⟩ => ⟨(y 1).val % 256, Nat.mod_lt _ (by decide)⟩
  | ⟨2, _⟩ => ⟨(y 2).val, (y 2).isLt⟩

/-- The output window as a whole: row `256 j + r` is row `r` of block `j`. -/
def outAll (x0 : Vec F S1x128x8192 .bf16) (x1 : Vec F S1x8448x128 .bf16) (x2 : Vec F S1x144x8448 .bf16) (x3 : Vec F S4x64 .f32)
    (x4 : Vec F S1x128 .f32) : Vec F S1x8192x128 .bf16 :=
  fun y => outBlk x0 x1 x2 x3 x4 ((y 1).val / 256) (rowIdx y)

/-- A piece at the rows of block `j` that holds `outBlk j` agrees with `outAll`. -/
theorem piece_outAll (x0 : Vec F S1x128x8192 .bf16) (x1 : Vec F S1x8448x128 .bf16) (x2 : Vec F S1x144x8448 .bf16) (x3 : Vec F S4x64 .f32)
    (x4 : Vec F S1x128 .f32) (j : ℕ) (off : Fin 3 → ℕ) (hoff : off = ![0, 256 * j, 0])
    (inb : ∀ a, off a + S1x256x128.size a ≤ S1x8192x128.size a) (x : (Rect.unit (s := S1x8192x128) off S1x256x128.size inb).shape.Idx) :
    outBlk x0 x1 x2 x3 x4 j x = outAll x0 x1 x2 x3 x4 ((Rect.unit (s := S1x8192x128) off S1x256x128.size inb).emb x) := by
  subst hoff
  have h1 : (x 1).val < 256 := (x 1).isLt
  unfold outAll
  have e : (((Rect.unit (s := S1x8192x128) ![0, 256 * j, 0] S1x256x128.size inb).emb x) 1).val = 256 * j + (x 1).val := by
    show 256 * j + 1 * (x 1).val = _; omega
  rw [e, show (256 * j + (x 1).val) / 256 = j by omega]
  congr 1
  funext a
  apply Fin.ext
  match a with
  | ⟨0, _⟩ => show (x 0).val = 0 + 1 * (x 0).val; omega
  | ⟨1, _⟩ =>
    show (x 1).val = (((Rect.unit (s := S1x8192x128) ![0, 256 * j, 0] S1x256x128.size inb).emb x) 1).val % 256
    rw [e]; omega
  | ⟨2, _⟩ => show (x 2).val = 0 + 1 * (x 2).val; omega

/-- A row of block `j` lies in the piece at the block's rows. -/
theorem mem_rows (j : ℕ) (off : Fin 3 → ℕ) (hoff : off = ![0, 256 * j, 0])
    (inb : ∀ a, off a + S1x256x128.size a ≤ S1x8192x128.size a) (y : S1x8192x128.Idx) (hy : (y 1).val / 256 = j) :
    y ∈ (Rect.unit (s := S1x8192x128) off S1x256x128.size inb).set := by
  subst hoff
  rw [Rect.mem_set_unit]
  intro a
  have h0 : (y 0).val < 1 := (y 0).isLt
  have h2 : (y 2).val < 128 := (y 2).isLt
  match a with
  | ⟨0, _⟩ => exact ⟨Nat.zero_le _, by show (y 0).val < 0 + 1; omega⟩
  | ⟨1, _⟩ => exact ⟨by show 256 * j ≤ (y 1).val; omega, by show (y 1).val < 256 * j + 256; omega⟩
  | ⟨2, _⟩ => exact ⟨Nat.zero_le _, by show (y 2).val < 0 + 128; omega⟩

/-- The loop makes thirty trips. -/
theorem trips_eq : k0_t1_loop.trips = 30 := by decide +kernel

theorem hz2 : (![0, 0] : Fin 2 → Nat) = fun _ => 0 := funext fun a => by fin_cases a <;> rfl
theorem hz3 : (![0, 0, 0] : Fin 3 → Nat) = fun _ => 0 := funext fun a => by fin_cases a <;> rfl

/-- A load of block `j`'s columns of the queries. -/
theorem ld_qcol (x0 : Vec F S1x128x8192 .bf16) (j : ℕ) (hj : j < 32) (off : Fin 3 → ℕ) (hoff : off = ![0, 0, 256 * j])
    (inb : ∀ a, off a + S1x128x256.size a ≤ S1x128x8192.size a) :
    View.ld x0 (Rect.unit (s := S1x128x8192) off S1x128x256.size inb) = qcol x0 j := by
  have h : off = qoff j := by rw [hoff, qoff, Nat.min_eq_left (by omega)]
  subst h
  rfl

section Trip
variable (𝒱 : Variants) (c : Dev nD) (bd : Option 𝒱.V) (i : grid0.Coords)
  (arg2 : Memref sig .tc .vmem S1x128x8192 .bf16) (harg2 : arg2.IsWhole) (arg3 : Memref sig .tc .vmem S1x8448x128 .bf16) (harg3 : arg3.IsWhole)
  (arg4 : Memref sig .tc .vmem S1x144x8448 .bf16) (harg4 : arg4.IsWhole) (arg5 : Memref sig .tc .vmem S4x64 .f32) (harg5 : arg5.IsWhole)
  (arg6 : Memref sig .tc .vmem S1x128 .f32) (harg6 : arg6.IsWhole) (arg7 : Memref sig .tc .vmem S1x8192x128 .bf16) (harg7 : arg7.IsWhole)
  (arg8 : Memref sig .tc .vmem S8448x512 .f32) (harg8 : arg8.IsWhole) (arg9 : Memref sig .tc .vmem S8x512 .f32) (harg9 : arg9.IsWhole)
  (arg10 : Memref sig .tc .vmem S8448x512 .bf16) (harg10 : arg10.IsWhole) (v34 : FVec F S8x512 .f32)
  (x0 : Vec F S1x128x8192 .bf16) (x1 : Vec F S1x8448x128 .bf16) (x2 : Vec F S1x144x8448 .bf16) (x3 : Vec F S4x64 .f32) (x4 : Vec F S1x128 .f32)
  (G7 : BufTy.Contents (Elt F) arg7.view.ty) (G8 : BufTy.Contents (Elt F) arg8.view.ty) (G9 : BufTy.Contents (Elt F) arg9.view.ty)
  (G10 : BufTy.Contents (Elt F) arg10.view.ty)

local notation "TL" => tripL_k0_t1 (F := F) 𝒱 c bd i arg2 harg2 arg3 harg3 arg4 harg4 arg5 harg5 arg6 harg6 arg7 harg7 arg8 harg8 arg9 harg9 arg10 harg10 k0_pay6 v34 (harg2.unread x0) (harg3.unread x1) (harg4.unread x2) (harg5.unread x3) (harg6.unread x4)
local notation "PB" => pb_k0_t1 (F := F) 𝒱 c bd i arg2 harg2 arg3 harg3 arg4 harg4 arg5 harg5 arg6 harg6 arg7 harg7 arg8 harg8 arg9 harg9 arg10 harg10 k0_pay6 v34 (harg2.unread x0) (harg3.unread x1) (harg4.unread x2) (harg5.unread x3) (harg6.unread x4)

/-- What one trip stores: into the output block `k`'s rows, made of the exponentials it finds; the next block's exponentials,
    made of the scores and maxima it finds; and the scores and maxima of the block after. -/
theorem trip_eq (k : Fin k0_t1_loop.trips) (f7 : BufTy.Contents (Elt F) arg7.view.ty) (f8 : BufTy.Contents (Elt F) arg8.view.ty)
    (f9 : BufTy.Contents (Elt F) arg9.view.ty) (f10 : BufTy.Contents (Elt F) arg10.view.ty) :
    TL k f7 f8 f9 f10
      = ([⟨Rect.unit (s := S1x8192x128) (k0_off1 k) S1x256x128.size (k0_off1_inb k), k0_pay3 (k0_pay2 x3 x2 (arg10.view.read (Elt F) f10)) x4⟩],
         [⟨Rect.unit (s := S8448x512) ![0, 0] S8448x512.size inb_S8448x512_S8448x512_0_0, sBlk x0 x1 (k.val + 2)⟩],
         [⟨Rect.unit (s := S8x512) ![0, 0] S8x512.size inb_S8x512_S8x512_0_0, pmBlk x0 x1 (k.val + 2)⟩],
         [⟨Rect.unit (s := S8448x512) ![0, 0] S8448x512.size inb_S8448x512_S8448x512_0_0,
            k0_pay4 (arg9.view.read (Elt F) f9) (arg8.view.read (Elt F) f8)⟩]) := by
  have hk : k.val < 30 := Nat.lt_of_lt_of_le k.isLt k0_t1_abs.2.1
  have hq : View.readAt (Elt F) arg2.view (Rect.unit (s := S1x128x8192) (k0_off2 k) S1x128x256.size (k0_off2_inb k)).toLoadRect (harg2.unread x0)
      = qcol x0 (k.val + 2) := by
    rw [View.readAt_eq_ld, harg2.read_unread]
    exact ld_qcol x0 (k.val + 2) (by omega) _ ((k0_off2_eq k).trans (by rw [Nat.mul_add])) _
  unfold tripL_k0_t1
  unfold trip_k0_t1
  dsimp only
  sl_unfold_words
  unfold sBlk pmBlk
  rw [← hq]
  have e5 : View.readAt (Elt F) arg5.view (Rect.unit (s := S4x64) ![0, 0] S4x64.size inb_S4x64_S4x64_0_0).toLoadRect (harg5.unread x3) = x3 := by
    rw [View.readAt_full, harg5.read_unread]
  have e4 : View.readAt (Elt F) arg4.view (Rect.unit (s := S1x144x8448) ![0, 0, 0] S1x144x8448.size inb_S1x144x8448_S1x144x8448_0_0_0).toLoadRect (harg4.unread x2) = x2 := by
    rw [View.readAt_full, harg4.read_unread]
  have e6 : View.readAt (Elt F) arg6.view (Rect.unit (s := S1x128) ![0, 0] S1x128.size inb_S1x128_S1x128_0_0).toLoadRect (harg6.unread x4) = x4 := by
    rw [View.readAt_full, harg6.read_unread]
  have e3 : View.readAt (Elt F) arg3.view (Rect.unit (s := S1x8448x128) ![0, 0, 0] S1x8448x128.size inb_S1x8448x128_S1x8448x128_0_0_0).toLoadRect (harg3.unread x1) = x1 := by
    rw [View.readAt_full, harg3.read_unread]
  have e10 : View.readAt (Elt F) arg10.view (Rect.unit (s := S8448x512) ![0, 0] S8448x512.size inb_S8448x512_S8448x512_0_0).toLoadRect f10 = arg10.view.read (Elt F) f10 :=
    View.readAt_full ..
  have e8 : View.readAt (Elt F) arg8.view (Rect.unit (s := S8448x512) ![0, 0] S8448x512.size inb_S8448x512_S8448x512_0_0).toLoadRect f8 = arg8.view.read (Elt F) f8 :=
    View.readAt_full ..
  have e9 : View.readAt (Elt F) arg9.view (Rect.unit (s := S8x512) ![0, 0] S8x512.size inb_S8x512_S8x512_0_0).toLoadRect f9 = arg9.view.read (Elt F) f9 :=
    View.readAt_full ..
  conv_rhs => rw [← e5, ← e4, ← e6, ← e3, ← e10, ← e8, ← e9]
  rfl

/-- Before trip `k` the scratch buffers hold the scores and maxima of block `k + 1` and the exponentials of block `k`, and every
    piece stored so far agrees with the output window. -/
theorem loop_inv (h8 : arg8.view.read (Elt F) G8 = sBlk x0 x1 1) (h9 : arg9.view.read (Elt F) G9 = pmBlk x0 x1 1)
    (h10 : arg10.view.read (Elt F) G10 = eBlk x0 x1 0) (k : ℕ) (hk : k ≤ k0_t1_loop.trips) :
    (arg8.view.read (Elt F) (arg8.view.writes (Elt F) G8 (PB G7 G8 G9 G10 k).2.1) = sBlk x0 x1 (k + 1)
      ∧ arg9.view.read (Elt F) (arg9.view.writes (Elt F) G9 (PB G7 G8 G9 G10 k).2.2.1) = pmBlk x0 x1 (k + 1)
      ∧ arg10.view.read (Elt F) (arg10.view.writes (Elt F) G10 (PB G7 G8 G9 G10 k).2.2.2) = eBlk x0 x1 k)
    ∧ ∀ p ∈ (PB G7 G8 G9 G10 k).1, ∀ x : p.1.shape.Idx, p.2 x = outAll x0 x1 x2 x3 x4 (p.1.emb x) := by
  induction k with
  | zero => exact ⟨⟨h8, h9, h10⟩, fun p hp => absurd hp List.not_mem_nil⟩
  | succ k ih =>
    obtain ⟨⟨i8, i9, i10⟩, ip⟩ := ih (by omega)
    rw [pb_k0_t1_succ (F := F) (k := ⟨k, by omega⟩), trip_eq]
    refine ⟨⟨?_, ?_, ?_⟩, ?_⟩
    · exact View.read_writes_full ..
    · exact View.read_writes_full ..
    · refine (View.read_writes_full ..).trans ?_
      rw [i8, i9]
      rfl
    · intro p hp
      rcases List.mem_cons.mp hp with rfl | hp
      · intro x
        dsimp only
        rw [i10]
        exact piece_outAll x0 x1 x2 x3 x4 k _ (k0_off1_eq _) _ x
      · exact ip p hp

/-- Every block a trip before `k` stored has its piece. -/
theorem loop_cover (k : ℕ) (hk : k ≤ k0_t1_loop.trips) (j : ℕ) (hj : j < k) :
    ∃ p ∈ (PB G7 G8 G9 G10 k).1, ∀ y : S1x8192x128.Idx, (y 1).val / 256 = j → y ∈ p.1.set := by
  induction k with
  | zero => omega
  | succ k ih =>
    rw [pb_k0_t1_succ (F := F) (k := ⟨k, by omega⟩), trip_eq]
    rcases Nat.lt_or_ge j k with h | h
    · obtain ⟨p, hp, hy⟩ := ih (by omega) h
      exact ⟨p, List.mem_cons_of_mem _ hp, hy⟩
    · obtain rfl : j = k := by omega
      refine ⟨_, List.mem_cons_self, fun y hy => ?_⟩
      exact mem_rows j _ (k0_off1_eq _) (k0_off1_inb _) y hy

/-- After the loop the third scratch buffer reads as block 30's exponentials, -/
theorem scr10 (inb : ∀ a, (![0, 0] : Fin 2 → ℕ) a + S8448x512.size a ≤ S8448x512.size a) (L : List (View.Piece (Elt F) S8448x512 .bf16)) (n : ℕ)
    (hn : n = k0_t1_loop.trips) (hL : G10 = arg10.view.writes (Elt F) arg10.view.junk L)
    (h8 : arg8.view.read (Elt F) G8 = sBlk x0 x1 1) (h9 : arg9.view.read (Elt F) G9 = pmBlk x0 x1 1)
    (h10 : arg10.view.read (Elt F) G10 = eBlk x0 x1 0) :
    arg10.view.readCov ((PB G7 G8 G9 G10 n).2.2.2 ++ L) (Rect.unit (s := S8448x512) ![0, 0] S8448x512.size inb).toLoadRect = eBlk x0 x1 30 := by
  subst hn
  refine (View.readAt_full ..).trans ?_
  rw [View.writes_append, ← hL]
  exact (loop_inv 𝒱 c bd i arg2 harg2 arg3 harg3 arg4 harg4 arg5 harg5 arg6 harg6 arg7 harg7 arg8 harg8 arg9 harg9
      arg10 harg10 v34 x0 x1 x2 x3 x4 G7 G8 G9 G10 h8 h9 h10 _ le_rfl).1.2.2.trans (by rw [trips_eq])

/-- the first as block 31's scores, -/
theorem scr8 (inb : ∀ a, (![0, 0] : Fin 2 → ℕ) a + S8448x512.size a ≤ S8448x512.size a) (L : List (View.Piece (Elt F) S8448x512 .f32)) (n : ℕ)
    (hn : n = k0_t1_loop.trips) (hL : G8 = arg8.view.writes (Elt F) arg8.view.junk L)
    (h8 : arg8.view.read (Elt F) G8 = sBlk x0 x1 1) (h9 : arg9.view.read (Elt F) G9 = pmBlk x0 x1 1)
    (h10 : arg10.view.read (Elt F) G10 = eBlk x0 x1 0) :
    arg8.view.readCov ((PB G7 G8 G9 G10 n).2.1 ++ L) (Rect.unit (s := S8448x512) ![0, 0] S8448x512.size inb).toLoadRect = sBlk x0 x1 31 := by
  subst hn
  refine (View.readAt_full ..).trans ?_
  rw [View.writes_append, ← hL]
  exact (loop_inv 𝒱 c bd i arg2 harg2 arg3 harg3 arg4 harg4 arg5 harg5 arg6 harg6 arg7 harg7 arg8 harg8 arg9 harg9
      arg10 harg10 v34 x0 x1 x2 x3 x4 G7 G8 G9 G10 h8 h9 h10 _ le_rfl).1.1.trans (by rw [trips_eq])

/-- and the second as block 31's partial maxima. -/
theorem scr9 (inb : ∀ a, (![0, 0] : Fin 2 → ℕ) a + S8x512.size a ≤ S8x512.size a) (L : List (View.Piece (Elt F) S8x512 .f32)) (n : ℕ)
    (hn : n = k0_t1_loop.trips) (hL : G9 = arg9.view.writes (Elt F) arg9.view.junk L)
    (h8 : arg8.view.read (Elt F) G8 = sBlk x0 x1 1) (h9 : arg9.view.read (Elt F) G9 = pmBlk x0 x1 1)
    (h10 : arg10.view.read (Elt F) G10 = eBlk x0 x1 0) :
    arg9.view.readCov ((PB G7 G8 G9 G10 n).2.2.1 ++ L) (Rect.unit (s := S8x512) ![0, 0] S8x512.size inb).toLoadRect = pmBlk x0 x1 31 := by
  subst hn
  refine (View.readAt_full ..).trans ?_
  rw [View.writes_append, ← hL]
  exact (loop_inv 𝒱 c bd i arg2 harg2 arg3 harg3 arg4 harg4 arg5 harg5 arg6 harg6 arg7 harg7 arg8 harg8 arg9 harg9
      arg10 harg10 v34 x0 x1 x2 x3 x4 G7 G8 G9 G10 h8 h9 h10 _ le_rfl).1.2.1.trans (by rw [trips_eq])

/-- The loop's pieces with the two blocks stored after it are the output window. -/
theorem read_out (inb : ∀ a, (![0, 7936, 0] : Fin 3 → ℕ) a + S1x256x128.size a ≤ S1x8192x128.size a)
    (inb' : ∀ a, (![0, 7680, 0] : Fin 3 → ℕ) a + S1x256x128.size a ≤ S1x8192x128.size a)
    (w w' : FVec F S1x256x128 .bf16) (n : ℕ) (hn : n = k0_t1_loop.trips)
    (h8 : arg8.view.read (Elt F) G8 = sBlk x0 x1 1) (h9 : arg9.view.read (Elt F) G9 = pmBlk x0 x1 1)
    (h10 : arg10.view.read (Elt F) G10 = eBlk x0 x1 0) (hw : w = outBlk x0 x1 x2 x3 x4 31) (hw' : w' = outBlk x0 x1 x2 x3 x4 30) :
    arg7.view.read (Elt F) (arg7.view.writes (Elt F) G7
      (⟨Rect.unit (s := S1x8192x128) ![0, 7936, 0] S1x256x128.size inb, w⟩
        :: ⟨Rect.unit (s := S1x8192x128) ![0, 7680, 0] S1x256x128.size inb', w'⟩ :: (PB G7 G8 G9 G10 n).1)) = outAll x0 x1 x2 x3 x4 := by
  subst hn hw hw'
  funext y
  refine View.read_writes_apply_of_pieces _ _ _ _ ?_ y ?_
  · intro p hp
    rcases List.mem_cons.mp hp with rfl | hp
    · exact piece_outAll x0 x1 x2 x3 x4 31 _ rfl inb
    rcases List.mem_cons.mp hp with rfl | hp
    · exact piece_outAll x0 x1 x2 x3 x4 30 _ rfl inb'
    exact (loop_inv 𝒱 c bd i arg2 harg2 arg3 harg3 arg4 harg4 arg5 harg5 arg6 harg6 arg7 harg7 arg8 harg8 arg9 harg9 arg10 harg10 v34
      x0 x1 x2 x3 x4 G7 G8 G9 G10 h8 h9 h10 _ le_rfl).2 p hp
  · have hy : (y 1).val < 8192 := (y 1).isLt
    rcases Nat.lt_or_ge ((y 1).val / 256) 30 with h | h
    · obtain ⟨p, hp, h'⟩ := loop_cover 𝒱 c bd i arg2 harg2 arg3 harg3 arg4 harg4 arg5 harg5 arg6 harg6 arg7 harg7 arg8 harg8 arg9 harg9
        arg10 harg10 v34 x0 x1 x2 x3 x4 G7 G8 G9 G10 k0_t1_loop.trips le_rfl ((y 1).val / 256) (by rw [trips_eq]; exact h)
      exact ⟨p, List.mem_cons_of_mem _ (List.mem_cons_of_mem _ hp), h' y rfl⟩
    · rcases Nat.lt_or_ge ((y 1).val / 256) 31 with h' | h'
      · exact ⟨_, List.mem_cons_of_mem _ List.mem_cons_self, mem_rows 30 _ rfl inb' y (by omega)⟩
      · exact ⟨_, List.mem_cons_self, mem_rows 31 _ rfl inb y (by omega)⟩
end Trip

/-- The printed spellings of a block's stored rows, -/
theorem row_of_e (x0 : Vec F S1x128x8192 .bf16) (x1 : Vec F S1x8448x128 .bf16) (x2 : Vec F S1x144x8448 .bf16) (x3 : Vec F S4x64 .f32)
    (x4 : Vec F S1x128 .f32) (j : ℕ) {a : Vec F S4x64 .f32} {b : Vec F S1x144x8448 .bf16} {e : Vec F S8448x512 .bf16} {d : Vec F S1x128 .f32}
    (ha : a = x3) (hb : b = x2) (he : e = eBlk x0 x1 j) (hd : d = x4) :
    k0_pay18 (k0_pay17 a b e) d = outBlk x0 x1 x2 x3 x4 j := by
  subst ha hb he hd; rfl

/-- of the last block's, -/
theorem row_of_e' (x0 : Vec F S1x128x8192 .bf16) (x1 : Vec F S1x8448x128 .bf16) (x2 : Vec F S1x144x8448 .bf16) (x3 : Vec F S4x64 .f32)
    (x4 : Vec F S1x128 .f32) (j : ℕ) {a : Vec F S4x64 .f32} {b : Vec F S1x144x8448 .bf16} {e : Vec F S8448x512 .bf16}
    {d : Vec F S1x128 .f32} (ha : a = x3) (hb : b = x2) (he : e = eBlk x0 x1 j) (hd : d = x4) :
    k0_pay1 (k0_pay20 a) b e d = outBlk x0 x1 x2 x3 x4 j := by
  subst ha hb he hd; rfl

/-- of its exponentials, -/
theorem e_of_s (x0 : Vec F S1x128x8192 .bf16) (x1 : Vec F S1x8448x128 .bf16) (j : ℕ) {p : Vec F S8x512 .f32} {s : Vec F S8448x512 .f32}
    (hp : p = pmBlk x0 x1 j) (hs : s = sBlk x0 x1 j) : k0_pay19 p s = eBlk x0 x1 j := by
  subst hp hs; rfl

/-- of the first blocks' scores, maxima and exponentials. -/
theorem s_of_q (x0 : Vec F S1x128x8192 .bf16) (x1 : Vec F S1x8448x128 .bf16) (j : ℕ) {q : Vec F S1x128x256 .bf16} {k : Vec F S1x8448x128 .bf16}
    (hq : q = qcol x0 j) (hk : k = x1) :
    k0_pay8 q k = sBlk x0 x1 j ∧ k0_pay10 (k0_pay9 q k) = pmBlk x0 x1 j ∧ k0_pay13 k0_pay6 q k = sBlk x0 x1 j
      ∧ k0_pay14 k0_pay6 q k = pmBlk x0 x1 j ∧ k0_pay11 (pmBlk x0 x1 j) (sBlk x0 x1 j) = eBlk x0 x1 j := by
  subst hq hk; exact ⟨rfl, rfl, rfl, rfl, rfl⟩

end Cert.KernelIdeal.Att
-- ==== Proof.Body.lean ====
/-
  The attention body's run, with what its output window ends with: `outAll` of the blocks it is given.
-/
module

public import proofs.«01_k».proof.Proof.Gen.KernelIdeal.Frame.Runs
public import proofs.«01_k».proof.Proof.Loop

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging buffers holding the input blocks, the body runs and leaves the inputs as they were, the scratch buffers at
    some contents and the output window at `outAll` of the input blocks. -/
theorem body_run (c : Dev nD) (i : grid0.Coords) (arg2 : Memref sig .tc .vmem S1x128x8192 .bf16) (harg2 : arg2.IsWhole) (arg3 : Memref sig .tc .vmem S1x8448x128 .bf16) (harg3 : arg3.IsWhole) (arg4 : Memref sig .tc .vmem S1x144x8448 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S8448x512 .f32) (harg8 : arg8.IsWhole) (arg9 : Memref sig .tc .vmem S8x512 .f32) (harg9 : arg9.IsWhole) (arg10 : Memref sig .tc .vmem S8448x512 .bf16) (harg10 : arg10.IsWhole)
    (x0 : Vec F S1x128x8192 .bf16) (x1 : Vec F S1x8448x128 .bf16) (x2 : Vec F S1x144x8448 .bf16) (x3 : Vec F S4x64 .f32) (x4 : Vec F S1x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outAll x0 x1 x2 x3 x4) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10) K := by
    simp only [cc0_attn_eq_skeleton]; unfold cc0_attn_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      have e2 : ∀ (j : ℕ) (hj : j < 32) (off : Fin 3 → ℕ) (hoff : off = ![0, 0, 256 * j]) (inb : ∀ a, off a + S1x128x256.size a ≤ S1x128x8192.size a),
          View.readAt (Elt F) arg2.view (Rect.unit (s := S1x128x8192) off S1x128x256.size inb).toLoadRect (harg2.unread x0) = qcol x0 j := by
        intro j hj off hoff inb
        rw [View.readAt_eq_ld, harg2.read_unread]
        exact ld_qcol x0 j hj off hoff inb
      have e3 : ∀ inb, View.readAt (Elt F) arg3.view (Rect.unit (s := S1x8448x128) ![0, 0, 0] S1x8448x128.size inb).toLoadRect (harg3.unread x1) = x1 := by
        intro inb; rw [View.readAt_full, harg3.read_unread]
      have e4 : ∀ inb, View.readAt (Elt F) arg4.view (Rect.unit (s := S1x144x8448) ![0, 0, 0] S1x144x8448.size inb).toLoadRect (harg4.unread x2) = x2 := by
        intro inb; rw [View.readAt_full, harg4.read_unread]
      have e5 : ∀ inb, View.readAt (Elt F) arg5.view (Rect.unit (s := S4x64) ![0, 0] S4x64.size inb).toLoadRect (harg5.unread x3) = x3 := by
        intro inb; rw [View.readAt_full, harg5.read_unread]
      have e6 : ∀ inb, View.readAt (Elt F) arg6.view (Rect.unit (s := S1x128) ![0, 0] S1x128.size inb).toLoadRect (harg6.unread x4) = x4 := by
        intro inb; rw [View.readAt_full, harg6.read_unread]
      have s0 := s_of_q x0 x1 0 (e2 0 (by decide) ![0, 0, 0] rfl inb_S1x128x8192_S1x128x256_0_0_0) (e3 inb_S1x8448x128_S1x8448x128_0_0_0)
      have s1 := s_of_q x0 x1 1 (e2 1 (by decide) ![0, 0, 256] rfl inb_S1x128x8192_S1x128x256_0_0_256) (e3 inb_S1x8448x128_S1x8448x128_0_0_0)
      have h8 : View.read (Elt F) arg8.view (arg8.view.writes (Elt F) arg8.view.junk (body_run.sl.HS0_2 c arg2 harg2 arg3 harg3 x0 x1)) = sBlk x0 x1 1 := by
        sl_unfold_words
        exact (View.read_writes_full ..).trans s1.2.2.1
      have h9 : View.read (Elt F) arg9.view (arg9.view.writes (Elt F) arg9.view.junk (body_run.sl.HS1_2 c arg2 harg2 arg3 harg3 x0 x1)) = pmBlk x0 x1 1 := by
        sl_unfold_words
        exact (View.read_writes_full ..).trans s1.2.2.2.1
      have h10 : View.read (Elt F) arg10.view (arg10.view.writes (Elt F) arg10.view.junk (body_run.sl.HS2_1 c arg2 harg2 arg3 harg3 arg8 arg9 x0 x1)) = eBlk x0 x1 0 := by
        sl_unfold_words
        refine (View.read_writes_full ..).trans ?_
        refine Eq.trans ?_ s0.2.2.2.2
        exact congr (congrArg k0_pay11 ((View.readCov_full ..).trans s0.2.1)) ((View.readCov_full ..).trans s0.1)
      refine read_out _ _ _ _ _ _ _ _ _ _ _ _ _ _ _ _ _ _ _ _ _ _ _ _ _ _ _ _ _ _ _ _ _ _ _ _ _ rfl h8 h9 h10 ?_ ?_
      · unfold body_run.sl.r_2
        refine row_of_e' x0 x1 x2 x3 x4 31 (e5 _) (e4 _) ?_ (e6 _)
        unfold body_run.sl.v153
        unfold body_run.sl.HS2_1_1
        refine (View.readCov_full ..).trans ?_
        refine e_of_s x0 x1 31 ?_ ?_
        · exact scr9 (hn := rfl) (hL := rfl) (h8 := h8) (h9 := h9) (h10 := h10) ..
        · exact scr8 (hn := rfl) (hL := rfl) (h8 := h8) (h9 := h9) (h10 := h10) ..
      · unfold body_run.sl.r_1
        refine row_of_e x0 x1 x2 x3 x4 30 (e5 _) (e4 _) ?_ (e6 _)
        unfold body_run.sl.v88
        exact scr10 (hn := rfl) (hL := rfl) (h8 := h8) (h9 := h9) (h10 := h10) ..
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Att

end
-- ==== Proof.Launch.lean ====
/-
  The attention call's launch with its result's contents: the body's run (`body_run`) at every grid point is the
  pipeline's obligation, and the launch leaves the result array at what the grid points write back.
-/
module

public import proofs.«01_k».proof.Proof.Body
public import Idealize.ShloMosaic.Lib.Pipeline.Value
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` leaves in the output window. -/
def outPt (c : Dev nD) (t : Fin cfg0.N) : Vec F S1x8192x128 .bf16 :=
  outAll (iblk m c 0 t) (iblk m c 1 t) (iblk m c 2 t) (iblk m c 3 t) (iblk m c 4 t)

/-- The pipeline's proof data: inputs stay at their blocks, the output window ends at `outPt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outPt m c t
  Φ _ := Pipeline.ΦA spec0 c
  q _ := fullShare
  owed _ := 0

theorem arr_eq (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = outPt m c t := by dsimp only [dats]

theorem found0 (c : Dev nD) (t : Fin cfg0.N) (d) : (dats m 0 c).before 0 t d = iblk m c 0 t :=
  before0_0_of m (dats m 0 c) (arr_eq m c 0) (left0 m c) t d
theorem found1 (c : Dev nD) (t : Fin cfg0.N) (d) : (dats m 0 c).before 1 t d = iblk m c 1 t :=
  before0_1_of m (dats m 0 c) (arr_eq m c 1) (left1 m c) t d
theorem found2 (c : Dev nD) (t : Fin cfg0.N) (d) : (dats m 0 c).before 2 t d = iblk m c 2 t :=
  before0_2_of m (dats m 0 c) (arr_eq m c 2) (left2 m c) t d
theorem found3 (c : Dev nD) (t : Fin cfg0.N) (d) : (dats m 0 c).before 3 t d = iblk m c 3 t :=
  before0_3_of m (dats m 0 c) (arr_eq m c 3) (left3 m c) t d
theorem found4 (c : Dev nD) (t : Fin cfg0.N) (d) : (dats m 0 c).before 4 t d = iblk m c 4 t :=
  before0_4_of m (dats m 0 c) (arr_eq m c 4) (left4 m c) t d

/-- What the body is called with at point `t`, the windows one by one, -/
def ptPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def ptPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: its inputs hold their blocks, so its run applies. -/
theorem pt_body (c : Dev nD) (t : Fin cfg0.N) :
    ptPre m c t ⊢ wp frame (wpE (defs₀ (F := F)) Variants.none c none) Set.univ (bodyAt0 t) (fun _ => ptPost m c t) := by
  unfold ptPre ptPost bodyAt0
  simp only [found0, found1, found2, found3, found4]
  rw [show (dats m 0 c).Φ t.succ = (dats m 0 c).Φ t.castSucc from rfl,
    show (dats m 0 c).owesAt () t.succ = (dats m 0 c).owesAt () t.castSucc from rfl,
    left0, left1, left2, left3, left4, left5]
  rw [show (dats m 0 c).Φ t.castSucc = Pipeline.ΦA spec0 c from rfl, PhiA0_eq]
  unfold outPt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, row_eq]
  exact triple_restated (pt_body m c t) rfl .rfl fun _ => .rfl

set_option backward.isDefEq.respectTransparency.types false in
/-- The launch: every execution ends with the arrays at the library's values and every semaphore counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arr_eq m) (hΦ := fun _ _ => rfl)

/-- The same without the counters. -/
theorem run_post : θ_run defs (onTc (τ := τ) (main (F := F))) (s₀ m ρ) (Pipeline.FramePost cfgs (dats m) 0 (V m)) :=
  (θ_run defs _ _).mono (fun _ h => h.1) (run_all m ρ)

/-- The arguments end as launched. -/
def Kept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)

theorem kept : θ_run defs (onTc (τ := τ) (main (F := F))) ⟨m, fun _ => 0, ρ⟩ (fun r => ∀ c : Dev nD, Kept m r c) :=
  frame_of m ρ (dats m) (arr_eq m) (run_post m ρ)

/-- The frame: the arguments end as launched and every semaphore counter at zero. -/
theorem quiet : θ_run defs (onTc (τ := τ) (main (F := F))) ⟨m, fun _ => 0, ρ⟩ (fun r => (∀ c : Dev nD, Kept m r c)
      ∧ r.2.sem = fun _ => 0) :=
  θ_run_and (kept m ρ) ((θ_run defs _ _).mono (fun _ h => h.2) (run_all m ρ))

/-- The result array the launch leaves, with the arguments as launched. -/
theorem run_result : θ_run defs (onTc (τ := τ) (main (F := F))) ⟨m, fun _ => 0, ρ⟩ (fun r => ∀ c : Dev nD,
      r.2.mem ((c.tc : Thread nD τ).loc main_v24) = (dats m 0 c).arrAt 5 cfg0.N ∧ Kept m r c) :=
  (θ_run defs _ _).mono (fun _ h c => ⟨h.2 c |>.1 5, h.1 c⟩) (θ_run_and (kept m ρ) (run_post m ρ))

/-- What point `t` writes back is what its body left. -/
theorem flushed_out (c : Dev nD) (t : Fin cfg0.N) :
    (dats m 0 c).flushed 5 t = (cfg0.win 5).cut (grid0.coords t) (outPt m c t) := by
  show (cfg0.win 5).cut (grid0.coords t) ((dats m 0 c).after 5 t) = _
  rw [left5]

/-- Distinct points write distinct blocks, -/
theorem index_inj : ∀ t t' : Fin cfg0.N, win0_5.index t = win0_5.index t' → t = t' :=
  (by decide +kernel : ∀ t t' : Fin grid0.N, win0_5.index t = win0_5.index t' → t = t')

/-- so block `t` of the result array is what point `t` wrote back. -/
theorem block_out (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 (fun t t' _ _ hne => (cfg0.win 5).disjoint_blk fun h => hne (index_inj t t' h)) cfg0.N t t.isLt hf

end Cert.KernelIdeal.Att

end
-- ==== Proof.KerRead.lean ====
/- What the attention body leaves in its output window, read at an index. -/
module

public import proofs.«01_k».proof.Proof.Loop
public import Idealize.ShloMosaic.Lib.Pointwise

@[expose] public section

set_option maxRecDepth 16384

noncomputable section

namespace Cert.KernelIdeal.Att

open Cert.KernelIdeal Cert.KernelIdeal.Gen
open Idealize.ShloMosaic Idealize.ShloMosaic.TcCoe Idealize.SL.Sem

theorem mask_at (r : Fin 128) (c : Fin 256) : k0_pay6 (ix2 r c) = if r.val % 64 < 32 then 1#1 else 0#1 := by
  have h : k0_pay6 (ix2 r c) = k0_pay6 (ix2 r 0) := by pointwise [k0_pay6]
  rw [h]
  clear h c
  pointwise [k0_pay6]
  revert r
  decide +kernel

/-- The first map's scores, -/
theorem raw_lo (x0 : Vec Ideal S1x128x256 .bf16) (x1 : Vec Ideal S1x8448x128 .bf16) (k : Fin 8448) (n : Fin 256) (n' : Fin 512) (hn : n'.val = n.val) :
    k0_pay5 k0_pay6 x0 x1 (ix2 k n') = ∑ l : Fin 128, x1 (ix3 0 k l) * (if l.val % 64 < 32 then x0 (ix3 0 l n) else 0) := by
  have hn' : n' = ⟨n.val, by omega⟩ := Fin.ext hn
  rw [hn']
  pointwise [k0_pay5]
  refine Finset.sum_congr rfl fun l _ => ?_
  rw [mask_at]
  split
  · rfl
  · exact (mul_zero (x1 (ix3 0 k l))).symm

/-- and the second's. -/
theorem raw_hi (x0 : Vec Ideal S1x128x256 .bf16) (x1 : Vec Ideal S1x8448x128 .bf16) (k : Fin 8448) (n : Fin 256) (n' : Fin 512) (hn : n'.val = 256 + n.val) :
    k0_pay5 k0_pay6 x0 x1 (ix2 k n') = ∑ l : Fin 128, x1 (ix3 0 k l) * (if l.val % 64 < 32 then 0 else x0 (ix3 0 l n)) := by
  have hn' : n' = ⟨256 + n.val, by omega⟩ := Fin.ext hn
  rw [hn']
  pointwise [k0_pay5]
  refine Finset.sum_congr rfl fun l _ => ?_
  rw [mask_at]
  split
  · exact (mul_zero (x1 (ix3 0 k l))).symm
  · rfl

theorem qcol_at (x0 : Vec Ideal S1x128x8192 .bf16) (j : ℕ) (hj : j < 32) (l : Fin 128) (n : Fin 256) :
    qcol x0 j (ix3 0 l n) = x0 (ix3 0 l ⟨256 * j + n.val, by omega⟩) := by
  unfold qcol
  pointwise
  congr 1
  funext a
  apply Fin.ext
  match a with
  | ⟨0, _⟩ => rfl
  | ⟨1, _⟩ => show 0 + l.val = l.val; omega
  | ⟨2, _⟩ => show min (256 * j) 7936 + n.val = 256 * j + n.val; omega

theorem s_at (x : FVec Ideal S8448x512 .f32) (k : Fin 8448) (n : Fin 512) :
    k0_pay15 x (ix2 k n) = x (ix2 k n) := by
  pointwise [k0_pay15]

theorem pm_at (x : FVec Ideal S8448x512 .f32) (k : Fin 8) (n : Fin 512) :
    k0_pay16 x (ix2 k n) = Finset.univ.fold max (Ideal.ofBits .f32 0xFF800000#32) (fun r : Fin 1056 => x (ix2 ⟨r.val * 8 + k.val, by omega⟩ n)) := by
  unfold k0_pay16
  dsimp only
  simp only [pointwise]
  try rfl

theorem e_at (p : Vec Ideal S8x512 .f32) (s : Vec Ideal S8448x512 .f32) (k : Fin 8448) (n : Fin 512) :
    k0_pay4 p s (ix2 k n) = Ideal.exp2 (s (ix2 k n) - Finset.univ.fold max (Ideal.ofBits .f32 0xFF800000#32) (fun r => p (ix2 r n))) := by
  pointwise [k0_pay4]
  try rfl

/-- The second map's weight. -/
def lamOf (l : Vec Ideal S4x64 .f32) : EReal :=
  Ideal.exp (∑ d : Fin 64, l (ix2 0 d) * l (ix2 1 d)) - Ideal.exp (∑ d : Fin 64, l (ix2 2 d) * l (ix2 3 d)) + Ideal.ofBits .f32 0x3E4CCCCD#32

/-- One map's output for a column of exponentials. -/
def mapOf (v : Vec Ideal S1x144x8448 .bf16) (x : Vec Ideal S8448x512 .f32) (d : Fin 128) (n : Fin 512) : EReal :=
  (∑ t : Fin 8448, v (ix3 0 ⟨d.val, by omega⟩ t) * x (ix2 t n)) * Ideal.div 1 (∑ t : Fin 8448, v (ix3 0 128 t) * x (ix2 t n))

/-- The difference of the two. -/
def diffOf (l : Vec Ideal S4x64 .f32) (v : Vec Ideal S1x144x8448 .bf16) (x : Vec Ideal S8448x512 .f32) (r : Fin 256) (d : Fin 128) : EReal :=
  mapOf v x d ⟨r.val, by omega⟩ - lamOf l * mapOf v x d ⟨256 + r.val, by omega⟩

theorem o_at (l : Vec Ideal S4x64 .f32) (v : Vec Ideal S1x144x8448 .bf16) (x : Vec Ideal S8448x512 .bf16) (d : Fin 128) (r : Fin 256) :
    k0_pay2 l v x (ix2 d r) = diffOf l v x r d
      * Ideal.rsqrt (Ideal.div (∑ e : Fin 128, diffOf l v x r e * diffOf l v x r e) (Ideal.ofBits .f32 0x43000000#32) + Ideal.ofBits .f32 0x358637BD#32) := by
  pointwise [k0_pay2]
  rfl

theorem g_at (o : FVec Ideal S128x256 .f32) (g : Vec Ideal S1x128 .f32) (r : Fin 256) (d : Fin 128) :
    k0_pay3 o g (ix3 0 r d) = o (ix2 d r) * (g (ix2 0 d) * Ideal.ofBits .f32 0x3F4CCCCD#32) := by
  pointwise [k0_pay3]

end Cert.KernelIdeal.Att

end
-- ==== Proof.HostRead.lean ====
/- The arrays the attention call is given, and its windows' blocks, read at an index in the arguments. -/
module

public import proofs.«01_k».proof.Proof.Gen.KernelIdeal.Frame.Runs
public import Idealize.ShloMosaic.Lib.Pointwise
public import Idealize.ShloMosaic.Lib.StableHlo.ReadAt

@[expose] public section

set_option maxRecDepth 16384

noncomputable section

namespace Cert.KernelIdeal.Att

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The dimension that lane `l` of the interleaved queries and keys holds, of its own map. -/
def dOf (l : Fin 128) : Fin 64 := ⟨l.val / 16 % 2 * 32 + l.val / 64 * 16 + l.val % 16, by omega⟩

/-- What the queries are scaled by. -/
def qScale : EReal := Ideal.div (Ideal.ofBits .f32 0x3E000000#32) (Ideal.log (Ideal.ofBits .f32 0x40000000#32))

theorem keys_lo (b : Fin 4) (h : Fin 8) (t : Fin 8448) (l : Fin 128) (hl : l.val % 64 < 32) :
    V m c main_v17 (ix3 b t ⟨h.val * 128 + l.val, by omega⟩) = m ((c : Thread nD τ).loc main_arg2) (ix4 b h t (dOf l)) := by
  unfold V
  after_reads_at
  rw [dif_pos (by omega)]
  after_reads_at
  show m _ _ = m _ _
  congr 1
  funext a
  apply Fin.ext
  match a with
  | ⟨0, _⟩ => rfl
  | ⟨1, _⟩ => show (h.val * 128 + l.val) / 128 = h.val; omega
  | ⟨2, _⟩ => rfl
  | ⟨3, _⟩ =>
    show (h.val * 128 + l.val) % 128 / 32 % 2 * 64 + (h.val * 128 + l.val) % 128 / 16 % 2 * 32 + (h.val * 128 + l.val) % 128 / 64 * 16 + (h.val * 128 + l.val) % 128 % 16
      = l.val / 16 % 2 * 32 + l.val / 64 * 16 + l.val % 16
    omega

theorem keys_hi (b : Fin 4) (h : Fin 8) (t : Fin 8448) (l : Fin 128) (hl : ¬ l.val % 64 < 32) :
    V m c main_v17 (ix3 b t ⟨h.val * 128 + l.val, by omega⟩) = m ((c : Thread nD τ).loc main_arg3) (ix4 b h t (dOf l)) := by
  unfold V
  after_reads_at
  rw [dif_neg (by omega)]
  after_reads_at
  show m _ _ = m _ _
  congr 1
  funext a
  apply Fin.ext
  match a with
  | ⟨0, _⟩ => rfl
  | ⟨1, _⟩ => show (h.val * 128 + l.val) / 128 = h.val; omega
  | ⟨2, _⟩ => rfl
  | ⟨3, _⟩ =>
    show (h.val * 128 + l.val) % 128 / 32 % 2 * 64 + (h.val * 128 + l.val) % 128 / 16 % 2 * 32 + (h.val * 128 + l.val) % 128 / 64 * 16 + (h.val * 128 + l.val) % 128 % 16 - 64
      = l.val / 16 % 2 * 32 + l.val / 64 * 16 + l.val % 16
    omega

theorem queries_lo (b : Fin 4) (h : Fin 8) (t : Fin 8192) (l : Fin 128) (hl : l.val % 64 < 32) :
    V m c main_v10 (ix3 b ⟨h.val * 128 + l.val, by omega⟩ t) = HMul.hMul (α := EReal) (m ((c : Thread nD τ).loc main_arg0) (ix4 b h t (dOf l))) qScale := by
  unfold V
  after_reads_at
  rw [dif_pos (by omega)]
  after_reads_at
  refine congrArg (fun x : EReal => x * qScale) ?_
  show m _ _ = m _ _
  congr 1
  funext a
  apply Fin.ext
  match a with
  | ⟨0, _⟩ => rfl
  | ⟨1, _⟩ => show (h.val * 128 + l.val) / 128 = h.val; omega
  | ⟨2, _⟩ => rfl
  | ⟨3, _⟩ =>
    show (h.val * 128 + l.val) % 128 / 32 % 2 * 64 + (h.val * 128 + l.val) % 128 / 16 % 2 * 32 + (h.val * 128 + l.val) % 128 / 64 * 16 + (h.val * 128 + l.val) % 128 % 16
      = l.val / 16 % 2 * 32 + l.val / 64 * 16 + l.val % 16
    omega

theorem queries_hi (b : Fin 4) (h : Fin 8) (t : Fin 8192) (l : Fin 128) (hl : ¬ l.val % 64 < 32) :
    V m c main_v10 (ix3 b ⟨h.val * 128 + l.val, by omega⟩ t) = HMul.hMul (α := EReal) (m ((c : Thread nD τ).loc main_arg1) (ix4 b h t (dOf l))) qScale := by
  unfold V
  after_reads_at
  rw [dif_neg (by omega)]
  after_reads_at
  refine congrArg (fun x : EReal => x * qScale) ?_
  show m _ _ = m _ _
  congr 1
  funext a
  apply Fin.ext
  match a with
  | ⟨0, _⟩ => rfl
  | ⟨1, _⟩ => show (h.val * 128 + l.val) / 128 = h.val; omega
  | ⟨2, _⟩ => rfl
  | ⟨3, _⟩ =>
    show (h.val * 128 + l.val) % 128 / 32 % 2 * 64 + (h.val * 128 + l.val) % 128 / 16 % 2 * 32 + (h.val * 128 + l.val) % 128 / 64 * 16 + (h.val * 128 + l.val) % 128 % 16 - 64
      = l.val / 16 % 2 * 32 + l.val / 64 * 16 + l.val % 16
    omega

theorem vals_lo (b : Fin 4) (h : Fin 8) (t : Fin 8448) (e : Fin 128) :
    V m c main_v22 (ix3 b ⟨h.val * 144 + e.val, by omega⟩ t) = m ((c : Thread nD τ).loc main_arg4) (ix4 b h t e) := by
  unfold V
  after_reads_at
  rw [dif_pos (by omega)]
  after_reads_at
  show m _ _ = m _ _
  congr 1
  funext a
  apply Fin.ext
  match a with
  | ⟨0, _⟩ => rfl
  | ⟨1, _⟩ => rfl
  | ⟨2, _⟩ => rfl
  | ⟨3, _⟩ => show (h.val * 144 + e.val) % 144 = e.val; omega

theorem vals_one (b : Fin 4) (h : Fin 8) (t : Fin 8448) :
    V m c main_v22 (ix3 b ⟨h.val * 144 + 128, by omega⟩ t) = (1 : EReal) := by
  unfold V
  after_reads_at
  rw [dif_neg (by omega)]
  after_reads_at

theorem lam_at (a : Fin 4) (d : Fin 64) : V m c main_v23 (ix2 a d) = m ((c : Thread nD τ).loc main_arg5) (ix3 0 a d) := by
  unfold V
  after_reads_at

/-! ### The windows' blocks -/

/-- The grid point of batch `b` and head `h`. -/
def pt (b : Fin 4) (h : Fin 8) : Fin cfg0.N := ⟨b.val * 8 + h.val, by show b.val * 8 + h.val < 32; omega⟩

theorem idx0 : ∀ (b : Fin 4) (h : Fin 8), win0_0.index (pt b h) = ![b.val, h.val, 0] := by decide +kernel
theorem idx1 : ∀ (b : Fin 4) (h : Fin 8), win0_1.index (pt b h) = ![b.val, 0, h.val] := by decide +kernel
theorem idx2 : ∀ (b : Fin 4) (h : Fin 8), win0_2.index (pt b h) = ![b.val, h.val, 0] := by decide +kernel
theorem idx3 : ∀ (b : Fin 4) (h : Fin 8), win0_3.index (pt b h) = ![0, 0] := by decide +kernel
theorem idx4 : ∀ (b : Fin 4) (h : Fin 8), win0_4.index (pt b h) = ![0, 0] := by decide +kernel
theorem idx5 : ∀ (b : Fin 4) (h : Fin 8), win0_5.index (pt b h) = ![b.val, 0, h.val] := by decide +kernel
theorem flush5 : ∀ (b : Fin 4) (h : Fin 8), (cfg0.win 5).flush (pt b h) = true := by decide +kernel

theorem rd0 (A : Buf (Elt Ideal) ((c : Thread nD τ).loc (Pipeline.arrRef spec0 0))) (b : Fin 4) (h : Fin 8) (l : Fin 128) (s : Fin 8192) :
    (((cfg0.win 0).blk (pt b h)).view.read (Elt Ideal) A : Vec Ideal S1x128x8192 .bf16) (ix3 0 l s) = (A : Vec Ideal S4x1024x8192 .bf16) (ix3 b ⟨h.val * 128 + l.val, by omega⟩ s) := by
  rw [View.read_apply]
  refine congrArg (A : Vec Ideal S4x1024x8192 .bf16) ?_
  funext x
  apply Fin.ext
  match x with
  | ⟨0, _⟩ => show win0_0.index (pt b h) 0 * 1 + 1 * 0 = b.val; rw [idx0]; show b.val * 1 + 1 * 0 = _; omega
  | ⟨1, _⟩ => show win0_0.index (pt b h) 1 * 128 + 1 * l.val = h.val * 128 + l.val; rw [idx0]; show h.val * 128 + 1 * l.val = _; omega
  | ⟨2, _⟩ => show win0_0.index (pt b h) 2 * 8192 + 1 * s.val = s.val; rw [idx0]; show 0 * 8192 + 1 * s.val = _; omega

theorem blk0 (b : Fin 4) (h : Fin 8) (l : Fin 128) (s : Fin 8192) :
    (iblk m c 0 (pt b h) : Vec Ideal S1x128x8192 .bf16) (ix3 0 l s) = V m c main_v10 (ix3 b ⟨h.val * 128 + l.val, by omega⟩ s) :=
  rd0 c (V m c main_v10) b h l s

theorem rd1 (A : Buf (Elt Ideal) ((c : Thread nD τ).loc (Pipeline.arrRef spec0 1))) (b : Fin 4) (h : Fin 8) (t : Fin 8448) (l : Fin 128) :
    (((cfg0.win 1).blk (pt b h)).view.read (Elt Ideal) A : Vec Ideal S1x8448x128 .bf16) (ix3 0 t l) = (A : Vec Ideal S4x8448x1024 .bf16) (ix3 b t ⟨h.val * 128 + l.val, by omega⟩) := by
  rw [View.read_apply]
  refine congrArg (A : Vec Ideal S4x8448x1024 .bf16) ?_
  funext x
  apply Fin.ext
  match x with
  | ⟨0, _⟩ => show win0_1.index (pt b h) 0 * 1 + 1 * 0 = b.val; rw [idx1]; show b.val * 1 + 1 * 0 = _; omega
  | ⟨1, _⟩ => show win0_1.index (pt b h) 1 * 8448 + 1 * t.val = t.val; rw [idx1]; show 0 * 8448 + 1 * t.val = _; omega
  | ⟨2, _⟩ => show win0_1.index (pt b h) 2 * 128 + 1 * l.val = h.val * 128 + l.val; rw [idx1]; show h.val * 128 + 1 * l.val = _; omega

theorem blk1 (b : Fin 4) (h : Fin 8) (t : Fin 8448) (l : Fin 128) :
    (iblk m c 1 (pt b h) : Vec Ideal S1x8448x128 .bf16) (ix3 0 t l) = V m c main_v17 (ix3 b t ⟨h.val * 128 + l.val, by omega⟩) :=
  rd1 c (V m c main_v17) b h t l

theorem rd2 (A : Buf (Elt Ideal) ((c : Thread nD τ).loc (Pipeline.arrRef spec0 2))) (b : Fin 4) (h : Fin 8) (r : Fin 144) (t : Fin 8448) :
    (((cfg0.win 2).blk (pt b h)).view.read (Elt Ideal) A : Vec Ideal S1x144x8448 .bf16) (ix3 0 r t) = (A : Vec Ideal S4x1152x8448 .bf16) (ix3 b ⟨h.val * 144 + r.val, by omega⟩ t) := by
  rw [View.read_apply]
  refine congrArg (A : Vec Ideal S4x1152x8448 .bf16) ?_
  funext x
  apply Fin.ext
  match x with
  | ⟨0, _⟩ => show win0_2.index (pt b h) 0 * 1 + 1 * 0 = b.val; rw [idx2]; show b.val * 1 + 1 * 0 = _; omega
  | ⟨1, _⟩ => show win0_2.index (pt b h) 1 * 144 + 1 * r.val = h.val * 144 + r.val; rw [idx2]; show h.val * 144 + 1 * r.val = _; omega
  | ⟨2, _⟩ => show win0_2.index (pt b h) 2 * 8448 + 1 * t.val = t.val; rw [idx2]; show 0 * 8448 + 1 * t.val = _; omega

theorem blk2 (b : Fin 4) (h : Fin 8) (r : Fin 144) (t : Fin 8448) :
    (iblk m c 2 (pt b h) : Vec Ideal S1x144x8448 .bf16) (ix3 0 r t) = V m c main_v22 (ix3 b ⟨h.val * 144 + r.val, by omega⟩ t) :=
  rd2 c (V m c main_v22) b h r t

theorem rd3 (A : Buf (Elt Ideal) ((c : Thread nD τ).loc (Pipeline.arrRef spec0 3))) (b : Fin 4) (h : Fin 8) (a : Fin 4) (d : Fin 64) :
    (((cfg0.win 3).blk (pt b h)).view.read (Elt Ideal) A : Vec Ideal S4x64 .f32) (ix2 a d) = (A : Vec Ideal S4x64 .f32) (ix2 a d) := by
  rw [View.read_apply]
  refine congrArg (A : Vec Ideal S4x64 .f32) ?_
  funext x
  apply Fin.ext
  match x with
  | ⟨0, _⟩ => show win0_3.index (pt b h) 0 * 4 + 1 * a.val = a.val; rw [idx3]; show 0 * 4 + 1 * a.val = _; omega
  | ⟨1, _⟩ => show win0_3.index (pt b h) 1 * 64 + 1 * d.val = d.val; rw [idx3]; show 0 * 64 + 1 * d.val = _; omega

theorem blk3 (b : Fin 4) (h : Fin 8) (a : Fin 4) (d : Fin 64) :
    (iblk m c 3 (pt b h) : Vec Ideal S4x64 .f32) (ix2 a d) = V m c main_v23 (ix2 a d) :=
  rd3 c (V m c main_v23) b h a d

theorem rd4 (A : Buf (Elt Ideal) ((c : Thread nD τ).loc (Pipeline.arrRef spec0 4))) (b : Fin 4) (h : Fin 8) (d : Fin 128) :
    (((cfg0.win 4).blk (pt b h)).view.read (Elt Ideal) A : Vec Ideal S1x128 .f32) (ix2 0 d) = (A : Vec Ideal S1x128 .f32) (ix2 0 d) := by
  rw [View.read_apply]
  refine congrArg (A : Vec Ideal S1x128 .f32) ?_
  funext x
  apply Fin.ext
  match x with
  | ⟨0, _⟩ => show win0_4.index (pt b h) 0 * 1 + 1 * 0 = 0; rw [idx4]; show 0 * 1 + 1 * 0 = _; omega
  | ⟨1, _⟩ => show win0_4.index (pt b h) 1 * 128 + 1 * d.val = d.val; rw [idx4]; show 0 * 128 + 1 * d.val = _; omega

theorem blk4 (b : Fin 4) (h : Fin 8) (d : Fin 128) :
    (iblk m c 4 (pt b h) : Vec Ideal S1x128 .f32) (ix2 0 d) = V m c main_arg6 (ix2 0 d) :=
  rd4 c (V m c main_arg6) b h d

end Cert.KernelIdeal.Att

end
-- ==== Proof.RefRead.lean ====
/- The reference's result read at an index, stage by stage: scores, weights, their difference against the values, and the norm. -/
module

public import proofs.«01_k».proof.Proof.Gen.ReferenceIdeal.Run
public import Idealize.ShloMosaic.Lib.Pointwise

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.SL.Sem

/-- The scores of one map. -/
def rS (q : FVec Ideal S4x8x8192x64 .f32) (k : FVec Ideal S4x8x8448x64 .f32) : FVec Ideal S4x8x8192x8448 .f32 :=
  Host.dotGeneral dot_S4x8x8192x64_S4x8x8448x64_S4x8x8192x8448_3_3_2_2_01_01 none
    (mulf q (broadcastInDim S4x8x8192x64 ![] bcast_S_S4x8x8192x64 (constant S_ .f32 0x3E000000#32))) k

/-- Their maxima over the keys. -/
def rM (s : FVec Ideal S4x8x8192x8448 .f32) : FVec Ideal S4x8x8192 .f32 :=
  maximumf (broadcastInDim S4x8x8192 ![] bcast_S_S4x8x8192 (constant S_ .f32 0xFF800000#32))
    (Host.reduce FloatOps.maximumf s (constant S_ .f32 0xFF800000#32) reducesTo_S4x8x8192x8448_S4x8x8192_d3 h_S_)

/-- The exponentials of one map. -/
def rP (s : FVec Ideal S4x8x8192x8448 .f32) : FVec Ideal S4x8x8192x8448 .f32 :=
  Host.exp (subf s (broadcastInDim S4x8x8192x8448 ![0, 1, 2, 3] bcast_S4x8x8192x1_S4x8x8192x8448_0_1_2_3
    (broadcastInDim S4x8x8192x1 ![0, 1, 2] bcast_S4x8x8192_S4x8x8192x1_0_1_2 (rM s))))

/-- The weights of one map. -/
def rW (s : FVec Ideal S4x8x8192x8448 .f32) : FVec Ideal S4x8x8192x8448 .f32 :=
  Host.divf (rP s) (broadcastInDim S4x8x8192x8448 ![0, 1, 2, 3] bcast_S4x8x8192x1_S4x8x8192x8448_0_1_2_3
    (broadcastInDim S4x8x8192x1 ![0, 1, 2] bcast_S4x8x8192_S4x8x8192x1_0_1_2
      (Host.reduceAdd (rP s) (constant S_ .f32 0x00000000#32) reducesTo_S4x8x8192x8448_S4x8x8192_d3 h_S_)))

/-- The second map's weight. -/
def rLam (l : FVec Ideal S1x4x64 .f32) : FVec Ideal S_ .f32 :=
  addf (subf
    (Host.exp (Host.reduceAdd (mulf (shapeCast _ (extractStridedSlice S1x64 ![0, 0] (shapeCast _ l shapeCasts_S1x4x64_S4x64) slices_S4x64_S1x64_0_0) shapeCasts_S1x64_S64) (shapeCast _ (extractStridedSlice S1x64 ![1, 0] (shapeCast _ l shapeCasts_S1x4x64_S4x64) slices_S4x64_S1x64_1_0) shapeCasts_S1x64_S64)) (constant S_ .f32 0x00000000#32) reducesTo_S64_S_d0 h_S_))
    (Host.exp (Host.reduceAdd (mulf (shapeCast _ (extractStridedSlice S1x64 ![2, 0] (shapeCast _ l shapeCasts_S1x4x64_S4x64) slices_S4x64_S1x64_2_0) shapeCasts_S1x64_S64) (shapeCast _ (extractStridedSlice S1x64 ![3, 0] (shapeCast _ l shapeCasts_S1x4x64_S4x64) slices_S4x64_S1x64_3_0) shapeCasts_S1x64_S64)) (constant S_ .f32 0x00000000#32) reducesTo_S64_S_d0 h_S_)))
    (constant S_ .f32 0x3E4CCCCD#32)

/-- The difference of the weights against the values. -/
def rO (s1 s2 : FVec Ideal S4x8x8192x8448 .f32) (l : FVec Ideal S1x4x64 .f32) (v : FVec Ideal S4x8x8448x128 .f32) : FVec Ideal S4x8x8192x128 .f32 :=
  Host.dotGeneral dot_S4x8x8192x8448_S4x8x8448x128_S4x8x8192x128_3_2_2_3_01_01 none
    (subf (rW s1) (mulf (broadcastInDim S4x8x8192x8448 ![] bcast_S_S4x8x8192x8448 (rLam l)) (rW s2))) v

/-- The norm over the lanes, the gain and the scale. -/
def rN (o : FVec Ideal S4x8x8192x128 .f32) (g : FVec Ideal S1x128 .f32) : FVec Ideal S4x8x8192x128 .f32 :=
  mulf (mulf (mulf o (broadcastInDim S4x8x8192x128 ![0, 1, 2, 3] bcast_S4x8x8192x1_S4x8x8192x128_0_1_2_3
    (Host.rsqrt (addf (Host.divf (broadcastInDim S4x8x8192x1 ![0, 1, 2] bcast_S4x8x8192_S4x8x8192x1_0_1_2
      (Host.reduceAdd (mulf o o) (constant S_ .f32 0x00000000#32) reducesTo_S4x8x8192x128_S4x8x8192_d3 h_S_))
      (broadcastInDim S4x8x8192x1 ![] bcast_S_S4x8x8192x1 (constant S_ .f32 0x43000000#32)))
      (broadcastInDim S4x8x8192x1 ![] bcast_S_S4x8x8192x1 (constant S_ .f32 0x358637BD#32))))))
    (broadcastInDim S4x8x8192x128 ![0, 1, 2, 3] bcast_S1x1x1x128_S4x8x8192x128_0_1_2_3
      (broadcastInDim S1x1x1x128 ![3] bcast_S128_S1x1x1x128_3 (shapeCast _ g shapeCasts_S1x128_S128))))
    (broadcastInDim S4x8x8192x128 ![] bcast_S_S4x8x8192x128 (constant S_ .f32 0x3F4CCCCD#32))

/-- The result's layout. -/
def rT (y : FVec Ideal S4x8x8192x128 .f32) : FVec Ideal S4x8192x1024 .bf16 :=
  truncf .bf16 (shapeCast _ (transpose S4x8192x8x128 [0, 2, 1, 3] y transposes_S4x8x8192x128_S4x8192x8x128_0_2_1_3) shapeCasts_S4x8192x8x128_S4x8192x1024) bitsLt_bf16_f32

variable (m : (ℓ : Loc nD τ sig) → Buf (Elt Ideal) ℓ)

theorem res_eq (c : Dev nD) : res_main_v67 (F := Ideal) m c
    = rT (rN (rO (rS (m ((c.tc : Thread nD τ).loc main_arg0)) (m ((c.tc : Thread nD τ).loc main_arg2)))
        (rS (m ((c.tc : Thread nD τ).loc main_arg1)) (m ((c.tc : Thread nD τ).loc main_arg3)))
        (m ((c.tc : Thread nD τ).loc main_arg5)) (m ((c.tc : Thread nD τ).loc main_arg4))) (m ((c.tc : Thread nD τ).loc main_arg6))) := rfl

theorem rS_at (q : FVec Ideal S4x8x8192x64 .f32) (k : FVec Ideal S4x8x8448x64 .f32) (b : Fin 4) (h : Fin 8) (s : Fin 8192) (t : Fin 8448) :
    rS q k (ix4 b h s t) = ∑ d : Fin 64, q (ix4 b h s d) * Ideal.ofBits .f32 0x3E000000#32 * k (ix4 b h t d) := by
  pointwise [rS]

/-- The maximum a reduction leaves, at an index. -/
theorem red_at (x : FVec Ideal S4x8x8192x8448 .f32) (b : Fin 4) (h : Fin 8) (s : Fin 8192) :
    Host.reduce FloatOps.maximumf x (constant S_ .f32 0xFF800000#32) reducesTo_S4x8x8192x8448_S4x8x8192_d3 h_S_ (ix3 b h s)
      = Finset.univ.fold max (Ideal.ofBits .f32 0xFF800000#32) (fun t => x (ix4 b h s t)) := by
  simp only [pointwise]

theorem max_at (x y : FVec Ideal S4x8x8192 .f32) (i : S4x8x8192.Idx) : maximumf x y i = max (x i) (y i) := rfl

theorem low_at (i : S4x8x8192.Idx) :
    broadcastInDim S4x8x8192 ![] bcast_S_S4x8x8192 (constant (F := Ideal) S_ .f32 0xFF800000#32) i = Ideal.ofBits .f32 0xFF800000#32 := by
  pointwise

theorem rM_at (x : FVec Ideal S4x8x8192x8448 .f32) (b : Fin 4) (h : Fin 8) (s : Fin 8192) :
    rM x (ix3 b h s) = max (Ideal.ofBits .f32 0xFF800000#32) (Finset.univ.fold max (Ideal.ofBits .f32 0xFF800000#32) (fun t => x (ix4 b h s t))) := by
  unfold rM
  rw [max_at, red_at, low_at]

theorem rP_at (x : FVec Ideal S4x8x8192x8448 .f32) (b : Fin 4) (h : Fin 8) (s : Fin 8192) (t : Fin 8448) :
    rP x (ix4 b h s t) = Ideal.exp (x (ix4 b h s t) - rM x (ix3 b h s)) := by
  pointwise [rP]

theorem rW_at (x : FVec Ideal S4x8x8192x8448 .f32) (b : Fin 4) (h : Fin 8) (s : Fin 8192) (t : Fin 8448) :
    rW x (ix4 b h s t) = Ideal.div (rP x (ix4 b h s t)) (∑ t, rP x (ix4 b h s t)) := by
  pointwise [rW]

theorem rLam_at (l : FVec Ideal S1x4x64 .f32) :
    rLam l ix0 = Ideal.exp (∑ d, l (ix3 0 0 d) * l (ix3 0 1 d)) - Ideal.exp (∑ d, l (ix3 0 2 d) * l (ix3 0 3 d))
      + Ideal.ofBits .f32 0x3E4CCCCD#32 := by
  pointwise [rLam]

theorem rO_at (x y : FVec Ideal S4x8x8192x8448 .f32) (l : FVec Ideal S1x4x64 .f32) (v : FVec Ideal S4x8x8448x128 .f32) (b : Fin 4) (h : Fin 8) (s : Fin 8192) (e : Fin 128) :
    rO x y l v (ix4 b h s e) = ∑ t, (rW x (ix4 b h s t) - rLam l ix0 * rW y (ix4 b h s t)) * v (ix4 b h t e) := by
  pointwise [rO]

theorem rN_at (o : FVec Ideal S4x8x8192x128 .f32) (g : FVec Ideal S1x128 .f32) (b : Fin 4) (h : Fin 8) (s : Fin 8192) (e : Fin 128) :
    rN o g (ix4 b h s e) = o (ix4 b h s e) * Ideal.rsqrt (Ideal.div (∑ e, o (ix4 b h s e) * o (ix4 b h s e)) (Ideal.ofBits .f32 0x43000000#32)
      + Ideal.ofBits .f32 0x358637BD#32) * g (ix2 0 e) * Ideal.ofBits .f32 0x3F4CCCCD#32 := by
  pointwise [rN]

theorem rT_at (o : FVec Ideal S4x8x8192x128 .f32) (b : Fin 4) (s : Fin 8192) (l : Fin 1024) :
    rT o (ix3 b s l) = o (ix4 b ⟨l.val / 128, by omega⟩ s ⟨l.val % 128, by omega⟩) := by
  pointwise [rT]

end Cert.ReferenceIdeal.Read

end
-- ==== Proof.Math.lean ====
/-
  The mathematics of the attention at real inputs: a softmax does not change when its scores are shifted, so the maxima
  that the two sides subtract need only be real; powers of two of scores divided by the logarithm of two are exponentials
  of the scores; and the interleaved lanes of one map are its dimensions.
-/
module

public import Idealize.ShloMosaic.Lib.Pointwise

@[expose] public section

noncomputable section

namespace Cert.Math

open Idealize.ShloMosaic

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The largest of finitely many reals, at least one, is real. -/
theorem fold_real {n : ℕ} (f : Fin n → EReal) (hf : ∀ i, ∃ r : ℝ, f i = r) (hn : 0 < n) :
    ∃ r : ℝ, Finset.univ.fold max (⊥ : EReal) f = r := by
  have hb : (⊥ : EReal) < Finset.univ.fold max (⊥ : EReal) f := by
    obtain ⟨r, hr⟩ := hf ⟨0, hn⟩
    refine lt_of_lt_of_le (EReal.bot_lt_coe r) (Finset.le_fold_max _ |>.2 (Or.inr ⟨⟨0, hn⟩, Finset.mem_univ _, hr.ge⟩))
  have ht : Finset.univ.fold max (⊥ : EReal) f < ⊤ := by
    refine Finset.fold_max_lt _ |>.2 ⟨bot_lt_top, fun i _ => ?_⟩
    obtain ⟨r, hr⟩ := hf i
    rw [hr]; exact EReal.coe_lt_top r
  exact ⟨_, (EReal.coe_toReal ht.ne hb.ne').symm⟩

/-- The softmax of real scores. -/
def soft {n : ℕ} (S : Fin n → ℝ) (k : Fin n) : ℝ := Real.exp (S k) / ∑ j, Real.exp (S j)

theorem sum_exp_pos {n : ℕ} (hn : 0 < n) (S : Fin n → ℝ) : 0 < ∑ j, Real.exp (S j) :=
  haveI : Nonempty (Fin n) := ⟨⟨0, hn⟩⟩
  Finset.sum_pos (fun i _ => Real.exp_pos _) Finset.univ_nonempty

theorem shift {n : ℕ} (S : Fin n → ℝ) (M : ℝ) (j : Fin n) : Real.exp (S j - M) = Real.exp (S j) * Real.exp (-M) := by
  rw [← Real.exp_add]; rfl

/-- The reference's weight. -/
theorem ref_weight {n : ℕ} (hn : 0 < n) (S : Fin n → ℝ) (M : ℝ) (k : Fin n) :
    Ideal.div (Ideal.exp ((S k : EReal) - (M : EReal))) (∑ j, Ideal.exp ((S j : EReal) - (M : EReal))) = (soft S k : EReal) := by
  have h : ∀ j, Ideal.exp ((S j : EReal) - (M : EReal)) = ((Real.exp (S j) * Real.exp (-M) : ℝ) : EReal) := fun j => by
    rw [← EReal.coe_sub, Ideal.exp_coe, shift]
  simp only [h]
  rw [coe_sum, ← Finset.sum_mul]
  have hp := sum_exp_pos hn S
  have hm := Real.exp_pos (-M)
  rw [Ideal.div_coe (by positivity), ← EReal.coe_mul]
  congr 1
  unfold soft
  field_simp

/-- One map's output as the kernel computes it. -/
theorem ker_map {n : ℕ} (hn : 0 < n) (S T : Fin n → ℝ) (hT : ∀ k, T k * Real.log 2 = S k) (M : ℝ) (v : Fin n → ℝ) :
    (∑ k, (v k : EReal) * Ideal.exp2 ((T k : EReal) - (M : EReal))) * Ideal.div 1 (∑ k, (1 : EReal) * Ideal.exp2 ((T k : EReal) - (M : EReal)))
      = ((∑ k, v k * soft S k : ℝ) : EReal) := by
  have h : ∀ j, Ideal.exp2 ((T j : EReal) - (M : EReal)) = ((Real.exp (S j) * Real.exp (-(M * Real.log 2)) : ℝ) : EReal) := fun j => by
    rw [← EReal.coe_sub, Ideal.exp2_coe, ← shift]
    congr 1
    show (2 : ℝ) ^ (T j - M) = _
    rw [Real.rpow_def_of_pos (by norm_num), ← hT]
    congr 1
    ring
  simp only [h, one_mul, ← EReal.coe_mul]
  rw [coe_sum, coe_sum, ← Finset.sum_mul]
  have hp := sum_exp_pos hn S
  have hm := Real.exp_pos (-(M * Real.log 2))
  rw [Ideal.div_coe (by positivity), one_mul, ← EReal.coe_mul]
  congr 1
  unfold soft
  rw [Finset.sum_mul]
  refine Finset.sum_congr rfl fun k _ => ?_
  field_simp

/-- The lanes of the first map, summed, are its dimensions summed; -/
theorem lanes_lo (dOf : Fin 128 → Fin 64) (hd : ∀ l, (dOf l).val = l.val / 16 % 2 * 32 + l.val / 64 * 16 + l.val % 16) (f : Fin 64 → ℝ) :
    ∑ l : Fin 128, (if l.val % 64 < 32 then f (dOf l) else 0) = ∑ d : Fin 64, f d := by
  rw [← Finset.sum_filter]
  refine Finset.sum_nbij' (fun l => dOf l) (fun d => ⟨d.val / 16 % 2 * 64 + d.val / 32 * 16 + d.val % 16, by omega⟩) ?_ ?_ ?_ ?_ ?_
  · intro l _; exact Finset.mem_univ _
  · intro d _
    rw [Finset.mem_filter]
    refine ⟨Finset.mem_univ _, ?_⟩
    exact (by decide +kernel : ∀ d : Fin 64, (d.val / 16 % 2 * 64 + d.val / 32 * 16 + d.val % 16) % 64 < 32) d
  · intro l hl
    have hl := (Finset.mem_filter.1 hl).2
    apply Fin.ext
    show (dOf l).val / 16 % 2 * 64 + (dOf l).val / 32 * 16 + (dOf l).val % 16 = l.val
    rw [hd]
    exact (by decide +kernel : ∀ l : Fin 128, l.val % 64 < 32 → (l.val / 16 % 2 * 32 + l.val / 64 * 16 + l.val % 16) / 16 % 2 * 64 + (l.val / 16 % 2 * 32 + l.val / 64 * 16 + l.val % 16) / 32 * 16 + (l.val / 16 % 2 * 32 + l.val / 64 * 16 + l.val % 16) % 16 = l.val) l hl
  · intro d _
    apply Fin.ext
    rw [hd]
    exact (by decide +kernel : ∀ d : Fin 64, (d.val / 16 % 2 * 64 + d.val / 32 * 16 + d.val % 16) / 16 % 2 * 32 + (d.val / 16 % 2 * 64 + d.val / 32 * 16 + d.val % 16) / 64 * 16
      + (d.val / 16 % 2 * 64 + d.val / 32 * 16 + d.val % 16) % 16 = d.val) d
  · intro l _; rfl

/-- and those of the second map likewise. -/
theorem lanes_hi (dOf : Fin 128 → Fin 64) (hd : ∀ l, (dOf l).val = l.val / 16 % 2 * 32 + l.val / 64 * 16 + l.val % 16) (f : Fin 64 → ℝ) :
    ∑ l : Fin 128, (if l.val % 64 < 32 then 0 else f (dOf l)) = ∑ d : Fin 64, f d := by
  have e : ∀ l : Fin 128, (if l.val % 64 < 32 then (0 : ℝ) else f (dOf l)) = if ¬ l.val % 64 < 32 then f (dOf l) else 0 := fun l => by
    split <;> simp_all
  simp only [e]
  rw [← Finset.sum_filter]
  refine Finset.sum_nbij' (fun l => dOf l) (fun d => ⟨d.val / 16 % 2 * 64 + 32 + d.val / 32 * 16 + d.val % 16, by omega⟩) ?_ ?_ ?_ ?_ ?_
  · intro l _; exact Finset.mem_univ _
  · intro d _
    rw [Finset.mem_filter]
    refine ⟨Finset.mem_univ _, ?_⟩
    exact (by decide +kernel : ∀ d : Fin 64, ¬ (d.val / 16 % 2 * 64 + 32 + d.val / 32 * 16 + d.val % 16) % 64 < 32) d
  · intro l hl
    have hl := (Finset.mem_filter.1 hl).2
    apply Fin.ext
    show (dOf l).val / 16 % 2 * 64 + 32 + (dOf l).val / 32 * 16 + (dOf l).val % 16 = l.val
    rw [hd]
    exact (by decide +kernel : ∀ l : Fin 128, ¬ l.val % 64 < 32 → (l.val / 16 % 2 * 32 + l.val / 64 * 16 + l.val % 16) / 16 % 2 * 64 + 32 + (l.val / 16 % 2 * 32 + l.val / 64 * 16 + l.val % 16) / 32 * 16 + (l.val / 16 % 2 * 32 + l.val / 64 * 16 + l.val % 16) % 16 = l.val) l hl
  · intro d _
    apply Fin.ext
    rw [hd]
    exact (by decide +kernel : ∀ d : Fin 64, (d.val / 16 % 2 * 64 + 32 + d.val / 32 * 16 + d.val % 16) / 16 % 2 * 32 + (d.val / 16 % 2 * 64 + 32 + d.val / 32 * 16 + d.val % 16) / 64 * 16
      + (d.val / 16 % 2 * 64 + 32 + d.val / 32 * 16 + d.val % 16) % 16 = d.val) d
  · intro l _; rfl

/-! ### The constants -/

theorem low : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem init_real : ∃ r : ℝ, Ideal.ofBits .f32 0x3E4CCCCD#32 = (r : EReal) := by
  refine ⟨13421773 / 67108864, ?_⟩
  simp [Ideal.ofBits, Ideal.ieee, -EReal.coe_mul]; norm_num

theorem high : Ideal.ofBits .f32 0x7F800000#32 = ⊤ := by simp [Ideal.ofBits, Ideal.ieee]

/-- The scale of the queries. -/
theorem scale : Ideal.div (Ideal.ofBits .f32 0x3E000000#32) (Ideal.log (Ideal.ofBits .f32 0x40000000#32)) = ((1 / 8 / Real.log 2 : ℝ) : EReal) := by
  have hl : 0 < Real.log 2 := Real.log_pos (by norm_num)
  rw [eighth, two, Ideal.log_coe, if_neg (by norm_num), Ideal.div_coe hl.ne', ← EReal.coe_mul]
  congr 1
  ring

end Cert.Math

end
-- ==== Proof.Value.lean ====
/-
  At real arguments the kernel's output and the reference's are the same: both are the two softmaxes' difference against
  the values, then one norm.
-/
module

public import proofs.«01_k».proof.Proof.KerRead
public import proofs.«01_k».proof.Proof.HostRead
public import proofs.«01_k».proof.Proof.RefRead
public import proofs.«01_k».proof.Proof.Math

@[expose] public section

set_option maxRecDepth 16384

noncomputable section

namespace Cert.KernelIdeal.Att

open Cert.KernelIdeal Cert.KernelIdeal.Gen Cert.Math
open Cert.ReferenceIdeal.Read
open Idealize.ShloMosaic

/-! ### One column of scores -/

/-- The exponentials of a column of real scores, less some real. -/
theorem col_exp (x : FVec Ideal S8448x512 .f32) (n : Fin 512) (T : Fin 8448 → ℝ) (hx : ∀ k, x (ix2 k n) = (T k : EReal)) :
    ∃ M : ℝ, ∀ k, k0_pay4 (k0_pay16 x) (k0_pay15 x) (ix2 k n) = Ideal.exp2 ((T k : EReal) - (M : EReal)) := by
  have hp : ∀ r : Fin 8, ∃ p : ℝ, k0_pay16 x (ix2 r n) = (p : EReal) := fun r => by
    rw [pm_at, low]
    exact fold_real _ (fun i => ⟨_, hx _⟩) (by decide)
  obtain ⟨M, hM⟩ := fold_real (fun r : Fin 8 => k0_pay16 x (ix2 r n)) hp (by decide)
  refine ⟨M, fun k => ?_⟩
  rw [e_at, s_at, hx, low, hM]

/-- One map's output at a column of real scores and real values. -/
theorem col_map (x : FVec Ideal S8448x512 .f32) (n : Fin 512) (v : Vec Ideal S1x144x8448 .bf16) (d : Fin 128)
    (T S W : Fin 8448 → ℝ) (hx : ∀ k, x (ix2 k n) = (T k : EReal)) (hT : ∀ k, T k * Real.log 2 = S k)
    (hv : ∀ t, v (ix3 0 ⟨d.val, by omega⟩ t) = (W t : EReal)) (h1 : ∀ t, v (ix3 0 128 t) = (1 : EReal)) :
    mapOf v (k0_pay4 (k0_pay16 x) (k0_pay15 x)) d n = ((∑ t, W t * soft S t : ℝ) : EReal) := by
  obtain ⟨M, hM⟩ := col_exp x n T hx
  unfold mapOf
  simp only [hM, hv, h1]
  exact ker_map (by decide) S T hT M W

/-- The scores of one map, from its lanes. -/
def scoreT (Q K : Fin 64 → ℝ) : ℝ := ∑ d, K d * (Q d * (1 / 8 / Real.log 2))

def scoreS (Q K : Fin 64 → ℝ) : ℝ := ∑ d, Q d * (1 / 8) * K d

theorem score_log (Q K : Fin 64 → ℝ) : scoreT Q K * Real.log 2 = scoreS Q K := by
  have hl : Real.log 2 ≠ 0 := (Real.log_pos (by norm_num)).ne'
  unfold scoreT scoreS
  rw [Finset.sum_mul]
  refine Finset.sum_congr rfl fun d _ => ?_
  field_simp

theorem scaled (q : EReal) (Q : ℝ) (h : q = (Q : EReal)) : q * qScale = ((Q * (1 / 8 / Real.log 2) : ℝ) : EReal) := by
  unfold qScale
  rw [h, scale, ← EReal.coe_mul]

theorem raw_lo_real (x0 : Vec Ideal S1x128x256 .bf16) (x1 : Vec Ideal S1x8448x128 .bf16) (k : Fin 8448) (n : Fin 256) (n' : Fin 512) (hn : n'.val = n.val)
    (Q K : Fin 64 → ℝ) (hq : ∀ l : Fin 128, l.val % 64 < 32 → x0 (ix3 0 l n) = HMul.hMul (α := EReal) (Q (dOf l) : EReal) qScale)
    (hk : ∀ l : Fin 128, l.val % 64 < 32 → x1 (ix3 0 k l) = (K (dOf l) : EReal)) :
    k0_pay5 k0_pay6 x0 x1 (ix2 k n') = (scoreT Q K : EReal) := by
  rw [raw_lo x0 x1 k n n' hn]
  unfold scoreT
  rw [← lanes_lo dOf (fun _ => rfl), ← coe_sum]
  refine Finset.sum_congr rfl fun l _ => ?_
  by_cases hl : l.val % 64 < 32
  · rw [if_pos hl, if_pos hl, hq l hl, hk l hl, scaled _ _ rfl, ← EReal.coe_mul]
  · rw [if_neg hl, if_neg hl]; exact mul_zero (x1 (ix3 0 k l))

theorem raw_hi_real (x0 : Vec Ideal S1x128x256 .bf16) (x1 : Vec Ideal S1x8448x128 .bf16) (k : Fin 8448) (n : Fin 256) (n' : Fin 512) (hn : n'.val = 256 + n.val)
    (Q K : Fin 64 → ℝ) (hq : ∀ l : Fin 128, ¬ l.val % 64 < 32 → x0 (ix3 0 l n) = HMul.hMul (α := EReal) (Q (dOf l) : EReal) qScale)
    (hk : ∀ l : Fin 128, ¬ l.val % 64 < 32 → x1 (ix3 0 k l) = (K (dOf l) : EReal)) :
    k0_pay5 k0_pay6 x0 x1 (ix2 k n') = (scoreT Q K : EReal) := by
  rw [raw_hi x0 x1 k n n' hn]
  unfold scoreT
  rw [← lanes_hi dOf (fun _ => rfl), ← coe_sum]
  refine Finset.sum_congr rfl fun l _ => ?_
  by_cases hl : l.val % 64 < 32
  · rw [if_pos hl, if_pos hl]; exact mul_zero (x1 (ix3 0 k l))
  · rw [if_neg hl, if_neg hl, hq l hl, hk l hl, scaled _ _ rfl, ← EReal.coe_mul]

/-! ### The reference at reals -/

theorem ref_score (q : FVec Ideal Cert.ReferenceIdeal.S4x8x8192x64 .f32) (k : FVec Ideal Cert.ReferenceIdeal.S4x8x8448x64 .f32) (b : Fin 4) (h : Fin 8) (s : Fin 8192) (t : Fin 8448)
    (Q K : Fin 64 → ℝ) (hq : ∀ d, q (ix4 b h s d) = (Q d : EReal)) (hk : ∀ d, k (ix4 b h t d) = (K d : EReal)) :
    rS q k (ix4 b h s t) = (scoreS Q K : EReal) := by
  rw [rS_at]
  unfold scoreS
  rw [← coe_sum]
  refine Finset.sum_congr rfl fun d _ => ?_
  rw [hq, hk, eighth, ← EReal.coe_mul, ← EReal.coe_mul]

theorem ref_soft (x : FVec Ideal Cert.ReferenceIdeal.S4x8x8192x8448 .f32) (b : Fin 4) (h : Fin 8) (s : Fin 8192) (S : Fin 8448 → ℝ)
    (hx : ∀ t, x (ix4 b h s t) = (S t : EReal)) (t : Fin 8448) : rW x (ix4 b h s t) = (soft S t : EReal) := by
  obtain ⟨M, hM⟩ : ∃ M : ℝ, rM x (ix3 b h s) = (M : EReal) := by
    obtain ⟨M, hM⟩ := fold_real (fun t => x (ix4 b h s t)) (fun t => ⟨_, hx t⟩) (by decide)
    exact ⟨M, by rw [rM_at, low, hM]; exact max_eq_right bot_le⟩
  rw [rW_at]
  simp only [rP_at, hM, hx]
  exact ref_weight (by decide) S M t

theorem lam_real (l : FVec Ideal Cert.ReferenceIdeal.S1x4x64 .f32) (hl : ∀ i, ∃ r : ℝ, l i = (r : EReal)) : ∃ r : ℝ, rLam l ix0 = (r : EReal) := by
  choose L hL using hl
  obtain ⟨i, hi⟩ := init_real
  rw [rLam_at, hi]
  simp only [hL, ← EReal.coe_mul, coe_sum, Ideal.exp_coe, ← EReal.coe_sub, ← EReal.coe_add]
  exact ⟨_, rfl⟩

/-! ### The two sides -/

variable (x0 : Vec Ideal S1x128x8192 .bf16) (x1 : Vec Ideal S1x8448x128 .bf16) (x2 : Vec Ideal S1x144x8448 .bf16) (x3 : Vec Ideal S4x64 .f32) (x4 : Vec Ideal S1x128 .f32)
variable (q1 q2 : FVec Ideal Cert.ReferenceIdeal.S4x8x8192x64 .f32) (k1 k2 : FVec Ideal Cert.ReferenceIdeal.S4x8x8448x64 .f32)
  (v : FVec Ideal Cert.ReferenceIdeal.S4x8x8448x128 .f32) (l : FVec Ideal Cert.ReferenceIdeal.S1x4x64 .f32) (g : FVec Ideal Cert.ReferenceIdeal.S1x128 .f32)

/-- Every entry of the arguments but the gain is real. -/
structure Reals : Prop where
  q1 : ∀ i, ∃ r : ℝ, q1 i = (r : EReal)
  q2 : ∀ i, ∃ r : ℝ, q2 i = (r : EReal)
  k1 : ∀ i, ∃ r : ℝ, k1 i = (r : EReal)
  k2 : ∀ i, ∃ r : ℝ, k2 i = (r : EReal)
  v : ∀ i, ∃ r : ℝ, v i = (r : EReal)
  l : ∀ i, ∃ r : ℝ, l i = (r : EReal)

/-- The kernel's blocks for batch `b` and head `h` hold the arguments in the kernel's lanes. -/
structure Holds (b : Fin 4) (h : Fin 8) : Prop where
  q1 : ∀ (a : Fin 128) (s : Fin 8192), a.val % 64 < 32 → x0 (ix3 0 a s) = HMul.hMul (α := EReal) (q1 (ix4 b h s (dOf a))) qScale
  q2 : ∀ (a : Fin 128) (s : Fin 8192), ¬ a.val % 64 < 32 → x0 (ix3 0 a s) = HMul.hMul (α := EReal) (q2 (ix4 b h s (dOf a))) qScale
  k1 : ∀ (t : Fin 8448) (a : Fin 128), a.val % 64 < 32 → x1 (ix3 0 t a) = k1 (ix4 b h t (dOf a))
  k2 : ∀ (t : Fin 8448) (a : Fin 128), ¬ a.val % 64 < 32 → x1 (ix3 0 t a) = k2 (ix4 b h t (dOf a))
  v : ∀ (e : Fin 128) (t : Fin 8448), x2 (ix3 0 ⟨e.val, by omega⟩ t) = v (ix4 b h t e)
  one : ∀ t : Fin 8448, x2 (ix3 0 128 t) = (1 : EReal)
  l : ∀ (a : Fin 4) (d : Fin 64), x3 (ix2 a d) = l (ix3 0 a d)
  g : ∀ d : Fin 128, x4 (ix2 0 d) = g (ix2 0 d)

variable {x0 x1 x2 x3 x4 q1 q2 k1 k2 v l g} {b : Fin 4} {h : Fin 8}

theorem lam_eq (H : Holds x0 x1 x2 x3 x4 q1 q2 k1 k2 v l g b h) : lamOf x3 = rLam l ix0 := by
  rw [rLam_at]
  unfold lamOf
  simp only [H.l]

theorem diff_eq (R : Reals q1 q2 k1 k2 v l) (H : Holds x0 x1 x2 x3 x4 q1 q2 k1 k2 v l g b h) (j : ℕ) (hj : j < 32) (r : Fin 256) (e : Fin 128) :
    diffOf x3 x2 (eBlk x0 x1 j) r e = rO (rS q1 k1) (rS q2 k2) l v (ix4 b h ⟨256 * j + r.val, by omega⟩ e) := by
  obtain ⟨lam, hlam⟩ := lam_real l R.l
  choose Q1 hQ1 using R.q1
  choose Q2 hQ2 using R.q2
  choose K1 hK1 using R.k1
  choose K2 hK2 using R.k2
  choose W hW using R.v
  set s : Fin 8192 := ⟨256 * j + r.val, by omega⟩ with hs
  have m1 : mapOf x2 (eBlk x0 x1 j) e ⟨r.val, by omega⟩
      = ((∑ t, W (ix4 b h t e) * soft (fun t => scoreS (fun d => Q1 (ix4 b h s d)) (fun d => K1 (ix4 b h t d))) t : ℝ) : EReal) :=
    col_map _ _ x2 e (fun t => scoreT (fun d => Q1 (ix4 b h s d)) (fun d => K1 (ix4 b h t d))) _ (fun t => W (ix4 b h t e))
      (fun t => raw_lo_real _ _ t r _ rfl _ _
        (fun a ha => by rw [qcol_at x0 j hj, H.q1 a _ ha, hQ1]) (fun a ha => by rw [H.k1 t a ha, hK1]))
      (fun t => score_log _ _) (fun t => by rw [H.v, hW]) H.one
  have m2 : mapOf x2 (eBlk x0 x1 j) e ⟨256 + r.val, by omega⟩
      = ((∑ t, W (ix4 b h t e) * soft (fun t => scoreS (fun d => Q2 (ix4 b h s d)) (fun d => K2 (ix4 b h t d))) t : ℝ) : EReal) :=
    col_map _ _ x2 e (fun t => scoreT (fun d => Q2 (ix4 b h s d)) (fun d => K2 (ix4 b h t d))) _ (fun t => W (ix4 b h t e))
      (fun t => raw_hi_real _ _ t r _ rfl _ _
        (fun a ha => by rw [qcol_at x0 j hj, H.q2 a _ ha, hQ2]) (fun a ha => by rw [H.k2 t a ha, hK2]))
      (fun t => score_log _ _) (fun t => by rw [H.v, hW]) H.one
  unfold diffOf
  rw [m1, m2, lam_eq H, hlam, rO_at, hlam]
  have w1 := ref_soft (rS q1 k1) b h s (fun t => scoreS (fun d => Q1 (ix4 b h s d)) (fun d => K1 (ix4 b h t d)))
    (fun t => ref_score q1 k1 b h s t _ _ (fun d => hQ1 _) (fun d => hK1 _))
  have w2 := ref_soft (rS q2 k2) b h s (fun t => scoreS (fun d => Q2 (ix4 b h s d)) (fun d => K2 (ix4 b h t d)))
    (fun t => ref_score q2 k2 b h s t _ _ (fun d => hQ2 _) (fun d => hK2 _))
  simp only [w1, w2, hW, ← EReal.coe_mul, ← EReal.coe_sub, coe_sum]
  congr 1
  rw [Finset.mul_sum, ← Finset.sum_sub_distrib]
  exact Finset.sum_congr rfl fun t _ => by ring

/-- The kernel's output window is the reference's normed difference. -/
theorem out_eq (R : Reals q1 q2 k1 k2 v l) (H : Holds x0 x1 x2 x3 x4 q1 q2 k1 k2 v l g b h) (s : Fin 8192) (e : Fin 128) :
    outAll x0 x1 x2 x3 x4 (ix3 0 s e) = rN (rO (rS q1 k1) (rS q2 k2) l v) g (ix4 b h s e) := by
  have hi : outAll x0 x1 x2 x3 x4 (ix3 0 s e) = outBlk x0 x1 x2 x3 x4 (s.val / 256) (ix3 0 ⟨s.val % 256, by omega⟩ e) := by
    show outBlk x0 x1 x2 x3 x4 (s.val / 256) _ = _
    congr 1
    funext a
    match a with
    | ⟨0, _⟩ => rfl
    | ⟨1, _⟩ => rfl
    | ⟨2, _⟩ => rfl
  have hd : ∀ e, diffOf x3 x2 (eBlk x0 x1 (s.val / 256)) ⟨s.val % 256, by omega⟩ e = rO (rS q1 k1) (rS q2 k2) l v (ix4 b h s e) := fun e => by
    rw [diff_eq R H (s.val / 256) (by omega)]
    congr 2
    apply Fin.ext
    show 256 * (s.val / 256) + s.val % 256 = s.val
    omega
  rw [hi]
  unfold outBlk
  rw [g_at, o_at, rN_at, H.g]
  simp only [hd]
  exact (mul_assoc _ _ _).symm

end Cert.KernelIdeal.Att

end
-- ==== Proof.Finite.lean ====
/- The precondition, read at an index: every entry of the queries, keys, values and weights' vectors is a real number. -/
module

public import proofs.«01_k».proof.Proof.Gen.Pre_finite_inputs
public import proofs.«01_k».proof.Proof.Math

@[expose] public section

noncomputable section

namespace Cert.Pre_finite_inputs

open Idealize.ShloMosaic Facts

theorem and_one : ∀ {a b : BitVec 1}, IntOp.andi a b = 1#1 → a = 1#1 ∧ b = 1#1 := by decide

/-- A conjunction over a finite set that is one is one at each member. -/
theorem fold_one {ι : Type*} (s : Finset ι) (f : ι → BitVec 1) (b : BitVec 1) (h : s.fold IntOp.andi b f = 1#1) (i : ι) (hi : i ∈ s) : f i = 1#1 := by
  classical
  induction s using Finset.induction_on with
  | empty => exact absurd hi (Finset.notMem_empty i)
  | insert a s ha ih =>
    rw [Finset.fold_insert ha] at h
    rcases Finset.mem_insert.1 hi with e | e
    · rw [e]; exact (and_one h).1
    · exact ih (and_one h).2 e

/-- A number whose absolute value is below infinity is real. -/
theorem real_of_lt (x : EReal) (h : max x (-x) < ⊤) : ∃ r : ℝ, x = r := by
  refine ⟨x.toReal, (EReal.coe_toReal ?_ ?_).symm⟩
  · intro e; rw [e] at h; simp at h
  · intro e; rw [e] at h; simp at h

/-- An array whose absolute values are all below infinity is real at every index. -/
theorem reals {s : Shape} {axes : List (Fin s.rank)} (x : FVec Ideal s .f32) (hb : S_.BroadcastsInDim s ![]) (h : s.ReducesTo axes S_) (hu : 0 < S_.numel)
    (H : Host.reduce IntOp.andi (cmpf .olt (Host.absf x) (broadcastInDim s ![] hb (constant (F := Ideal) S_ .f32 0x7F800000#32))) (constantI S_ 1 1#1) h hu ix0 = 1#1)
    (i : s.Idx) : ∃ r : ℝ, x i = (r : EReal) := by
  rw [Host.reduce_eq_fold] at H
  have hi := fold_one _ _ _ H i (Finset.mem_filter.2 ⟨Finset.mem_univ i, funext fun a => a.elim0⟩)
  refine real_of_lt _ ?_
  have e : cmpf .olt (Host.absf x) (broadcastInDim s ![] hb (constant (F := Ideal) S_ .f32 0x7F800000#32)) i
      = BitVec.ofBool (decide (max (x i) (-(x i)) < Ideal.ofBits .f32 0x7F800000#32)) := rfl
  rw [e, Math.high] at hi
  by_contra hc
  rw [decide_eq_false hc] at hi
  exact absurd hi (by decide)

variable [Facts]

theorem split {s0 : FVec Ideal S4x8x8192x64 .f32} {s1 : FVec Ideal S4x8x8192x64 .f32} {s2 s3 : FVec Ideal S4x8x8448x64 .f32}
    {s4 : FVec Ideal S4x8x8448x128 .f32} {s5 : FVec Ideal S1x4x64 .f32} {s6 : FVec Ideal S1x128 .f32}
    (H : fn (F := Ideal) s0 s1 s2 s3 s4 s5 s6 ix0 = 1#1) :
    (∀ i, ∃ r : ℝ, s0 i = (r : EReal)) ∧ (∀ i, ∃ r : ℝ, s1 i = (r : EReal)) ∧ (∀ i, ∃ r : ℝ, s2 i = (r : EReal))
      ∧ (∀ i, ∃ r : ℝ, s3 i = (r : EReal)) ∧ (∀ i, ∃ r : ℝ, s4 i = (r : EReal)) ∧ (∀ i, ∃ r : ℝ, s5 i = (r : EReal)) := by
  have h5 := and_one (show IntOp.andi _ _ = 1#1 from H)
  have h4 := and_one (show IntOp.andi _ _ = 1#1 from h5.1)
  have h3 := and_one (show IntOp.andi _ _ = 1#1 from h4.1)
  have h2 := and_one (show IntOp.andi _ _ = 1#1 from h3.1)
  have h1 := and_one (show IntOp.andi _ _ = 1#1 from h2.1)
  exact ⟨reals _ _ _ _ h1.1, reals _ _ _ _ h1.2, reals _ _ _ _ h2.2, reals _ _ _ _ h3.2, reals _ _ _ _ h4.2, reals _ _ _ _ h5.2⟩

end Cert.Pre_finite_inputs

end
-- ==== Proof.Result.lean ====
/- The array the kernel leaves is the reference's result. -/
module

public import proofs.«01_k».proof.Defs
public import proofs.«01_k».proof.Proof.Value
public import proofs.«01_k».proof.Proof.Launch
public import proofs.«01_k».proof.Proof.Finite

@[expose] public section

set_option maxRecDepth 16384

noncomputable section

namespace Cert.KernelIdeal.Att

open Cert.KernelIdeal Cert.KernelIdeal.Gen
open Cert.ReferenceIdeal.Read
open Idealize.ShloMosaic Idealize.ShloMosaic.TcCoe Idealize.SL.Sem

variable (m : (ℓ : Loc nD τ sig) → Buf (Elt Ideal) ℓ) (c : Dev nD)

theorem rd5 (A : Buf (Elt Ideal) ((c : Thread nD τ).loc main_v24)) (b : Fin 4) (h : Fin 8) (s : Fin 8192) (e : Fin 128) :
    (((cfg0.win 5).blk (pt b h)).view.read (Elt Ideal) A : Vec Ideal S1x8192x128 .bf16) (ix3 0 s e) = (A : Vec Ideal S4x8192x1024 .bf16) (ix3 b s ⟨h.val * 128 + e.val, by omega⟩) := by
  rw [View.read_apply]
  refine congrArg (A : Vec Ideal S4x8192x1024 .bf16) ?_
  funext x
  apply Fin.ext
  match x with
  | ⟨0, _⟩ => show win0_5.index (pt b h) 0 * 1 + 1 * 0 = b.val; rw [idx5]; show b.val * 1 + 1 * 0 = _; omega
  | ⟨1, _⟩ => show win0_5.index (pt b h) 1 * 8192 + 1 * s.val = s.val; rw [idx5]; show 0 * 8192 + 1 * s.val = _; omega
  | ⟨2, _⟩ => show win0_5.index (pt b h) 2 * 128 + 1 * e.val = h.val * 128 + e.val; rw [idx5]; show h.val * 128 + 1 * e.val = _; omega

theorem cut_at (t : Fin cfg0.N) (x : Vec Ideal S1x8192x128 .bf16) (s : Fin 8192) (e : Fin 128) :
    ((cfg0.win 5).cut (grid0.coords t) x : Vec Ideal S1x8192x128 .bf16) (ix3 0 s e) = x (ix3 0 s e) := rfl

theorem out_at (b : Fin 4) (h : Fin 8) (s : Fin 8192) (e : Fin 128) :
    ((dats m 0 c).arrAt 5 cfg0.N : Vec Ideal S4x8192x1024 .bf16) (ix3 b s ⟨h.val * 128 + e.val, by omega⟩)
      = outAll (iblk m c 0 (pt b h)) (iblk m c 1 (pt b h)) (iblk m c 2 (pt b h)) (iblk m c 3 (pt b h)) (iblk m c 4 (pt b h)) (ix3 0 s e) := by
  have h1 := block_out m c (pt b h) (flush5 b h)
  rw [flushed_out] at h1
  have h2 := congrFun h1 (ix3 0 s e)
  rw [← rd5 c ((dats m 0 c).arrAt 5 cfg0.N) b h s e]
  exact h2.trans (cut_at (pt b h) (outPt m c (pt b h)) s e)

/-- The blocks of a point hold the arguments. -/
theorem holds (b : Fin 4) (h : Fin 8) : Holds (iblk m c 0 (pt b h)) (iblk m c 1 (pt b h)) (iblk m c 2 (pt b h)) (iblk m c 3 (pt b h)) (iblk m c 4 (pt b h))
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) b h where
  q1 a s ha := (blk0 m c b h a s).trans (queries_lo m c b h s a ha)
  q2 a s ha := (blk0 m c b h a s).trans (queries_hi m c b h s a ha)
  k1 t a ha := (blk1 m c b h t a).trans (keys_lo m c b h t a ha)
  k2 t a ha := (blk1 m c b h t a).trans (keys_hi m c b h t a ha)
  v e t := (blk2 m c b h ⟨e.val, by omega⟩ t).trans (vals_lo m c b h t e)
  one t := (blk2 m c b h 128 t).trans (vals_one m c b h t)
  l a d := (blk3 m c b h a d).trans (lam_at m c a d)
  g d := (blk4 m c b h d).trans (congrFun (V_main_arg6 m c) (ix2 0 d))

/-- The result array. -/
theorem result_eq
    (R : Reals (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5))) :
    ((dats m 0 c).arrAt 5 cfg0.N : Vec Ideal S4x8192x1024 .bf16)
      = rT (rN (rO (rS (m ((c : Thread nD τ).loc main_arg0)) (m ((c : Thread nD τ).loc main_arg2))) (rS (m ((c : Thread nD τ).loc main_arg1)) (m ((c : Thread nD τ).loc main_arg3)))
          (m ((c : Thread nD τ).loc main_arg5)) (m ((c : Thread nD τ).loc main_arg4))) (m ((c : Thread nD τ).loc main_arg6))) := by
  have key : ∀ (b : Fin 4) (s : Fin 8192) (x : Fin 1024), ((dats m 0 c).arrAt 5 cfg0.N : Vec Ideal S4x8192x1024 .bf16) (ix3 b s x)
      = rT (rN (rO (rS (m ((c : Thread nD τ).loc main_arg0)) (m ((c : Thread nD τ).loc main_arg2))) (rS (m ((c : Thread nD τ).loc main_arg1)) (m ((c : Thread nD τ).loc main_arg3)))
          (m ((c : Thread nD τ).loc main_arg5)) (m ((c : Thread nD τ).loc main_arg4))) (m ((c : Thread nD τ).loc main_arg6))) (ix3 b s x) := fun b s x => by
    rw [rT_at, ← out_eq R (holds m c b ⟨x.val / 128, by omega⟩), ← out_at]
    refine congrArg ((dats m 0 c).arrAt 5 cfg0.N : Vec Ideal S4x8192x1024 .bf16) ?_
    congr 1
    apply Fin.ext
    show x.val = x.val / 128 * 128 + x.val % 128
    omega
  funext i
  rw [eq_ix3 i]
  exact key _ _ _

/-- The array the kernel leaves. -/
def left : Buf (Elt Ideal) ((c.tc : Thread nD τ).loc main_v24) := (dats m 0 c).arrAt 5 cfg0.N

/-- The arguments are real where the precondition holds. -/
theorem reals (hpre : Cert.Pre_KernelIdeal_finite_inputs (hPre_finite_inputs := Cert.Pre_finite_inputs.Gen.facts) m) :
    Reals (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  obtain ⟨h0, h1, h2, h3, h4, h5⟩ := Cert.Pre_finite_inputs.split (congrFun (hpre c) ix0)
  exact ⟨h0, h1, h2, h3, h4, h5⟩

end Cert.KernelIdeal.Att

end
-- ==== Proof.Layer.lean ====
/-
  The pieces that the feed-forward part and the merge share, on plain functions: the modulated norm of a token, and the
  two forms of the sigmoid and of the silu.
-/
module

public import Idealize.ShloMosaic.Lib.Pointwise

@[expose] public section

noncomputable section

namespace Cert.Math

open Idealize.ShloMosaic

/-- A token's modulated norm. -/
def normed (X G SH SC : Fin 1024 → EReal) (d : Fin 1024) : EReal :=
  X d * Ideal.rsqrt (Ideal.div (∑ e, X e * X e) (Ideal.ofBits .f32 0x44800000#32) + Ideal.ofBits .f32 0x358637BD#32) * G d
    * (Ideal.ofBits .f32 0x3F800000#32 + SC d) + SH d

theorem zero2 : (![0, 0] : Fin 2 → Nat) = fun _ => 0 := funext fun a => by fin_cases a <;> rfl
theorem zero3 : (![0, 0, 0] : Fin 3 → Nat) = fun _ => 0 := funext fun a => by fin_cases a <;> rfl

theorem one_bits : Ideal.ofBits .f32 0x3F800000#32 = 1 := by
  simp [Ideal.ofBits, Ideal.ieee, -EReal.coe_mul]; norm_num

theorem half_bits : Ideal.ofBits .f32 0x3F000000#32 = ((1 / 2 : ℝ) : EReal) := by
  simp [Ideal.ofBits, Ideal.ieee, -EReal.coe_mul]; norm_num

theorem width_bits : Ideal.ofBits .f32 0x44800000#32 = ((1024 : ℝ) : EReal) := by
  simp [Ideal.ofBits, Ideal.ieee, -EReal.coe_mul]; norm_num

theorem eps_bits : ∃ r : ℝ, 0 < r ∧ Ideal.ofBits .f32 0x358637BD#32 = (r : EReal) := by
  refine ⟨8796093 / 8796093022208, by norm_num, ?_⟩
  simp [Ideal.ofBits, Ideal.ieee, -EReal.coe_mul]; norm_num

theorem tanh_half (a : ℝ) : 1 / 2 + 1 / 2 * Real.tanh (1 / 2 * a) = (1 + Real.exp (-a))⁻¹ := by
  have hu := Real.exp_pos (1 / 2 * a)
  have hw := Real.exp_pos (-(1 / 2 * a))
  have huw : Real.exp (1 / 2 * a) * Real.exp (-(1 / 2 * a)) = 1 := by rw [← Real.exp_add]; simp
  have ha : Real.exp (-a) = Real.exp (-(1 / 2 * a)) * Real.exp (-(1 / 2 * a)) := by rw [← Real.exp_add]; congr 1; ring
  rw [Real.tanh_eq_sinh_div_cosh, Real.sinh_eq, Real.cosh_eq, ha]
  generalize Real.exp (1 / 2 * a) = u at *
  generalize Real.exp (-(1 / 2 * a)) = w at *
  have h1 : u + w ≠ 0 := (add_pos hu hw).ne'
  have h2 : 1 + w * w ≠ 0 := by positivity
  field_simp
  linear_combination (2 * w) * huw

/-- The sigmoid by the hyperbolic tangent is the sigmoid, at infinities too. -/
theorem sigmoid_eq (x : EReal) : Ideal.ofBits .f32 0x3F000000#32 + Ideal.ofBits .f32 0x3F000000#32 * Ideal.tanh (Ideal.ofBits .f32 0x3F000000#32 * x)
    = Ideal.logistic x := by
  rw [half_bits]
  induction x with
  | bot =>
    rw [EReal.coe_mul_bot_of_pos (by norm_num), Ideal.logistic_bot]
    show ((1 / 2 : ℝ) : EReal) + ((1 / 2 : ℝ) : EReal) * ((-1 : ℝ) : EReal) = ((0 : ℝ) : EReal)
    rw [← EReal.coe_mul, ← EReal.coe_add]; norm_num
  | top =>
    rw [EReal.coe_mul_top_of_pos (by norm_num), Ideal.logistic_top]
    show ((1 / 2 : ℝ) : EReal) + ((1 / 2 : ℝ) : EReal) * ((1 : ℝ) : EReal) = ((1 : ℝ) : EReal)
    rw [← EReal.coe_mul, ← EReal.coe_add]; norm_num
  | coe a =>
    rw [← EReal.coe_mul, Ideal.tanh_coe, ← EReal.coe_mul, ← EReal.coe_add, Ideal.logistic_coe, tanh_half]

/-- The silu by the hyperbolic tangent is the silu at a real number. -/
theorem silu_eq (a : ℝ) : Ideal.ofBits .f32 0x3F000000#32 * (a : EReal)
      + Ideal.ofBits .f32 0x3F000000#32 * (a : EReal) * Ideal.tanh (Ideal.ofBits .f32 0x3F000000#32 * (a : EReal))
    = (a : EReal) * Ideal.logistic (a : EReal) := by
  rw [half_bits, ← EReal.coe_mul, Ideal.tanh_coe, ← EReal.coe_mul, ← EReal.coe_add, Ideal.logistic_coe, ← EReal.coe_mul, ← tanh_half]
  congr 1
  ring

theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The modulated norm of a real token by real weights is real. -/
theorem normed_real (X G SH SC : Fin 1024 → ℝ) (d : Fin 1024) :
    ∃ r : ℝ, normed (fun d => (X d : EReal)) (fun d => (G d : EReal)) (fun d => (SH d : EReal)) (fun d => (SC d : EReal)) d = (r : EReal) := by
  obtain ⟨e, he, hb⟩ := eps_bits
  have hs : 0 ≤ ∑ e, X e * X e := Finset.sum_nonneg fun i _ => mul_self_nonneg _
  unfold normed
  rw [hb, width_bits, one_bits]
  simp only [← EReal.coe_mul, sum_coe]
  rw [Ideal.div_coe (by norm_num), ← EReal.coe_mul, ← EReal.coe_add, Ideal.rsqrt_coe, if_neg (not_lt.mpr (by positivity)), if_neg (ne_of_gt (by positivity)),
    ← EReal.coe_mul, ← EReal.coe_mul, ← EReal.coe_one, ← EReal.coe_add, ← EReal.coe_mul, ← EReal.coe_add]
  exact ⟨_, rfl⟩

end Cert.Math

end
-- ==== Proof.FfnKer.lean ====
/- The feed-forward body's payloads read at an index. -/
module

public import proofs.«01_k».proof.Proof.Gen.Kernel2Ideal.Skeleton
public import Idealize.ShloMosaic.Lib.Pointwise
public import proofs.«01_k».proof.Proof.Layer

@[expose] public section

set_option maxRecDepth 16384

noncomputable section

namespace Cert.Kernel2Ideal.Ffn

open Cert.Kernel2Ideal Cert.Kernel2Ideal.Gen Cert.Math
open Idealize.ShloMosaic

theorem y_at (v1 : FVec Ideal S512x1024 .f32) (v3 : FVec Ideal S1x6144 .f32) (v38 : FVec Ideal S512x2816 .bf16) (v39 : Vec Ideal S2816x1024 .bf16) (r : Fin 512) (e : Fin 1024) :
    k0_pay1 v1 v3 v38 v39 (ix3 0 r e) = v1 (ix2 r e) + v3 (ix2 0 ⟨5120 + e.val, by omega⟩) * ∑ k, v38 (ix2 r k) * v39 (ix2 k e) := by
  pointwise [k0_pay1]

theorem x_at (v0 : Vec Ideal S1x512x1024 .f32) (r : Fin 512) (e : Fin 1024) : k0_pay2 v0 (ix2 r e) = v0 (ix3 0 r e) := by
  pointwise [k0_pay2]

theorem m_at (v2 : Vec Ideal S1x1x6144 .f32) (e : Fin 6144) : k0_pay3 v2 (ix2 0 e) = v2 (ix3 0 0 e) := by
  pointwise [k0_pay3]

theorem h_at (v0 : Vec Ideal S1x512x1024 .f32) (v2 : Vec Ideal S1x1x6144 .f32) (v4 : Vec Ideal S1x1024 .f32) (v26 v29 : Vec Ideal S1024x2816 .bf16)
    (r : Fin 512) (k : Fin 2816) (N : Fin 1024 → EReal)
    (hN : N = normed (fun d => v0 (ix3 0 r d)) (fun d => v4 (ix2 0 d)) (fun d => v2 (ix3 0 0 ⟨3072 + d.val, by omega⟩)) (fun d => v2 (ix3 0 0 ⟨4096 + d.val, by omega⟩))) :
    k0_pay4 v0 v2 v4 v26 v29 (ix2 r k)
      = (Ideal.ofBits .f32 0x3F000000#32 * (∑ d, N d * v26 (ix2 d k))
        + Ideal.ofBits .f32 0x3F000000#32 * (∑ d, N d * v26 (ix2 d k)) * Ideal.tanh (Ideal.ofBits .f32 0x3F000000#32 * (∑ d, N d * v26 (ix2 d k))))
        * ∑ d, N d * v29 (ix2 d k) := by
  rw [hN]
  unfold normed
  pointwise [k0_pay4, k0_pay2, k0_pay3]

/-- The same with the weights' blocks read. -/
theorem h_of (v0 : Vec Ideal S1x512x1024 .f32) (v2 : Vec Ideal S1x1x6144 .f32) (v4 : Vec Ideal S1x1024 .f32) (v26 v29 : Vec Ideal S1024x2816 .bf16)
    (r : Fin 512) (k : Fin 2816) (X G SH SC A B : Fin 1024 → EReal) (hX : ∀ d, v0 (ix3 0 r d) = X d) (hG : ∀ d, v4 (ix2 0 d) = G d)
    (hSH : ∀ d : Fin 1024, v2 (ix3 0 0 ⟨3072 + d.val, by omega⟩) = SH d) (hSC : ∀ d : Fin 1024, v2 (ix3 0 0 ⟨4096 + d.val, by omega⟩) = SC d)
    (hA : ∀ d, v26 (ix2 d k) = A d) (hB : ∀ d, v29 (ix2 d k) = B d) :
    k0_pay4 v0 v2 v4 v26 v29 (ix2 r k)
      = (Ideal.ofBits .f32 0x3F000000#32 * (∑ d, normed X G SH SC d * A d)
        + Ideal.ofBits .f32 0x3F000000#32 * (∑ d, normed X G SH SC d * A d) * Ideal.tanh (Ideal.ofBits .f32 0x3F000000#32 * (∑ d, normed X G SH SC d * A d)))
        * ∑ d, normed X G SH SC d * B d := by
  rw [h_at v0 v2 v4 v26 v29 r k _ rfl]
  simp only [hX, hG, hSH, hSC, hA, hB]

end Cert.Kernel2Ideal.Ffn

end
-- ==== Proof.FfnHost.lean ====
/- The feed-forward call's blocks read at an index in the arguments, and what its body leaves of them. -/
module

public import proofs.«01_k».proof.Proof.Gen.Kernel2Ideal.Value
public import proofs.«01_k».proof.Proof.FfnKer
public import Idealize.ShloMosaic.Lib.StableHlo.ReadAt

@[expose] public section

set_option maxRecDepth 16384

noncomputable section

namespace Cert.Kernel2Ideal.Ffn

open Cert.Kernel2Ideal Cert.Kernel2Ideal.Gen Cert.Math
open Idealize.ShloMosaic Idealize.ShloMosaic.TcCoe Idealize.SL.Sem

variable (m : (ℓ : Loc nD τ sig) → Buf (Elt Ideal) ℓ) (c : Dev nD)

theorem mod_at (b : Fin 4) (e : Fin 6144) : V m c main_v2 (ix3 ⟨b.val, by omega⟩ 0 e) = m ((c : Thread nD τ).loc main_arg1) (ix2 b e) := by
  unfold V
  after_reads_at
  after_reads_at

theorem wi_at (d : Fin 1024) (k : Fin 5632) : V m c main_v4 (ix2 d k) = m ((c : Thread nD τ).loc main_arg3) (ix3 0 d k) := by
  unfold V
  after_reads_at

theorem wo_at (k : Fin 2816) (d : Fin 1024) : V m c main_v6 (ix2 k d) = m ((c : Thread nD τ).loc main_arg4) (ix3 0 k d) := by
  unfold V
  after_reads_at

/-- The grid point of batch `b`, tile `i`. -/
def pt (b : Fin 4) (i : Fin 16) : Fin cfg0.N := ⟨b.val * 16 + i.val, by show b.val * 16 + i.val < 64; omega⟩

theorem idx0 : ∀ (b : Fin 4) (i : Fin 16), win0_0.index (pt b i) = ![b.val, i.val, 0] := by decide +kernel
theorem idx1 : ∀ (b : Fin 4) (i : Fin 16), win0_1.index (pt b i) = ![b.val, 0, 0] := by decide +kernel
theorem idx2 : ∀ (b : Fin 4) (i : Fin 16), win0_2.index (pt b i) = ![0, 0] := by decide +kernel
theorem idx3 : ∀ (b : Fin 4) (i : Fin 16), win0_3.index (pt b i) = ![0, 0] := by decide +kernel
theorem idx4 : ∀ (b : Fin 4) (i : Fin 16), win0_4.index (pt b i) = ![0, 0] := by decide +kernel
theorem idx5 : ∀ (b : Fin 4) (i : Fin 16), win0_5.index (pt b i) = ![b.val, i.val, 0] := by decide +kernel
theorem flush5 : ∀ (b : Fin 4) (i : Fin 16), (cfg0.win 5).flush (pt b i) = true := by decide +kernel

theorem rd0 (A : Buf (Elt Ideal) ((c : Thread nD τ).loc (Pipeline.arrRef spec0 0))) (b : Fin 4) (i : Fin 16) (r : Fin 512) (d : Fin 1024) :
    (((cfg0.win 0).blk (pt b i)).view.read (Elt Ideal) A : Vec Ideal S1x512x1024 .f32) (ix3 0 r d) = (A : Vec Ideal S4x8192x1024 .f32) (ix3 b ⟨i.val * 512 + r.val, by omega⟩ d) := by
  rw [View.read_apply]
  refine congrArg (A : Vec Ideal S4x8192x1024 .f32) ?_
  funext x
  apply Fin.ext
  match x with
  | ⟨0, _⟩ => show win0_0.index (pt b i) 0 * 1 + 1 * 0 = b.val; rw [idx0]; show b.val * 1 + 1 * 0 = _; omega
  | ⟨1, _⟩ => show win0_0.index (pt b i) 1 * 512 + 1 * r.val = i.val * 512 + r.val; rw [idx0]; show i.val * 512 + 1 * r.val = _; omega
  | ⟨2, _⟩ => show win0_0.index (pt b i) 2 * 1024 + 1 * d.val = d.val; rw [idx0]; show 0 * 1024 + 1 * d.val = _; omega

theorem blk0 (b : Fin 4) (i : Fin 16) (r : Fin 512) (d : Fin 1024) :
    (iblk m c 0 (pt b i) : Vec Ideal S1x512x1024 .f32) (ix3 0 r d) = m ((c : Thread nD τ).loc main_arg0) (ix3 b ⟨i.val * 512 + r.val, by omega⟩ d) :=
  (rd0 c (V m c main_arg0) b i r d).trans (congrFun (V_main_arg0 m c) _)

theorem rd1 (A : Buf (Elt Ideal) ((c : Thread nD τ).loc (Pipeline.arrRef spec0 1))) (b : Fin 4) (i : Fin 16) (e : Fin 6144) :
    (((cfg0.win 1).blk (pt b i)).view.read (Elt Ideal) A : Vec Ideal S1x1x6144 .f32) (ix3 0 0 e) = (A : Vec Ideal S8x1x6144 .f32) (ix3 ⟨b.val, by omega⟩ 0 e) := by
  rw [View.read_apply]
  refine congrArg (A : Vec Ideal S8x1x6144 .f32) ?_
  funext x
  apply Fin.ext
  match x with
  | ⟨0, _⟩ => show win0_1.index (pt b i) 0 * 1 + 1 * 0 = b.val; rw [idx1]; show b.val * 1 + 1 * 0 = _; omega
  | ⟨1, _⟩ => show win0_1.index (pt b i) 1 * 1 + 1 * 0 = 0; rw [idx1]; show 0 * 1 + 1 * 0 = _; omega
  | ⟨2, _⟩ => show win0_1.index (pt b i) 2 * 6144 + 1 * e.val = e.val; rw [idx1]; show 0 * 6144 + 1 * e.val = _; omega

theorem blk1 (b : Fin 4) (i : Fin 16) (e : Fin 6144) :
    (iblk m c 1 (pt b i) : Vec Ideal S1x1x6144 .f32) (ix3 0 0 e) = m ((c : Thread nD τ).loc main_arg1) (ix2 b e) :=
  (rd1 c (V m c main_v2) b i e).trans (mod_at m c b e)

theorem rd2 (A : Buf (Elt Ideal) ((c : Thread nD τ).loc (Pipeline.arrRef spec0 2))) (b : Fin 4) (i : Fin 16) (d : Fin 1024) :
    (((cfg0.win 2).blk (pt b i)).view.read (Elt Ideal) A : Vec Ideal S1x1024 .f32) (ix2 0 d) = (A : Vec Ideal S1x1024 .f32) (ix2 0 d) := by
  rw [View.read_apply]
  refine congrArg (A : Vec Ideal S1x1024 .f32) ?_
  funext x
  apply Fin.ext
  match x with
  | ⟨0, _⟩ => show win0_2.index (pt b i) 0 * 1 + 1 * 0 = 0; rw [idx2]; show 0 * 1 + 1 * 0 = _; omega
  | ⟨1, _⟩ => show win0_2.index (pt b i) 1 * 1024 + 1 * d.val = d.val; rw [idx2]; show 0 * 1024 + 1 * d.val = _; omega

theorem blk2 (b : Fin 4) (i : Fin 16) (d : Fin 1024) :
    (iblk m c 2 (pt b i) : Vec Ideal S1x1024 .f32) (ix2 0 d) = m ((c : Thread nD τ).loc main_arg2) (ix2 0 d) :=
  (rd2 c (V m c main_arg2) b i d).trans (congrFun (V_main_arg2 m c) _)

theorem rd3 (A : Buf (Elt Ideal) ((c : Thread nD τ).loc (Pipeline.arrRef spec0 3))) (b : Fin 4) (i : Fin 16) (d : Fin 1024) (k : Fin 5632) :
    (((cfg0.win 3).blk (pt b i)).view.read (Elt Ideal) A : Vec Ideal S1024x5632 .bf16) (ix2 d k) = (A : Vec Ideal S1024x5632 .bf16) (ix2 d k) := by
  rw [View.read_apply]
  refine congrArg (A : Vec Ideal S1024x5632 .bf16) ?_
  funext x
  apply Fin.ext
  match x with
  | ⟨0, _⟩ => show win0_3.index (pt b i) 0 * 1024 + 1 * d.val = d.val; rw [idx3]; show 0 * 1024 + 1 * d.val = _; omega
  | ⟨1, _⟩ => show win0_3.index (pt b i) 1 * 5632 + 1 * k.val = k.val; rw [idx3]; show 0 * 5632 + 1 * k.val = _; omega

theorem blk3 (b : Fin 4) (i : Fin 16) (d : Fin 1024) (k : Fin 5632) :
    (iblk m c 3 (pt b i) : Vec Ideal S1024x5632 .bf16) (ix2 d k) = m ((c : Thread nD τ).loc main_arg3) (ix3 0 d k) :=
  (rd3 c (V m c main_v4) b i d k).trans (wi_at m c d k)

theorem rd4 (A : Buf (Elt Ideal) ((c : Thread nD τ).loc (Pipeline.arrRef spec0 4))) (b : Fin 4) (i : Fin 16) (k : Fin 2816) (d : Fin 1024) :
    (((cfg0.win 4).blk (pt b i)).view.read (Elt Ideal) A : Vec Ideal S2816x1024 .bf16) (ix2 k d) = (A : Vec Ideal S2816x1024 .bf16) (ix2 k d) := by
  rw [View.read_apply]
  refine congrArg (A : Vec Ideal S2816x1024 .bf16) ?_
  funext x
  apply Fin.ext
  match x with
  | ⟨0, _⟩ => show win0_4.index (pt b i) 0 * 2816 + 1 * k.val = k.val; rw [idx4]; show 0 * 2816 + 1 * k.val = _; omega
  | ⟨1, _⟩ => show win0_4.index (pt b i) 1 * 1024 + 1 * d.val = d.val; rw [idx4]; show 0 * 1024 + 1 * d.val = _; omega

theorem blk4 (b : Fin 4) (i : Fin 16) (k : Fin 2816) (d : Fin 1024) :
    (iblk m c 4 (pt b i) : Vec Ideal S2816x1024 .bf16) (ix2 k d) = m ((c : Thread nD τ).loc main_arg4) (ix3 0 k d) :=
  (rd4 c (V m c main_v6) b i k d).trans (wo_at m c k d)

theorem rd5 (A : Buf (Elt Ideal) ((c : Thread nD τ).loc main_v7)) (b : Fin 4) (i : Fin 16) (r : Fin 512) (d : Fin 1024) :
    (((cfg0.win 5).blk (pt b i)).view.read (Elt Ideal) A : Vec Ideal S1x512x1024 .f32) (ix3 0 r d) = (A : Vec Ideal S4x8192x1024 .f32) (ix3 b ⟨i.val * 512 + r.val, by omega⟩ d) := by
  rw [View.read_apply]
  refine congrArg (A : Vec Ideal S4x8192x1024 .f32) ?_
  funext x
  apply Fin.ext
  match x with
  | ⟨0, _⟩ => show win0_5.index (pt b i) 0 * 1 + 1 * 0 = b.val; rw [idx5]; show b.val * 1 + 1 * 0 = _; omega
  | ⟨1, _⟩ => show win0_5.index (pt b i) 1 * 512 + 1 * r.val = i.val * 512 + r.val; rw [idx5]; show i.val * 512 + 1 * r.val = _; omega
  | ⟨2, _⟩ => show win0_5.index (pt b i) 2 * 1024 + 1 * d.val = d.val; rw [idx5]; show 0 * 1024 + 1 * d.val = _; omega

/-- The first weight's two halves. -/
theorem lo_at (x : Vec Ideal S1024x5632 .bf16) (d : Fin 1024) (k : Fin 2816) : (View.ld x r0_3 : Vec Ideal S1024x2816 .bf16) (ix2 d k) = x (ix2 d ⟨k.val, by omega⟩) := by
  refine congrArg x ?_
  funext a
  apply Fin.ext
  match a with
  | ⟨0, _⟩ => show 0 + 1 * d.val = d.val; omega
  | ⟨1, _⟩ => show 0 + 1 * k.val = k.val; omega

theorem hi_at (x : Vec Ideal S1024x5632 .bf16) (d : Fin 1024) (k : Fin 2816) : (View.ld x r0_4 : Vec Ideal S1024x2816 .bf16) (ix2 d k) = x (ix2 d ⟨2816 + k.val, by omega⟩) := by
  refine congrArg x ?_
  funext a
  apply Fin.ext
  match a with
  | ⟨0, _⟩ => show 0 + 1 * d.val = d.val; omega
  | ⟨1, _⟩ => show 2816 + 1 * k.val = 2816 + k.val; omega

theorem out_eq (x0 : Vec Ideal S1x512x1024 .f32) (x1 : Vec Ideal S1x1x6144 .f32) (x2 : Vec Ideal S1x1024 .f32) (x3 : Vec Ideal S1024x5632 .bf16) (x4 : Vec Ideal S2816x1024 .bf16) :
    out0_5 x0 x1 x2 x3 x4 = k0_pay1 (k0_pay2 x0) (k0_pay3 x1) (k0_pay4 x0 x1 x2 (View.ld x3 r0_3) (View.ld x3 r0_4)) x4 := by
  unfold out0_5
  rw [View.canon_unit_zero zero3, View.ld_unit_zero zero3, View.ld_unit_zero zero3, View.ld_unit_zero zero2, View.ld_unit_zero zero2]

theorem cut_at (t : Fin cfg0.N) (x : Vec Ideal S1x512x1024 .f32) (r : Fin 512) (d : Fin 1024) :
    ((cfg0.win 5).cut (grid0.coords t) x : Vec Ideal S1x512x1024 .f32) (ix3 0 r d) = x (ix3 0 r d) := rfl

theorem out_at (b : Fin 4) (i : Fin 16) (r : Fin 512) (d : Fin 1024) :
    ((dats m 0 c).arrAt 5 cfg0.N : Vec Ideal S4x8192x1024 .f32) (ix3 b ⟨i.val * 512 + r.val, by omega⟩ d)
      = out0_5 (iblk m c 0 (pt b i)) (iblk m c 1 (pt b i)) (iblk m c 2 (pt b i)) (iblk m c 3 (pt b i)) (iblk m c 4 (pt b i)) (ix3 0 r d) := by
  have h1 := Cert.Kernel2Ideal.Value.blocks5 m c (pt b i) (flush5 b i)
  rw [Cert.Kernel2Ideal.Value.flushed5] at h1
  have h2 := congrFun h1 (ix3 0 r d)
  rw [← rd5 c ((dats m 0 c).arrAt 5 cfg0.N) b i r d]
  exact h2.trans (cut_at (pt b i) _ r d)

end Cert.Kernel2Ideal.Ffn

end
-- ==== Proof.FfnRef.lean ====
/- The feed-forward part's reference read at an index: the modulated norm, the two products with the first weight, the hidden values, the result. -/
module

public import proofs.«01_k».proof.Proof.Gen.Reference2Ideal.Run
public import Idealize.ShloMosaic.Lib.Pointwise
public import proofs.«01_k».proof.Proof.Layer

@[expose] public section

set_option maxRecDepth 16384

noncomputable section

namespace Cert.Reference2Ideal.Read

open Cert.Reference2Ideal Cert.Reference2Ideal.Gen Cert.Reference2Ideal.Value Cert.Math
open Idealize.ShloMosaic Idealize.ShloMosaic.TcCoe Idealize.SL.Sem

/-- The modulated norm. -/
def rX (x : FVec Ideal S4x8192x1024 .f32) (e : FVec Ideal S4x6144 .f32) (g : FVec Ideal S1x1024 .f32) : FVec Ideal S4x8192x1024 .f32 :=
  addf (mulf (mulf (mulf x (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf x x) (constant S_ .f32 0x00000000#32)
    reducesTo_S4x8192x1024_S4x8192_d2 h_S_)) (broadcastInDim S4x8192x1 ![] bcast_S_S4x8192x1 (constant S_ .f32 0x44800000#32)))
    (broadcastInDim S4x8192x1 ![] bcast_S_S4x8192x1 (constant S_ .f32 0x358637BD#32)))))) (broadcastInDim S4x8192x1024 ![0, 1, 2]
    bcast_S1x1x1024_S4x8192x1024_0_1_2 (broadcastInDim S1x1x1024 ![2] bcast_S1024_S1x1x1024_2 (shapeCast _ g
    shapeCasts_S1x1024_S1024)))) (broadcastInDim S4x8192x1024 ![0, 1, 2] bcast_S4x1x1024_S4x8192x1024_0_1_2 (addf (broadcastInDim
    S4x1x1024 ![] bcast_S_S4x1x1024 (constant S_ .f32 0x3F800000#32)) (broadcastInDim S4x1x1024 ![0, 2] bcast_S4x1024_S4x1x1024_0_2
    (extractStridedSlice S4x1024 ![0, 4096] e slices_S4x6144_S4x1024_0_4096))))) (broadcastInDim S4x8192x1024 ![0, 1, 2]
    bcast_S4x1x1024_S4x8192x1024_0_1_2 (broadcastInDim S4x1x1024 ![0, 2] bcast_S4x1024_S4x1x1024_0_2 (extractStridedSlice S4x1024 ![0,
    3072] e slices_S4x6144_S4x1024_0_3072)))

/-- Its product with the first weight. -/
def rD (x : FVec Ideal S4x8192x1024 .f32) (w : FVec Ideal S1x1024x5632 .f32) : FVec Ideal S4x8192x5632 .f32 :=
  Host.dotGeneral dot_S4x8192x1024_S1024x5632_S4x8192x5632_2_0_01_1_n_n none x (shapeCast _ w shapeCasts_S1x1024x5632_S1024x5632)

/-- The hidden values. -/
def rH (d : FVec Ideal S4x8192x5632 .f32) : FVec Ideal S4x8192x2816 .f32 :=
  mulf (mulf (extractStridedSlice S4x8192x2816 ![0, 0, 0] d slices_S4x8192x5632_S4x8192x2816_0_0_0) (Host.divf (broadcastInDim
    S4x8192x2816 ![] bcast_S_S4x8192x2816 (constant S_ .f32 0x3F800000#32)) (addf (broadcastInDim S4x8192x2816 ![]
    bcast_S_S4x8192x2816 (constant S_ .f32 0x3F800000#32)) (Host.exp (Host.negf (extractStridedSlice S4x8192x2816 ![0, 0, 0] d
    slices_S4x8192x5632_S4x8192x2816_0_0_0)))))) (extractStridedSlice S4x8192x2816 ![0, 0, 2816] d
    slices_S4x8192x5632_S4x8192x2816_0_0_2816)

/-- The result. -/
def rR (x : FVec Ideal S4x8192x1024 .f32) (e : FVec Ideal S4x6144 .f32) (h : FVec Ideal S4x8192x2816 .f32) (w : FVec Ideal S1x2816x1024 .f32) : FVec Ideal S4x8192x1024 .f32 :=
  addf x (mulf (broadcastInDim S4x8192x1024 ![0, 1, 2] bcast_S4x1x1024_S4x8192x1024_0_1_2 (broadcastInDim S4x1x1024 ![0, 2]
    bcast_S4x1024_S4x1x1024_0_2 (extractStridedSlice S4x1024 ![0, 5120] e slices_S4x6144_S4x1024_0_5120))) (Host.dotGeneral
    dot_S4x8192x2816_S2816x1024_S4x8192x1024_2_0_01_1_n_n none h (shapeCast _ w shapeCasts_S1x2816x1024_S2816x1024)))

theorem res_eq (m : (ℓ : Loc nD τ sig) → Buf (Elt Ideal) ℓ) (c : Dev nD) : res_main_v42 (F := Ideal) m c
    = rR (m ((c.tc : Thread nD τ).loc main_arg0)) (m ((c.tc : Thread nD τ).loc main_arg1))
        (rH (rD (rX (m ((c.tc : Thread nD τ).loc main_arg0)) (m ((c.tc : Thread nD τ).loc main_arg1)) (m ((c.tc : Thread nD τ).loc main_arg2)))
          (m ((c.tc : Thread nD τ).loc main_arg3)))) (m ((c.tc : Thread nD τ).loc main_arg4)) := rfl

theorem rX_at (x : FVec Ideal S4x8192x1024 .f32) (e : FVec Ideal S4x6144 .f32) (g : FVec Ideal S1x1024 .f32) (b : Fin 4) (s : Fin 8192) (d : Fin 1024) :
    rX x e g (ix3 b s d) = normed (fun d => x (ix3 b s d)) (fun d => g (ix2 0 d)) (fun d => e (ix2 b ⟨3072 + d.val, by omega⟩)) (fun d => e (ix2 b ⟨4096 + d.val, by omega⟩)) d := by
  unfold normed
  pointwise [rX]

theorem rD_at (x : FVec Ideal S4x8192x1024 .f32) (w : FVec Ideal S1x1024x5632 .f32) (b : Fin 4) (s : Fin 8192) (k : Fin 5632) :
    rD x w (ix3 b s k) = ∑ d, x (ix3 b s d) * w (ix3 0 d k) := by
  pointwise [rD]

theorem rH_at (d : FVec Ideal S4x8192x5632 .f32) (b : Fin 4) (s : Fin 8192) (k : Fin 2816) :
    rH d (ix3 b s k) = d (ix3 b s ⟨k.val, by omega⟩) * Ideal.logistic (d (ix3 b s ⟨k.val, by omega⟩)) * d (ix3 b s ⟨2816 + k.val, by omega⟩) := by
  unfold Ideal.logistic
  rw [← one_bits]
  pointwise [rH]

theorem rR_at (x : FVec Ideal S4x8192x1024 .f32) (e : FVec Ideal S4x6144 .f32) (h : FVec Ideal S4x8192x2816 .f32) (w : FVec Ideal S1x2816x1024 .f32)
    (b : Fin 4) (s : Fin 8192) (d : Fin 1024) :
    rR x e h w (ix3 b s d) = x (ix3 b s d) + e (ix2 b ⟨5120 + d.val, by omega⟩) * ∑ k, h (ix3 b s k) * w (ix3 0 k d) := by
  pointwise [rR]

end Cert.Reference2Ideal.Read

end
-- ==== Proof.Ffn.lean ====
/- The feed-forward call: its kernel's frame, and its result equal to the reference's over the reals. -/
module

public import proofs.«01_k».proof.Defs
public import proofs.«01_k».proof.Proof.Gen.Kernel2
public import proofs.«01_k».proof.Proof.Gen.Pre_finite_ffn
public import proofs.«01_k».proof.Proof.FfnHost
public import proofs.«01_k».proof.Proof.FfnRef
public import proofs.«01_k».proof.Proof.Finite

@[expose] public section

set_option maxRecDepth 16384

noncomputable section

namespace Cert.Pre_finite_ffn

open Idealize.ShloMosaic Facts
open Cert.Pre_finite_inputs (and_one reals)

variable [Facts]

theorem split {s0 : FVec Ideal S4x8192x1024 .f32} {s1 : FVec Ideal S4x6144 .f32} {s2 : FVec Ideal S1x1024 .f32} {s3 : FVec Ideal S1x1024x5632 .f32}
    {s4 : FVec Ideal S1x2816x1024 .f32} (H : fn (F := Ideal) s0 s1 s2 s3 s4 ix0 = 1#1) :
    (∀ i, ∃ r : ℝ, s0 i = (r : EReal)) ∧ (∀ i, ∃ r : ℝ, s1 i = (r : EReal)) ∧ (∀ i, ∃ r : ℝ, s2 i = (r : EReal)) ∧ (∀ i, ∃ r : ℝ, s3 i = (r : EReal)) := by
  have h3 := and_one (show IntOp.andi _ _ = 1#1 from H)
  have h2 := and_one (show IntOp.andi _ _ = 1#1 from h3.1)
  have h1 := and_one (show IntOp.andi _ _ = 1#1 from h2.1)
  exact ⟨reals _ _ _ _ h1.1, reals _ _ _ _ h1.2, reals _ _ _ _ h2.2, reals _ _ _ _ h3.2⟩

end Cert.Pre_finite_ffn

namespace Cert.Kernel2Ideal.Ffn

open Cert.Kernel2Ideal Cert.Kernel2Ideal.Gen Cert.Math
open Cert.Reference2Ideal.Read
open Idealize.ShloMosaic Idealize.ShloMosaic.TcCoe Idealize.SL.Sem

/-- A product of a real token's norm with a real column is real. -/
theorem dot_real {x : FVec Ideal S4x8192x1024 .f32} {e : FVec Ideal S4x6144 .f32} {g : FVec Ideal S1x1024 .f32} {w : FVec Ideal S1x1024x5632 .f32}
    (hx : ∀ i, ∃ r : ℝ, x i = (r : EReal)) (he : ∀ i, ∃ r : ℝ, e i = (r : EReal)) (hg : ∀ i, ∃ r : ℝ, g i = (r : EReal)) (hw : ∀ i, ∃ r : ℝ, w i = (r : EReal))
    (b : Fin 4) (s : Fin 8192) (k : Fin 5632) : ∃ r : ℝ, rD (rX x e g) w (ix3 b s k) = (r : EReal) := by
  choose X hX using hx
  choose E hE using he
  choose G hG using hg
  choose W hW using hw
  have hn : ∀ d, ∃ r : ℝ, rX x e g (ix3 b s d) = (r : EReal) := fun d => by
    rw [rX_at]
    simp only [hX, hE, hG]
    exact normed_real (fun d => X (ix3 b s d)) (fun d => G (ix2 0 d)) (fun d => E (ix2 b ⟨3072 + d.val, by omega⟩)) (fun d => E (ix2 b ⟨4096 + d.val, by omega⟩)) d
  choose N hN using hn
  refine ⟨∑ d, N d * W (ix3 0 d k), ?_⟩
  rw [rD_at, ← sum_coe]
  refine Finset.sum_congr rfl fun d _ => ?_
  rw [hN, hW, EReal.coe_mul]

variable (m : (ℓ : Loc nD τ sig) → Buf (Elt Ideal) ℓ) (c : Dev nD)

/-- The arguments whose entries are real numbers. -/
structure Reals : Prop where
  x : ∀ i, ∃ r : ℝ, m ((c : Thread nD τ).loc main_arg0) i = (r : EReal)
  e : ∀ i, ∃ r : ℝ, m ((c : Thread nD τ).loc main_arg1) i = (r : EReal)
  g : ∀ i, ∃ r : ℝ, m ((c : Thread nD τ).loc main_arg2) i = (r : EReal)
  w : ∀ i, ∃ r : ℝ, m ((c : Thread nD τ).loc main_arg3) i = (r : EReal)

/-- A point's result is the reference's at its row. -/
theorem point_eq (R : Reals m c) (b : Fin 4) (i : Fin 16) (r : Fin 512) (d : Fin 1024) :
    out0_5 (iblk m c 0 (pt b i)) (iblk m c 1 (pt b i)) (iblk m c 2 (pt b i)) (iblk m c 3 (pt b i)) (iblk m c 4 (pt b i)) (ix3 0 r d)
      = rR (m ((c : Thread nD τ).loc main_arg0)) (m ((c : Thread nD τ).loc main_arg1))
        (rH (rD (rX (m ((c : Thread nD τ).loc main_arg0)) (m ((c : Thread nD τ).loc main_arg1)) (m ((c : Thread nD τ).loc main_arg2)))
          (m ((c : Thread nD τ).loc main_arg3)))) (m ((c : Thread nD τ).loc main_arg4)) (ix3 b ⟨i.val * 512 + r.val, by omega⟩ d) := by
  have e0 := blk0 m c b i r
  have e1 := blk1 m c b i
  have e2 := blk2 m c b i
  have e3 := blk3 m c b i
  have e4 := blk4 m c b i
  have hr := dot_real R.x R.e R.g R.w b ⟨i.val * 512 + r.val, by omega⟩
  generalize hx0 : (iblk m c 0 (pt b i) : Vec Ideal S1x512x1024 .f32) = x0 at *
  generalize hx1 : (iblk m c 1 (pt b i) : Vec Ideal S1x1x6144 .f32) = x1 at *
  generalize hx2 : (iblk m c 2 (pt b i) : Vec Ideal S1x1024 .f32) = x2 at *
  generalize hx3 : (iblk m c 3 (pt b i) : Vec Ideal S1024x5632 .bf16) = x3 at *
  generalize hx4 : (iblk m c 4 (pt b i) : Vec Ideal S2816x1024 .bf16) = x4 at *
  rw [out_eq, y_at, x_at, m_at, rR_at, e0, e1]
  congr 2
  refine Finset.sum_congr rfl fun k _ => ?_
  rw [e4]
  congr 1
  refine (h_of x0 x1 x2 _ _ r k _ _ _ _ _ _ e0 e2 (fun d => e1 _) (fun d => e1 _)
    (fun d => (lo_at x3 d k).trans (e3 d _)) (fun d => (hi_at x3 d k).trans (e3 d _))).trans ?_
  rw [rH_at]
  simp only [← rX_at, ← rD_at]
  obtain ⟨a, ha⟩ := hr ⟨k.val, by omega⟩
  rw [ha, silu_eq]

/-- The result array. -/
theorem result_eq (R : Reals m c) : ((dats m 0 c).arrAt 5 cfg0.N : Vec Ideal S4x8192x1024 .f32)
      = rR (m ((c : Thread nD τ).loc main_arg0)) (m ((c : Thread nD τ).loc main_arg1))
        (rH (rD (rX (m ((c : Thread nD τ).loc main_arg0)) (m ((c : Thread nD τ).loc main_arg1)) (m ((c : Thread nD τ).loc main_arg2)))
          (m ((c : Thread nD τ).loc main_arg3)))) (m ((c : Thread nD τ).loc main_arg4)) := by
  have key : ∀ (b : Fin 4) (s : Fin 8192) (d : Fin 1024), ((dats m 0 c).arrAt 5 cfg0.N : Vec Ideal S4x8192x1024 .f32) (ix3 b s d)
      = rR (m ((c : Thread nD τ).loc main_arg0)) (m ((c : Thread nD τ).loc main_arg1))
        (rH (rD (rX (m ((c : Thread nD τ).loc main_arg0)) (m ((c : Thread nD τ).loc main_arg1)) (m ((c : Thread nD τ).loc main_arg2)))
          (m ((c : Thread nD τ).loc main_arg3)))) (m ((c : Thread nD τ).loc main_arg4)) (ix3 b s d) := fun b s d => by
    have h := (out_at m c b ⟨s.val / 512, by omega⟩ ⟨s.val % 512, by omega⟩ d).trans (point_eq m c R b ⟨s.val / 512, by omega⟩ ⟨s.val % 512, by omega⟩ d)
    have hs : (⟨s.val / 512 * 512 + s.val % 512, by omega⟩ : Fin 8192) = s := Fin.ext (by show s.val / 512 * 512 + s.val % 512 = s.val; omega)
    dsimp only at h
    rw [hs] at h
    exact h
  funext j
  rw [eq_ix3 j]
  exact key _ _ _

/-- The array the kernel leaves. -/
def left : Buf (Elt Ideal) ((c.tc : Thread nD τ).loc main_v7) := (dats m 0 c).arrAt 5 cfg0.N

/-- The arguments are real where the precondition holds. -/
theorem reals (hpre : Cert.Pre_Kernel2Ideal_finite_ffn (hPre_finite_ffn := Cert.Pre_finite_ffn.Gen.facts) m) : Reals m c := by
  obtain ⟨h0, h1, h2, h3⟩ := Cert.Pre_finite_ffn.split (congrFun (hpre c) ix0)
  exact ⟨h0, h1, h2, h3⟩

end Cert.Kernel2Ideal.Ffn

namespace Cert.Proof.Ffn

open Idealize.ShloMosaic Idealize.SL.Sem

section
variable {F : FTy → Type} [FloatOps F]

/-! The two kernel programs have one text. -/

theorem body_same (i : Cert.Kernel2.grid0.Coords) : @Cert.Kernel2.cc0_ffn F _ _ i = @Cert.Kernel2Ideal.cc0_ffn F _ _ i := rfl

theorem main_same : @Cert.Kernel2.main F _ _ = @Cert.Kernel2Ideal.main F _ _ := rfl

theorem table_same : @Cert.Kernel2.defs₀ F _ _ = @Cert.Kernel2Ideal.defs₀ F _ _ := by
  unfold Cert.Kernel2.defs₀ Cert.Kernel2Ideal.defs₀
  refine congrArg Defs.onTc (funext fun l => funext fun a => ?_)
  match l, a with
  | ⟨0, _⟩, (t, s) =>
    dsimp only
    rw [body_same]
    rfl

theorem defs_same : @Cert.Kernel2.defs F _ _ = @Cert.Kernel2Ideal.defs F _ _ := by
  unfold Cert.Kernel2.defs Cert.Kernel2Ideal.defs
  exact congrArg (Pipeline.defs (Cert.Kernel2.pcfgs (F := F))) table_same

end

theorem frame_ref : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_ideal : Cert.quiescent_Kernel2Ideal := fun m ρ _ => Cert.Kernel2Ideal.Gen.frame m ρ

/-- The kernel's frame: its text is the ideal program's, so the run over any floats is its run. -/
theorem frame_kernel : Cert.quiescent_Kernel2 := fun m ρ _ => by
  have h := Cert.Kernel2Ideal.Gen.frame (F := Bits) m ρ
  rw [← defs_same, ← main_same] at h
  exact h

/-- The two results are one array. -/
theorem algebraic : Cert.algebraic_Kernel2Ideal_Reference2Ideal_pre_finite_ffn (hKernel2Ideal := Cert.Kernel2Ideal.Gen.facts)
    (hReference2Ideal := Cert.Reference2Ideal.Gen.facts) (hPre_finite_ffn := Cert.Pre_finite_ffn.Gen.facts) := fun m g m' g' hpre hag =>
  ⟨Cert.Kernel2Ideal.Ffn.left m, Cert.Kernel2Ideal.Value.run_blocks m g,
    (θ_run Cert.Reference2Ideal.defs _ _).mono (fun r h c => ⟨(h c).1.trans (by
      obtain ⟨h0, h1, h2, h3, h4⟩ := hag c
      rw [Cert.Reference2Ideal.Read.res_eq, h0, h1, h2, h3, h4]
      exact (Cert.Kernel2Ideal.Ffn.result_eq m c (Cert.Kernel2Ideal.Ffn.reals m c hpre)).symm), (h c).2⟩)
      (Cert.Reference2Ideal.Value.run (F := Ideal) m' g')⟩

end Cert.Proof.Ffn

end
-- ==== Proof.MergeKer.lean ====
/- The merge's body: the array its run leaves, and its payloads read at an index. -/
module

public import proofs.«01_k».proof.Proof.Gen.Kernel3Ideal.Value
public import Idealize.ShloMosaic.Lib.Pointwise
public import proofs.«01_k».proof.Proof.Layer

@[expose] public section

set_option maxRecDepth 16384

noncomputable section

namespace Cert.Math

open Idealize.ShloMosaic

/-- A head's normed sum of the two directions. -/
def hd (F B G : Fin 256 → EReal) (l : Fin 256) : EReal :=
  (F l + B l) * Ideal.rsqrt (Ideal.div (∑ l, (F l + B l) * (F l + B l)) (Ideal.ofBits .f32 0x43800000#32) + Ideal.ofBits .f32 0x358637BD#32) * G l

/-- The sigmoid by the hyperbolic tangent. -/
def sg (x : EReal) : EReal := Ideal.ofBits .f32 0x3F000000#32 + Ideal.ofBits .f32 0x3F000000#32 * Ideal.tanh (Ideal.ofBits .f32 0x3F000000#32 * x)

end Cert.Math

namespace Cert.Kernel3Ideal.Mrg

open Cert.Kernel3Ideal Cert.Kernel3Ideal.Gen Cert.Math
open Idealize.ShloMosaic

theorem p1_at (v5 v148 v153 : FVec Ideal S512x1024 .f32) (v160 : Vec Ideal S1x512x1024 .bf16) (v173 : Vec Ideal S1024x1024 .bf16) (v176 : Vec Ideal S1x1x6144 .f32)
    (v179 : Vec Ideal S1x512x1024 .f32) (r : Fin 512) (e : Fin 1024) :
    k0_pay1 v5 v148 v153 v160 v173 v176 v179 (ix3 0 r e) = v179 (ix3 0 r e) + v176 (ix3 0 0 ⟨2048 + e.val, by omega⟩)
      * ∑ d, ((Ideal.ofBits .f32 0x3F000000#32 + Ideal.ofBits .f32 0x3F000000#32 * Ideal.tanh (v153 (ix2 r d))) * v148 (ix2 r d) + sg (v160 (ix3 0 r d)) * v5 (ix2 r d)) * v173 (ix2 d e) := by
  unfold sg
  pointwise [k0_pay1]

theorem p2_at (v1 : Vec Ideal S1x512x1024 .bf16) (v3 : Vec Ideal S1024x1024 .bf16) (r : Fin 512) (e : Fin 1024) :
    k0_pay2 v1 v3 (ix2 r e) = ∑ d, v1 (ix3 0 r d) * v3 (ix2 d e) := by
  pointwise [k0_pay2]

theorem p3_at (v0 : Vec Ideal S1x1024 .f32) (v6 v9 : Vec Ideal S1x512x256 .bf16) (r : Fin 512) (l : Fin 256) :
    k0_pay3 v0 v6 v9 (ix2 r l) = hd (fun l => v6 (ix3 0 r l)) (fun l => v9 (ix3 0 r l)) (fun l => v0 (ix2 0 ⟨l.val, by omega⟩)) l := by
  unfold hd
  pointwise [k0_pay3]

theorem p6_at (v25 v33 v34 : FVec Ideal S512x256 .f32) (v38 : Vec Ideal S256x1024 .bf16) (r : Fin 512) (e : Fin 1024) :
    k0_pay6 v25 v33 v34 v38 (ix2 r e) = ∑ l, (v34 (ix2 r l) + v33 (ix2 r l)) * v25 (ix2 r l) * v38 (ix2 l e) := by
  pointwise [k0_pay6]

theorem p4_at (v26 : Vec Ideal S1x512x256 .bf16) (r : Fin 512) (l : Fin 256) :
    k0_pay4 v26 (ix2 r l) = Ideal.ofBits .f32 0x3F000000#32 * Ideal.tanh (Ideal.ofBits .f32 0x3F000000#32 * v26 (ix3 0 r l)) := by
  pointwise [k0_pay4]

theorem p5_at (r : Fin 512) (l : Fin 256) : k0_pay5 (F := Ideal) (ix2 r l) = Ideal.ofBits .f32 0x3F000000#32 := by
  pointwise [k0_pay5]

theorem p7_at (v0 : Vec Ideal S1x1024 .f32) (v41 v44 v61 : Vec Ideal S1x512x256 .bf16) (r : Fin 512) (l : Fin 256) :
    k0_pay7 v0 v41 v44 v61 (ix2 r l) = sg (v61 (ix3 0 r l)) * hd (fun l => v41 (ix3 0 r l)) (fun l => v44 (ix3 0 r l)) (fun l => v0 (ix2 0 ⟨256 + l.val, by omega⟩)) l := by
  unfold hd sg
  pointwise [k0_pay7]

theorem p8_at (v73 : Vec Ideal S256x1024 .bf16) (l : Fin 256) (e : Fin 1024) : k0_pay8 v73 (ix2 l e) = v73 (ix2 l e) := by
  pointwise [k0_pay8]

theorem p9_at (v0 : Vec Ideal S1x1024 .f32) (v40 : FVec Ideal S512x1024 .f32) (v72 : FVec Ideal S512x256 .bf16) (v74 : FVec Ideal S256x1024 .bf16)
    (v77 v80 v97 : Vec Ideal S1x512x256 .bf16) (v109 : Vec Ideal S256x1024 .bf16) (r : Fin 512) (e : Fin 1024) :
    k0_pay9 v0 v40 v72 v74 v77 v80 v97 v109 (ix2 r e) = v40 (ix2 r e) + (∑ l, v72 (ix2 r l) * v74 (ix2 l e))
      + ∑ l, sg (v97 (ix3 0 r l)) * hd (fun l => v77 (ix3 0 r l)) (fun l => v80 (ix3 0 r l)) (fun l => v0 (ix2 0 ⟨512 + l.val, by omega⟩)) l * v109 (ix2 l e) := by
  unfold hd sg
  pointwise [k0_pay9]

theorem p10_at (v0 : Vec Ideal S1x1024 .f32) (v112 : FVec Ideal S512x1024 .f32) (v113 v116 v133 : Vec Ideal S1x512x256 .bf16) (v145 : Vec Ideal S256x1024 .bf16)
    (r : Fin 512) (e : Fin 1024) :
    k0_pay10 v0 v112 v113 v116 v133 v145 (ix2 r e) = v112 (ix2 r e)
      + ∑ l, sg (v133 (ix3 0 r l)) * hd (fun l => v113 (ix3 0 r l)) (fun l => v116 (ix3 0 r l)) (fun l => v0 (ix2 0 ⟨768 + l.val, by omega⟩)) l * v145 (ix2 l e) := by
  unfold hd sg
  pointwise [k0_pay10]

theorem p11_at (v149 : Vec Ideal S1x512x1024 .bf16) (r : Fin 512) (e : Fin 1024) :
    k0_pay11 v149 (ix2 r e) = Ideal.ofBits .f32 0x3F000000#32 * v149 (ix3 0 r e) := by
  pointwise [k0_pay11]

/-- Columns of a block. -/
theorem ld_col (x : Vec Ideal S1x512x1024 .bf16) (o : ℕ) (inb) (r : Fin 512) (l : Fin 256) (ho : o + 256 ≤ 1024) :
    (View.ld x (Rect.unit (s := S1x512x1024) ![0, 0, o] S1x512x256.size inb) : Vec Ideal S1x512x256 .bf16) (ix3 0 r l) = x (ix3 0 r ⟨o + l.val, by omega⟩) := by
  refine congrArg x ?_
  funext a
  apply Fin.ext
  match a with
  | ⟨0, _⟩ => rfl
  | ⟨1, _⟩ => show 0 + 1 * r.val = r.val; omega
  | ⟨2, _⟩ => show o + 1 * l.val = o + l.val; omega

/-- Rows of a weight. -/
theorem ld_row (x : Vec Ideal S1024x1024 .bf16) (o : ℕ) (inb) (l : Fin 256) (e : Fin 1024) (ho : o + 256 ≤ 1024) :
    (View.ld x (Rect.unit (s := S1024x1024) ![o, 0] S256x1024.size inb) : Vec Ideal S256x1024 .bf16) (ix2 l e) = x (ix2 ⟨o + l.val, by omega⟩ e) := by
  refine congrArg x ?_
  funext a
  apply Fin.ext
  match a with
  | ⟨0, _⟩ => show o + 1 * l.val = o + l.val; omega
  | ⟨1, _⟩ => show 0 + 1 * e.val = e.val; omega

/-- What the body leaves, of its blocks. -/
def outP (x0 x1 x2 x3 x4 x5 : Vec Ideal S1x512x1024 .bf16) (x6 : Vec Ideal S1x512x1024 .f32) (x7 : Vec Ideal S1x1x6144 .f32) (x8 : Vec Ideal S1x1024 .f32)
    (x9 x10 x11 : Vec Ideal S1024x1024 .bf16) : FVec Ideal S1x512x1024 .f32 :=
  k0_pay1 (k0_pay2 x5 x10)
    (k0_pay10 x8
      (k0_pay9 x8
        (k0_pay6 (k0_pay3 x8 (View.ld x0 (Rect.unit (s := S1x512x1024) ![0, 0, 0] S1x512x256.size inb_S1x512x1024_S1x512x256_0_0_0)) (View.ld x1 (Rect.unit (s := S1x512x1024) ![0, 0, 0] S1x512x256.size inb_S1x512x1024_S1x512x256_0_0_0)))
          (k0_pay4 (View.ld x2 (Rect.unit (s := S1x512x1024) ![0, 0, 0] S1x512x256.size inb_S1x512x1024_S1x512x256_0_0_0))) (k0_pay5 (F := Ideal))
          (View.ld x9 (Rect.unit (s := S1024x1024) ![0, 0] S256x1024.size inb_S1024x1024_S256x1024_0_0)))
        (k0_pay7 x8 (View.ld x0 (Rect.unit (s := S1x512x1024) ![0, 0, 256] S1x512x256.size inb_S1x512x1024_S1x512x256_0_0_256)) (View.ld x1 (Rect.unit (s := S1x512x1024) ![0, 0, 256] S1x512x256.size inb_S1x512x1024_S1x512x256_0_0_256))
          (View.ld x2 (Rect.unit (s := S1x512x1024) ![0, 0, 256] S1x512x256.size inb_S1x512x1024_S1x512x256_0_0_256)))
        (k0_pay8 (View.ld x9 (Rect.unit (s := S1024x1024) ![256, 0] S256x1024.size inb_S1024x1024_S256x1024_256_0)))
        (View.ld x0 (Rect.unit (s := S1x512x1024) ![0, 0, 512] S1x512x256.size inb_S1x512x1024_S1x512x256_0_0_512)) (View.ld x1 (Rect.unit (s := S1x512x1024) ![0, 0, 512] S1x512x256.size inb_S1x512x1024_S1x512x256_0_0_512))
        (View.ld x2 (Rect.unit (s := S1x512x1024) ![0, 0, 512] S1x512x256.size inb_S1x512x1024_S1x512x256_0_0_512))
        (View.ld x9 (Rect.unit (s := S1024x1024) ![512, 0] S256x1024.size inb_S1024x1024_S256x1024_512_0)))
      (View.ld x0 (Rect.unit (s := S1x512x1024) ![0, 0, 768] S1x512x256.size inb_S1x512x1024_S1x512x256_0_0_768)) (View.ld x1 (Rect.unit (s := S1x512x1024) ![0, 0, 768] S1x512x256.size inb_S1x512x1024_S1x512x256_0_0_768))
      (View.ld x2 (Rect.unit (s := S1x512x1024) ![0, 0, 768] S1x512x256.size inb_S1x512x1024_S1x512x256_0_0_768))
      (View.ld x9 (Rect.unit (s := S1024x1024) ![768, 0] S256x1024.size inb_S1024x1024_S256x1024_768_0)))
    (k0_pay11 x3) x4 x11 x7 x6

/-- The run's one store leaves it. -/
theorem out_eq (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x512x1024 .f32) (harg8 : arg8.IsWhole) (arg9 : Memref sig .tc .vmem S1x1x6144 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x512x1024 .f32) (harg14 : arg14.IsWhole)
    (x0 x1 x2 x3 x4 x5 : Vec Ideal S1x512x1024 .bf16) (x6 : Vec Ideal S1x512x1024 .f32) (x7 : Vec Ideal S1x1x6144 .f32) (x8 : Vec Ideal S1x1024 .f32)
    (x9 x10 x11 : Vec Ideal S1024x1024 .bf16) :
    out0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11
      = outP x0 x1 x2 x3 x4 x5 x6 x7 x8 x9 x10 x11 := by
  have hp : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1
      = [⟨Rect.unit (s := S1x512x1024) ![0, 0, 0] S1x512x1024.size inb_S1x512x1024_S1x512x1024_0_0_0, outP x0 x1 x2 x3 x4 x5 x6 x7 x8 x9 x10 x11⟩] := by
    unfold kernelRun0_A
    dsimp only
    unfold kernelRun0_A.sl.r_1 kernelRun0_A.sl.r_8 kernelRun0_A.sl.r_9 kernelRun0_A.sl.r_7 kernelRun0_A.sl.r_6 kernelRun0_A.sl.r_5 kernelRun0_A.sl.r_4
      kernelRun0_A.sl.r_3 kernelRun0_A.sl.r_2 kernelRun0_A.sl.r
    simp only [View.readAt_eq_ld, harg2.read_unread, harg3.read_unread, harg4.read_unread, harg5.read_unread, harg6.read_unread, harg7.read_unread,
      harg8.read_unread, harg9.read_unread, harg10.read_unread, harg11.read_unread, harg12.read_unread, harg13.read_unread]
    have w1 : ∀ (x : Vec Ideal S1x512x1024 .bf16) inb, View.ld x (Rect.unit (s := S1x512x1024) ![0, 0, 0] S1x512x1024.size inb) = x := fun x inb => View.ld_unit_zero zero3 inb x
    have w2 : ∀ (x : Vec Ideal S1x512x1024 .f32) inb, View.ld x (Rect.unit (s := S1x512x1024) ![0, 0, 0] S1x512x1024.size inb) = x := fun x inb => View.ld_unit_zero zero3 inb x
    have w3 : ∀ (x : Vec Ideal S1x1x6144 .f32) inb, View.ld x (Rect.unit (s := S1x1x6144) ![0, 0, 0] S1x1x6144.size inb) = x := fun x inb => View.ld_unit_zero zero3 inb x
    have w4 : ∀ (x : Vec Ideal S1x1024 .f32) inb, View.ld x (Rect.unit (s := S1x1024) ![0, 0] S1x1024.size inb) = x := fun x inb => View.ld_unit_zero zero2 inb x
    have w5 : ∀ (x : Vec Ideal S1024x1024 .bf16) inb, View.ld x (Rect.unit (s := S1024x1024) ![0, 0] S1024x1024.size inb) = x := fun x inb => View.ld_unit_zero zero2 inb x
    simp only [w4]
    refine congrArg (fun w : FVec Ideal S1x512x1024 .f32 => ([⟨Rect.unit (s := S1x512x1024) ![0, 0, 0] S1x512x1024.size inb_S1x512x1024_S1x512x1024_0_0_0, w⟩] : List (View.Piece (Elt Ideal) S1x512x1024 .f32))) ?_
    rw [w1 x5, w5 x10, w1 x3]
    have e4 : View.ld x4 (Rect.unit (s := S1x512x1024) ![0, 0, 0] ![1, 512, 1024] inb_S1x512x1024_S1x512x1024_0_0_0) = x4 := w1 x4 _
    have e6 : View.ld x6 (Rect.unit (s := S1x512x1024) ![0, 0, 0] ![1, 512, 1024] inb_S1x512x1024_S1x512x1024_0_0_0) = x6 := w2 x6 _
    have e7 : View.ld x7 (Rect.unit (s := S1x1x6144) ![0, 0, 0] ![1, 1, 6144] inb_S1x1x6144_S1x1x6144_0_0_0) = x7 := w3 x7 _
    have e11 : View.ld x11 (Rect.unit (s := S1024x1024) ![0, 0] ![1024, 1024] inb_S1024x1024_S1024x1024_0_0) = x11 := w5 x11 _
    rw [e4, e6, e7, e11]
    rfl
  unfold out0_A_12
  rw [hp, View.read_writes_junk_eq_canon, View.canon_unit_zero zero3]

end Cert.Kernel3Ideal.Mrg

end
-- ==== Proof.MergeHost.lean ====
/- The merge's blocks read at an index in the arguments. -/
module

public import proofs.«01_k».proof.Proof.MergeKer
public import Idealize.ShloMosaic.Lib.StableHlo.ReadAt

@[expose] public section

set_option maxRecDepth 16384

noncomputable section

namespace Cert.Kernel3Ideal.Mrg

open Cert.Kernel3Ideal Cert.Kernel3Ideal.Gen Cert.Math
open Idealize.ShloMosaic Idealize.ShloMosaic.TcCoe Idealize.SL.Sem

variable (m : (ℓ : Loc nD τ sig) → Buf (Elt Ideal) ℓ) (c : Dev nD)

theorem hf_at (b : Fin 4) (s : Fin 8192) (d : Fin 1024) :
    V m c main_v11 (ix3 b ⟨s.val, by omega⟩ d) = m ((c : Thread nD τ).loc main_arg0) (ix4 b ⟨d.val / 256, by omega⟩ s ⟨d.val % 256, by omega⟩) := by
  unfold V
  after_reads_at

theorem hb_at (b : Fin 4) (s : Fin 8192) (d : Fin 1024) :
    V m c main_v16 (ix3 b ⟨s.val, by omega⟩ d) = m ((c : Thread nD τ).loc main_arg1) (ix4 b ⟨d.val / 256, by omega⟩ s ⟨d.val % 256, by omega⟩) := by
  unfold V
  after_reads_at

theorem mo_at (b : Fin 4) (s : Fin 8192) (d : Fin 1024) :
    V m c main_v6 (ix3 b ⟨s.val, by omega⟩ ⟨1024 + d.val, by omega⟩) = m ((c : Thread nD τ).loc main_arg2) (ix3 b s d) := by
  unfold V
  after_reads_at
  after_reads_at

theorem ga_at (b : Fin 4) (s : Fin 8192) (d : Fin 1024) :
    V m c main_v6 (ix3 b ⟨s.val, by omega⟩ ⟨2048 + d.val, by omega⟩) = m ((c : Thread nD τ).loc main_arg3) (ix3 b s d) := by
  unfold V
  after_reads_at
  rw [dif_neg (by omega), dif_neg (by omega), dif_pos (by omega)]
  after_reads_at
  show m _ _ = m _ _
  congr 1
  funext a
  apply Fin.ext
  match a with
  | ⟨0, _⟩ => rfl
  | ⟨1, _⟩ => rfl
  | ⟨2, _⟩ => show 2048 + d.val - 1024 - 1024 = d.val; omega

theorem gb_at (b : Fin 4) (s : Fin 8192) (d : Fin 1024) :
    V m c main_v6 (ix3 b ⟨s.val, by omega⟩ ⟨3072 + d.val, by omega⟩) = m ((c : Thread nD τ).loc main_arg4) (ix3 b s d) := by
  unfold V
  after_reads_at
  rw [dif_neg (by omega), dif_neg (by omega), dif_neg (by omega)]
  after_reads_at
  show m _ _ = m _ _
  congr 1
  funext a
  apply Fin.ext
  match a with
  | ⟨0, _⟩ => rfl
  | ⟨1, _⟩ => rfl
  | ⟨2, _⟩ => show 3072 + d.val - 1024 - 1024 - 1024 = d.val; omega

theorem hB_at (b : Fin 4) (s : Fin 8192) (d : Fin 1024) : V m c main_v17 (ix3 b s d) = m ((c : Thread nD τ).loc main_arg5) (ix3 b s d) := by
  unfold V
  after_reads_at

theorem mod_at (b : Fin 4) (e : Fin 6144) : V m c main_v20 (ix3 ⟨b.val, by omega⟩ 0 e) = m ((c : Thread nD τ).loc main_arg7) (ix2 b e) := by
  unfold V
  after_reads_at
  after_reads_at

theorem wa_at (k d : Fin 1024) : V m c main_v22 (ix2 k d) = m ((c : Thread nD τ).loc main_arg9) (ix3 0 k d) := by
  unfold V
  after_reads_at

theorem wb_at (k d : Fin 1024) : V m c main_v24 (ix2 k d) = m ((c : Thread nD τ).loc main_arg10) (ix3 0 k d) := by
  unfold V
  after_reads_at

theorem wo_at (k d : Fin 1024) : V m c main_v26 (ix2 k d) = m ((c : Thread nD τ).loc main_arg11) (ix3 0 k d) := by
  unfold V
  after_reads_at

/-- The grid point of batch `b`, tile `i`. -/
def pt (b : Fin 4) (i : Fin 16) : Fin cfg0.N := ⟨b.val * 16 + i.val, by show b.val * 16 + i.val < 64; omega⟩

theorem idx0 : ∀ (b : Fin 4) (i : Fin 16), win0_0.index (pt b i) = ![b.val, i.val, 0] := by decide +kernel
theorem idx1 : ∀ (b : Fin 4) (i : Fin 16), win0_1.index (pt b i) = ![b.val, i.val, 0] := by decide +kernel
theorem idx2 : ∀ (b : Fin 4) (i : Fin 16), win0_2.index (pt b i) = ![b.val, i.val, 1] := by decide +kernel
theorem idx3 : ∀ (b : Fin 4) (i : Fin 16), win0_3.index (pt b i) = ![b.val, i.val, 2] := by decide +kernel
theorem idx4 : ∀ (b : Fin 4) (i : Fin 16), win0_4.index (pt b i) = ![b.val, i.val, 3] := by decide +kernel
theorem idx5 : ∀ (b : Fin 4) (i : Fin 16), win0_5.index (pt b i) = ![b.val, i.val, 0] := by decide +kernel
theorem idx6 : ∀ (b : Fin 4) (i : Fin 16), win0_6.index (pt b i) = ![b.val, i.val, 0] := by decide +kernel
theorem idx7 : ∀ (b : Fin 4) (i : Fin 16), win0_7.index (pt b i) = ![b.val, 0, 0] := by decide +kernel
theorem idx8 : ∀ (b : Fin 4) (i : Fin 16), win0_8.index (pt b i) = ![0, 0] := by decide +kernel
theorem idx9 : ∀ (b : Fin 4) (i : Fin 16), win0_9.index (pt b i) = ![0, 0] := by decide +kernel
theorem idx10 : ∀ (b : Fin 4) (i : Fin 16), win0_10.index (pt b i) = ![0, 0] := by decide +kernel
theorem idx11 : ∀ (b : Fin 4) (i : Fin 16), win0_11.index (pt b i) = ![0, 0] := by decide +kernel
theorem idx12 : ∀ (b : Fin 4) (i : Fin 16), win0_12.index (pt b i) = ![b.val, i.val, 0] := by decide +kernel
theorem flush12 : ∀ (b : Fin 4) (i : Fin 16), (cfg0.win 12).flush (pt b i) = true := by decide +kernel

theorem rd0 (A : Buf (Elt Ideal) ((c : Thread nD τ).loc (Pipeline.arrRef spec0 0))) (b : Fin 4) (i : Fin 16) (r : Fin 512) (d : Fin 1024) :
    ((cfg0.win 0).fill (cfg0.grid.coords (pt b i)) dflt0_0 (((cfg0.win 0).blk (pt b i)).view.read (Elt Ideal) A) : Vec Ideal S1x512x1024 .bf16) (ix3 0 r d) = (A : Vec Ideal S4x8448x1024 .bf16) (ix3 b ⟨i.val * 512 + r.val, by omega⟩ d) := by
  unfold Pipeline.Window.fill
  rw [dif_pos (moved0_0 (pt b i) _), View.read_apply]
  refine congrArg (A : Vec Ideal S4x8448x1024 .bf16) ?_
  funext x
  apply Fin.ext
  match x with
  | ⟨0, _⟩ => show win0_0.index (pt b i) 0 * 1 + 1 * 0 = b.val; rw [idx0]; show b.val * 1 + 1 * 0 = _; omega
  | ⟨1, _⟩ => show win0_0.index (pt b i) 1 * 512 + 1 * r.val = i.val * 512 + r.val; rw [idx0]; show i.val * 512 + 1 * r.val = _; omega
  | ⟨2, _⟩ => show win0_0.index (pt b i) 2 * 1024 + 1 * d.val = d.val; rw [idx0]; show 0 * 1024 + 1 * d.val = _; omega

theorem blk0 (b : Fin 4) (i : Fin 16) (r : Fin 512) (d : Fin 1024) :
    (X0_0 m c (pt b i) : Vec Ideal S1x512x1024 .bf16) (ix3 0 r d) = m ((c : Thread nD τ).loc main_arg0) (ix4 b ⟨d.val / 256, by omega⟩ ⟨i.val * 512 + r.val, by omega⟩ ⟨d.val % 256, by omega⟩) :=
  (rd0 c (V m c main_v11) b i r d).trans (hf_at m c b ⟨i.val * 512 + r.val, by omega⟩ d)

theorem rd1 (A : Buf (Elt Ideal) ((c : Thread nD τ).loc (Pipeline.arrRef spec0 1))) (b : Fin 4) (i : Fin 16) (r : Fin 512) (d : Fin 1024) :
    ((cfg0.win 1).fill (cfg0.grid.coords (pt b i)) dflt0_1 (((cfg0.win 1).blk (pt b i)).view.read (Elt Ideal) A) : Vec Ideal S1x512x1024 .bf16) (ix3 0 r d) = (A : Vec Ideal S4x8448x1024 .bf16) (ix3 b ⟨i.val * 512 + r.val, by omega⟩ d) := by
  unfold Pipeline.Window.fill
  rw [dif_pos (moved0_1 (pt b i) _), View.read_apply]
  refine congrArg (A : Vec Ideal S4x8448x1024 .bf16) ?_
  funext x
  apply Fin.ext
  match x with
  | ⟨0, _⟩ => show win0_1.index (pt b i) 0 * 1 + 1 * 0 = b.val; rw [idx1]; show b.val * 1 + 1 * 0 = _; omega
  | ⟨1, _⟩ => show win0_1.index (pt b i) 1 * 512 + 1 * r.val = i.val * 512 + r.val; rw [idx1]; show i.val * 512 + 1 * r.val = _; omega
  | ⟨2, _⟩ => show win0_1.index (pt b i) 2 * 1024 + 1 * d.val = d.val; rw [idx1]; show 0 * 1024 + 1 * d.val = _; omega

theorem blk1 (b : Fin 4) (i : Fin 16) (r : Fin 512) (d : Fin 1024) :
    (X0_1 m c (pt b i) : Vec Ideal S1x512x1024 .bf16) (ix3 0 r d) = m ((c : Thread nD τ).loc main_arg1) (ix4 b ⟨d.val / 256, by omega⟩ ⟨i.val * 512 + r.val, by omega⟩ ⟨d.val % 256, by omega⟩) :=
  (rd1 c (V m c main_v16) b i r d).trans (hb_at m c b ⟨i.val * 512 + r.val, by omega⟩ d)

theorem rd2 (A : Buf (Elt Ideal) ((c : Thread nD τ).loc (Pipeline.arrRef spec0 2))) (b : Fin 4) (i : Fin 16) (r : Fin 512) (d : Fin 1024) :
    ((cfg0.win 2).fill (cfg0.grid.coords (pt b i)) dflt0_2 (((cfg0.win 2).blk (pt b i)).view.read (Elt Ideal) A) : Vec Ideal S1x512x1024 .bf16) (ix3 0 r d) = (A : Vec Ideal S4x8448x4096 .bf16) (ix3 b ⟨i.val * 512 + r.val, by omega⟩ ⟨1024 + d.val, by omega⟩) := by
  unfold Pipeline.Window.fill
  rw [dif_pos (moved0_2 (pt b i) _), View.read_apply]
  refine congrArg (A : Vec Ideal S4x8448x4096 .bf16) ?_
  funext x
  apply Fin.ext
  match x with
  | ⟨0, _⟩ => show win0_2.index (pt b i) 0 * 1 + 1 * 0 = b.val; rw [idx2]; show b.val * 1 + 1 * 0 = _; omega
  | ⟨1, _⟩ => show win0_2.index (pt b i) 1 * 512 + 1 * r.val = i.val * 512 + r.val; rw [idx2]; show i.val * 512 + 1 * r.val = _; omega
  | ⟨2, _⟩ => show win0_2.index (pt b i) 2 * 1024 + 1 * d.val = 1024 + d.val; rw [idx2]; show 1 * 1024 + 1 * d.val = _; omega

theorem blk2 (b : Fin 4) (i : Fin 16) (r : Fin 512) (d : Fin 1024) :
    (X0_2 m c (pt b i) : Vec Ideal S1x512x1024 .bf16) (ix3 0 r d) = m ((c : Thread nD τ).loc main_arg2) (ix3 b ⟨i.val * 512 + r.val, by omega⟩ d) :=
  (rd2 c (V m c main_v6) b i r d).trans (mo_at m c b ⟨i.val * 512 + r.val, by omega⟩ d)

theorem rd3 (A : Buf (Elt Ideal) ((c : Thread nD τ).loc (Pipeline.arrRef spec0 3))) (b : Fin 4) (i : Fin 16) (r : Fin 512) (d : Fin 1024) :
    ((cfg0.win 3).fill (cfg0.grid.coords (pt b i)) dflt0_3 (((cfg0.win 3).blk (pt b i)).view.read (Elt Ideal) A) : Vec Ideal S1x512x1024 .bf16) (ix3 0 r d) = (A : Vec Ideal S4x8448x4096 .bf16) (ix3 b ⟨i.val * 512 + r.val, by omega⟩ ⟨2048 + d.val, by omega⟩) := by
  unfold Pipeline.Window.fill
  rw [dif_pos (moved0_3 (pt b i) _), View.read_apply]
  refine congrArg (A : Vec Ideal S4x8448x4096 .bf16) ?_
  funext x
  apply Fin.ext
  match x with
  | ⟨0, _⟩ => show win0_3.index (pt b i) 0 * 1 + 1 * 0 = b.val; rw [idx3]; show b.val * 1 + 1 * 0 = _; omega
  | ⟨1, _⟩ => show win0_3.index (pt b i) 1 * 512 + 1 * r.val = i.val * 512 + r.val; rw [idx3]; show i.val * 512 + 1 * r.val = _; omega
  | ⟨2, _⟩ => show win0_3.index (pt b i) 2 * 1024 + 1 * d.val = 2048 + d.val; rw [idx3]; show 2 * 1024 + 1 * d.val = _; omega

theorem blk3 (b : Fin 4) (i : Fin 16) (r : Fin 512) (d : Fin 1024) :
    (X0_3 m c (pt b i) : Vec Ideal S1x512x1024 .bf16) (ix3 0 r d) = m ((c : Thread nD τ).loc main_arg3) (ix3 b ⟨i.val * 512 + r.val, by omega⟩ d) :=
  (rd3 c (V m c main_v6) b i r d).trans (ga_at m c b ⟨i.val * 512 + r.val, by omega⟩ d)

theorem rd4 (A : Buf (Elt Ideal) ((c : Thread nD τ).loc (Pipeline.arrRef spec0 4))) (b : Fin 4) (i : Fin 16) (r : Fin 512) (d : Fin 1024) :
    ((cfg0.win 4).fill (cfg0.grid.coords (pt b i)) dflt0_4 (((cfg0.win 4).blk (pt b i)).view.read (Elt Ideal) A) : Vec Ideal S1x512x1024 .bf16) (ix3 0 r d) = (A : Vec Ideal S4x8448x4096 .bf16) (ix3 b ⟨i.val * 512 + r.val, by omega⟩ ⟨3072 + d.val, by omega⟩) := by
  unfold Pipeline.Window.fill
  rw [dif_pos (moved0_4 (pt b i) _), View.read_apply]
  refine congrArg (A : Vec Ideal S4x8448x4096 .bf16) ?_
  funext x
  apply Fin.ext
  match x with
  | ⟨0, _⟩ => show win0_4.index (pt b i) 0 * 1 + 1 * 0 = b.val; rw [idx4]; show b.val * 1 + 1 * 0 = _; omega
  | ⟨1, _⟩ => show win0_4.index (pt b i) 1 * 512 + 1 * r.val = i.val * 512 + r.val; rw [idx4]; show i.val * 512 + 1 * r.val = _; omega
  | ⟨2, _⟩ => show win0_4.index (pt b i) 2 * 1024 + 1 * d.val = 3072 + d.val; rw [idx4]; show 3 * 1024 + 1 * d.val = _; omega

theorem blk4 (b : Fin 4) (i : Fin 16) (r : Fin 512) (d : Fin 1024) :
    (X0_4 m c (pt b i) : Vec Ideal S1x512x1024 .bf16) (ix3 0 r d) = m ((c : Thread nD τ).loc main_arg4) (ix3 b ⟨i.val * 512 + r.val, by omega⟩ d) :=
  (rd4 c (V m c main_v6) b i r d).trans (gb_at m c b ⟨i.val * 512 + r.val, by omega⟩ d)

theorem rd5 (A : Buf (Elt Ideal) ((c : Thread nD τ).loc (Pipeline.arrRef spec0 5))) (b : Fin 4) (i : Fin 16) (r : Fin 512) (d : Fin 1024) :
    (((cfg0.win 5).blk (pt b i)).view.read (Elt Ideal) A : Vec Ideal S1x512x1024 .bf16) (ix3 0 r d) = (A : Vec Ideal S4x8192x1024 .bf16) (ix3 b ⟨i.val * 512 + r.val, by omega⟩ d) := by
  rw [View.read_apply]
  refine congrArg (A : Vec Ideal S4x8192x1024 .bf16) ?_
  funext x
  apply Fin.ext
  match x with
  | ⟨0, _⟩ => show win0_5.index (pt b i) 0 * 1 + 1 * 0 = b.val; rw [idx5]; show b.val * 1 + 1 * 0 = _; omega
  | ⟨1, _⟩ => show win0_5.index (pt b i) 1 * 512 + 1 * r.val = i.val * 512 + r.val; rw [idx5]; show i.val * 512 + 1 * r.val = _; omega
  | ⟨2, _⟩ => show win0_5.index (pt b i) 2 * 1024 + 1 * d.val = d.val; rw [idx5]; show 0 * 1024 + 1 * d.val = _; omega

theorem blk5 (b : Fin 4) (i : Fin 16) (r : Fin 512) (d : Fin 1024) :
    (iblk m c 5 (pt b i) : Vec Ideal S1x512x1024 .bf16) (ix3 0 r d) = m ((c : Thread nD τ).loc main_arg5) (ix3 b ⟨i.val * 512 + r.val, by omega⟩ d) :=
  (rd5 c (V m c main_v17) b i r d).trans (hB_at m c b _ d)

theorem rd6 (A : Buf (Elt Ideal) ((c : Thread nD τ).loc (Pipeline.arrRef spec0 6))) (b : Fin 4) (i : Fin 16) (r : Fin 512) (d : Fin 1024) :
    (((cfg0.win 6).blk (pt b i)).view.read (Elt Ideal) A : Vec Ideal S1x512x1024 .f32) (ix3 0 r d) = (A : Vec Ideal S4x8192x1024 .f32) (ix3 b ⟨i.val * 512 + r.val, by omega⟩ d) := by
  rw [View.read_apply]
  refine congrArg (A : Vec Ideal S4x8192x1024 .f32) ?_
  funext x
  apply Fin.ext
  match x with
  | ⟨0, _⟩ => show win0_6.index (pt b i) 0 * 1 + 1 * 0 = b.val; rw [idx6]; show b.val * 1 + 1 * 0 = _; omega
  | ⟨1, _⟩ => show win0_6.index (pt b i) 1 * 512 + 1 * r.val = i.val * 512 + r.val; rw [idx6]; show i.val * 512 + 1 * r.val = _; omega
  | ⟨2, _⟩ => show win0_6.index (pt b i) 2 * 1024 + 1 * d.val = d.val; rw [idx6]; show 0 * 1024 + 1 * d.val = _; omega

theorem blk6 (b : Fin 4) (i : Fin 16) (r : Fin 512) (d : Fin 1024) :
    (iblk m c 6 (pt b i) : Vec Ideal S1x512x1024 .f32) (ix3 0 r d) = m ((c : Thread nD τ).loc main_arg6) (ix3 b ⟨i.val * 512 + r.val, by omega⟩ d) :=
  (rd6 c (V m c main_arg6) b i r d).trans (congrFun (V_main_arg6 m c) _)

theorem rd7 (A : Buf (Elt Ideal) ((c : Thread nD τ).loc (Pipeline.arrRef spec0 7))) (b : Fin 4) (i : Fin 16) (e : Fin 6144) :
    (((cfg0.win 7).blk (pt b i)).view.read (Elt Ideal) A : Vec Ideal S1x1x6144 .f32) (ix3 0 0 e) = (A : Vec Ideal S8x1x6144 .f32) (ix3 ⟨b.val, by omega⟩ 0 e) := by
  rw [View.read_apply]
  refine congrArg (A : Vec Ideal S8x1x6144 .f32) ?_
  funext x
  apply Fin.ext
  match x with
  | ⟨0, _⟩ => show win0_7.index (pt b i) 0 * 1 + 1 * 0 = b.val; rw [idx7]; show b.val * 1 + 1 * 0 = _; omega
  | ⟨1, _⟩ => show win0_7.index (pt b i) 1 * 1 + 1 * 0 = 0; rw [idx7]; show 0 * 1 + 1 * 0 = _; omega
  | ⟨2, _⟩ => show win0_7.index (pt b i) 2 * 6144 + 1 * e.val = e.val; rw [idx7]; show 0 * 6144 + 1 * e.val = _; omega

theorem blk7 (b : Fin 4) (i : Fin 16) (e : Fin 6144) :
    (iblk m c 7 (pt b i) : Vec Ideal S1x1x6144 .f32) (ix3 0 0 e) = m ((c : Thread nD τ).loc main_arg7) (ix2 b e) :=
  (rd7 c (V m c main_v20) b i e).trans (mod_at m c b e)

theorem rd8 (A : Buf (Elt Ideal) ((c : Thread nD τ).loc (Pipeline.arrRef spec0 8))) (b : Fin 4) (i : Fin 16) (d : Fin 1024) :
    (((cfg0.win 8).blk (pt b i)).view.read (Elt Ideal) A : Vec Ideal S1x1024 .f32) (ix2 0 d) = (A : Vec Ideal S1x1024 .f32) (ix2 0 d) := by
  rw [View.read_apply]
  refine congrArg (A : Vec Ideal S1x1024 .f32) ?_
  funext x
  apply Fin.ext
  match x with
  | ⟨0, _⟩ => show win0_8.index (pt b i) 0 * 1 + 1 * 0 = 0; rw [idx8]; show 0 * 1 + 1 * 0 = _; omega
  | ⟨1, _⟩ => show win0_8.index (pt b i) 1 * 1024 + 1 * d.val = d.val; rw [idx8]; show 0 * 1024 + 1 * d.val = _; omega

theorem blk8 (b : Fin 4) (i : Fin 16) (d : Fin 1024) :
    (iblk m c 8 (pt b i) : Vec Ideal S1x1024 .f32) (ix2 0 d) = m ((c : Thread nD τ).loc main_arg8) (ix2 0 d) :=
  (rd8 c (V m c main_arg8) b i d).trans (congrFun (V_main_arg8 m c) _)

theorem rd9 (A : Buf (Elt Ideal) ((c : Thread nD τ).loc (Pipeline.arrRef spec0 9))) (b : Fin 4) (i : Fin 16) (k d : Fin 1024) :
    (((cfg0.win 9).blk (pt b i)).view.read (Elt Ideal) A : Vec Ideal S1024x1024 .bf16) (ix2 k d) = (A : Vec Ideal S1024x1024 .bf16) (ix2 k d) := by
  rw [View.read_apply]
  refine congrArg (A : Vec Ideal S1024x1024 .bf16) ?_
  funext x
  apply Fin.ext
  match x with
  | ⟨0, _⟩ => show win0_9.index (pt b i) 0 * 1024 + 1 * k.val = k.val; rw [idx9]; show 0 * 1024 + 1 * k.val = _; omega
  | ⟨1, _⟩ => show win0_9.index (pt b i) 1 * 1024 + 1 * d.val = d.val; rw [idx9]; show 0 * 1024 + 1 * d.val = _; omega

theorem blk9 (b : Fin 4) (i : Fin 16) (k d : Fin 1024) :
    (iblk m c 9 (pt b i) : Vec Ideal S1024x1024 .bf16) (ix2 k d) = m ((c : Thread nD τ).loc main_arg9) (ix3 0 k d) :=
  (rd9 c (V m c main_v22) b i k d).trans (wa_at m c k d)

theorem rd10 (A : Buf (Elt Ideal) ((c : Thread nD τ).loc (Pipeline.arrRef spec0 10))) (b : Fin 4) (i : Fin 16) (k d : Fin 1024) :
    (((cfg0.win 10).blk (pt b i)).view.read (Elt Ideal) A : Vec Ideal S1024x1024 .bf16) (ix2 k d) = (A : Vec Ideal S1024x1024 .bf16) (ix2 k d) := by
  rw [View.read_apply]
  refine congrArg (A : Vec Ideal S1024x1024 .bf16) ?_
  funext x
  apply Fin.ext
  match x with
  | ⟨0, _⟩ => show win0_10.index (pt b i) 0 * 1024 + 1 * k.val = k.val; rw [idx10]; show 0 * 1024 + 1 * k.val = _; omega
  | ⟨1, _⟩ => show win0_10.index (pt b i) 1 * 1024 + 1 * d.val = d.val; rw [idx10]; show 0 * 1024 + 1 * d.val = _; omega

theorem blk10 (b : Fin 4) (i : Fin 16) (k d : Fin 1024) :
    (iblk m c 10 (pt b i) : Vec Ideal S1024x1024 .bf16) (ix2 k d) = m ((c : Thread nD τ).loc main_arg10) (ix3 0 k d) :=
  (rd10 c (V m c main_v24) b i k d).trans (wb_at m c k d)

theorem rd11 (A : Buf (Elt Ideal) ((c : Thread nD τ).loc (Pipeline.arrRef spec0 11))) (b : Fin 4) (i : Fin 16) (k d : Fin 1024) :
    (((cfg0.win 11).blk (pt b i)).view.read (Elt Ideal) A : Vec Ideal S1024x1024 .bf16) (ix2 k d) = (A : Vec Ideal S1024x1024 .bf16) (ix2 k d) := by
  rw [View.read_apply]
  refine congrArg (A : Vec Ideal S1024x1024 .bf16) ?_
  funext x
  apply Fin.ext
  match x with
  | ⟨0, _⟩ => show win0_11.index (pt b i) 0 * 1024 + 1 * k.val = k.val; rw [idx11]; show 0 * 1024 + 1 * k.val = _; omega
  | ⟨1, _⟩ => show win0_11.index (pt b i) 1 * 1024 + 1 * d.val = d.val; rw [idx11]; show 0 * 1024 + 1 * d.val = _; omega

theorem blk11 (b : Fin 4) (i : Fin 16) (k d : Fin 1024) :
    (iblk m c 11 (pt b i) : Vec Ideal S1024x1024 .bf16) (ix2 k d) = m ((c : Thread nD τ).loc main_arg11) (ix3 0 k d) :=
  (rd11 c (V m c main_v26) b i k d).trans (wo_at m c k d)

theorem rd12 (A : Buf (Elt Ideal) ((c : Thread nD τ).loc main_v27)) (b : Fin 4) (i : Fin 16) (r : Fin 512) (d : Fin 1024) :
    (((cfg0.win 12).blk (pt b i)).view.read (Elt Ideal) A : Vec Ideal S1x512x1024 .f32) (ix3 0 r d) = (A : Vec Ideal S4x8192x1024 .f32) (ix3 b ⟨i.val * 512 + r.val, by omega⟩ d) := by
  rw [View.read_apply]
  refine congrArg (A : Vec Ideal S4x8192x1024 .f32) ?_
  funext x
  apply Fin.ext
  match x with
  | ⟨0, _⟩ => show win0_12.index (pt b i) 0 * 1 + 1 * 0 = b.val; rw [idx12]; show b.val * 1 + 1 * 0 = _; omega
  | ⟨1, _⟩ => show win0_12.index (pt b i) 1 * 512 + 1 * r.val = i.val * 512 + r.val; rw [idx12]; show i.val * 512 + 1 * r.val = _; omega
  | ⟨2, _⟩ => show win0_12.index (pt b i) 2 * 1024 + 1 * d.val = d.val; rw [idx12]; show 0 * 1024 + 1 * d.val = _; omega

theorem cut_at (t : Fin cfg0.N) (x : Vec Ideal S1x512x1024 .f32) (r : Fin 512) (d : Fin 1024) :
    ((cfg0.win 12).cut (grid0.coords t) x : Vec Ideal S1x512x1024 .f32) (ix3 0 r d) = x (ix3 0 r d) := rfl

theorem out_at (b : Fin 4) (i : Fin 16) (r : Fin 512) (d : Fin 1024) :
    ((dats m 0 c).arrAt 12 cfg0.N : Vec Ideal S4x8192x1024 .f32) (ix3 b ⟨i.val * 512 + r.val, by omega⟩ d)
      = outP (X0_0 m c (pt b i)) (X0_1 m c (pt b i)) (X0_2 m c (pt b i)) (X0_3 m c (pt b i)) (X0_4 m c (pt b i)) (iblk m c 5 (pt b i)) (iblk m c 6 (pt b i))
        (iblk m c 7 (pt b i)) (iblk m c 8 (pt b i)) (iblk m c 9 (pt b i)) (iblk m c 10 (pt b i)) (iblk m c 11 (pt b i)) (ix3 0 r d) := by
  have h1 := Cert.Kernel3Ideal.Value.blocks12 m c (pt b i) (flush12 b i)
  rw [Cert.Kernel3Ideal.Value.flushed12_A, out_eq] at h1
  have h2 := congrFun h1 (ix3 0 r d)
  rw [← rd12 c ((dats m 0 c).arrAt 12 cfg0.N) b i r d]
  exact h2.trans (cut_at (pt b i) _ r d)

end Cert.Kernel3Ideal.Mrg

end
-- ==== Proof.MergeRef.lean ====
/- The merge's reference read at an index: the summed directions, their norm by heads, the gates, the three products. -/
module

public import proofs.«01_k».proof.Proof.Gen.Reference3Ideal.Run
public import Idealize.ShloMosaic.Lib.Pointwise
public import proofs.«01_k».proof.Proof.Layer

@[expose] public section

set_option maxRecDepth 16384

noncomputable section

namespace Cert.Reference3Ideal.Read

open Cert.Reference3Ideal Cert.Reference3Ideal.Gen Cert.Reference3Ideal.Value Cert.Math
open Idealize.ShloMosaic Idealize.ShloMosaic.TcCoe Idealize.SL.Sem

/-- A gate. -/
def rG (z : FVec Ideal S4x8192x1024 .f32) : FVec Ideal S4x8192x1024 .f32 :=
  Host.divf (broadcastInDim S4x8192x1024 ![] bcast_S_S4x8192x1024 (constant S_ .f32 0x3F800000#32)) (addf (broadcastInDim
    S4x8192x1024 ![] bcast_S_S4x8192x1024 (constant S_ .f32 0x3F800000#32)) (Host.exp (Host.negf z)))

/-- The two directions' sum, by tokens. -/
def rT (f b : FVec Ideal S4x4x8192x256 .f32) : FVec Ideal S4x8192x4x256 .f32 :=
  transpose S4x8192x4x256 [0, 2, 1, 3] (addf f b) transposes_S4x4x8192x256_S4x8192x4x256_0_2_1_3

/-- The norm by heads. -/
def rN (t : FVec Ideal S4x8192x4x256 .f32) (g : FVec Ideal S1x1024 .f32) : FVec Ideal S4x8192x1024 .f32 :=
  shapeCast _ (mulf (mulf t (broadcastInDim S4x8192x4x256 ![0, 1, 2, 3] bcast_S4x8192x4x1_S4x8192x4x256_0_1_2_3 (Host.rsqrt (addf
    (Host.divf (broadcastInDim S4x8192x4x1 ![0, 1, 2] bcast_S4x8192x4_S4x8192x4x1_0_1_2 (Host.reduceAdd (mulf t t) (constant S_ .f32
    0x00000000#32) reducesTo_S4x8192x4x256_S4x8192x4_d3 h_S_)) (broadcastInDim S4x8192x4x1 ![] bcast_S_S4x8192x4x1 (constant S_ .f32
    0x43800000#32))) (broadcastInDim S4x8192x4x1 ![] bcast_S_S4x8192x4x1 (constant S_ .f32 0x358637BD#32)))))) (broadcastInDim
    S4x8192x4x256 ![0, 1, 2, 3] bcast_S1x1x4x256_S4x8192x4x256_0_1_2_3 (broadcastInDim S1x1x4x256 ![2, 3] bcast_S4x256_S1x1x4x256_2_3
    (shapeCast _ (shapeCast _ g shapeCasts_S1x1024_S1024) shapeCasts_S1024_S4x256)))) shapeCasts_S4x8192x4x256_S4x8192x1024

/-- The gated norm. -/
def rA (mo n : FVec Ideal S4x8192x1024 .f32) : FVec Ideal S4x8192x1024 .f32 :=
  mulf (rG mo) n

/-- The gated sum of the branches' products. -/
def rY (ga gb a hB : FVec Ideal S4x8192x1024 .f32) (wa wb : FVec Ideal S1x1024x1024 .f32) : FVec Ideal S4x8192x1024 .f32 :=
  addf (mulf (rG ga) (Host.dotGeneral dot_S4x8192x1024_S1024x1024_S4x8192x1024_2_0_01_1_n_n none a (shapeCast _ wa
    shapeCasts_S1x1024x1024_S1024x1024))) (mulf (rG gb) (Host.dotGeneral dot_S4x8192x1024_S1024x1024_S4x8192x1024_2_0_01_1_n_n none hB
    (shapeCast _ wb shapeCasts_S1x1024x1024_S1024x1024)))

/-- The result. -/
def rR (x : FVec Ideal S4x8192x1024 .f32) (e : FVec Ideal S4x6144 .f32) (y : FVec Ideal S4x8192x1024 .f32) (wo : FVec Ideal S1x1024x1024 .f32) : FVec Ideal S4x8192x1024 .f32 :=
  addf x (mulf (broadcastInDim S4x8192x1024 ![0, 1, 2] bcast_S4x1x1024_S4x8192x1024_0_1_2 (broadcastInDim S4x1x1024 ![0, 2]
    bcast_S4x1024_S4x1x1024_0_2 (extractStridedSlice S4x1024 ![0, 2048] e slices_S4x6144_S4x1024_0_2048))) (Host.dotGeneral
    dot_S4x8192x1024_S1024x1024_S4x8192x1024_2_0_01_1_n_n none y (shapeCast _ wo shapeCasts_S1x1024x1024_S1024x1024)))

/-- The result of the arguments. -/
def res (f b : FVec Ideal S4x4x8192x256 .f32) (mo ga gb hB x : FVec Ideal S4x8192x1024 .f32) (e : FVec Ideal S4x6144 .f32) (g : FVec Ideal S1x1024 .f32)
    (wa wb wo : FVec Ideal S1x1024x1024 .f32) : FVec Ideal S4x8192x1024 .f32 :=
  rR x e (rY ga gb (rA mo (rN (rT f b) g)) hB wa wb) wo

theorem rG_at (z : FVec Ideal S4x8192x1024 .f32) (b : Fin 4) (s : Fin 8192) (d : Fin 1024) : rG z (ix3 b s d) = Ideal.logistic (z (ix3 b s d)) := by
  unfold Ideal.logistic
  rw [← one_bits]
  pointwise [rG]

theorem rT_at (f b : FVec Ideal S4x4x8192x256 .f32) (i : Fin 4) (s : Fin 8192) (h : Fin 4) (l : Fin 256) : rT f b (ix4 i s h l) = f (ix4 i h s l) + b (ix4 i h s l) := by
  pointwise [rT]

theorem rN_at (t : FVec Ideal S4x8192x4x256 .f32) (g : FVec Ideal S1x1024 .f32) (i : Fin 4) (s : Fin 8192) (d : Fin 1024) :
    rN t g (ix3 i s d) = t (ix4 i s ⟨d.val / 256, by omega⟩ ⟨d.val % 256, by omega⟩)
      * Ideal.rsqrt (Ideal.div (∑ l, t (ix4 i s ⟨d.val / 256, by omega⟩ l) * t (ix4 i s ⟨d.val / 256, by omega⟩ l)) (Ideal.ofBits .f32 0x43800000#32) + Ideal.ofBits .f32 0x358637BD#32)
      * g (ix2 0 d) := by
  pointwise [rN]

theorem rA_at (mo n : FVec Ideal S4x8192x1024 .f32) (b : Fin 4) (s : Fin 8192) (d : Fin 1024) : rA mo n (ix3 b s d) = rG mo (ix3 b s d) * n (ix3 b s d) := by
  pointwise [rA]

theorem rY_at (ga gb a hB : FVec Ideal S4x8192x1024 .f32) (wa wb : FVec Ideal S1x1024x1024 .f32) (b : Fin 4) (s : Fin 8192) (d : Fin 1024) :
    rY ga gb a hB wa wb (ix3 b s d) = rG ga (ix3 b s d) * (∑ k, a (ix3 b s k) * wa (ix3 0 k d)) + rG gb (ix3 b s d) * (∑ k, hB (ix3 b s k) * wb (ix3 0 k d)) := by
  pointwise [rY]

theorem rR_at (x : FVec Ideal S4x8192x1024 .f32) (e : FVec Ideal S4x6144 .f32) (y : FVec Ideal S4x8192x1024 .f32) (wo : FVec Ideal S1x1024x1024 .f32) (b : Fin 4) (s : Fin 8192) (d : Fin 1024) :
    rR x e y wo (ix3 b s d) = x (ix3 b s d) + e (ix2 b ⟨2048 + d.val, by omega⟩) * ∑ k, y (ix3 b s k) * wo (ix3 0 k d) := by
  pointwise [rR]

end Cert.Reference3Ideal.Read

end
-- ==== Proof.MergePoint.lean ====
/- A point of the merge: its result is the reference's at its row. -/
module

public import proofs.«01_k».proof.Proof.MergeKer
public import proofs.«01_k».proof.Proof.MergeRef

@[expose] public section

set_option maxRecDepth 16384

noncomputable section

namespace Cert.Math

/-- A sum over the lanes is the four heads' sums. -/
theorem sum_heads (f : Fin 1024 → EReal) : ∑ k, f k = (((∑ l : Fin 256, f ⟨0 + l.val, by omega⟩) + ∑ l : Fin 256, f ⟨256 + l.val, by omega⟩)
    + ∑ l : Fin 256, f ⟨512 + l.val, by omega⟩) + ∑ l : Fin 256, f ⟨768 + l.val, by omega⟩ := by
  have h1 := Fin.sum_univ_add (a := 768) (b := 256) f
  have h2 := Fin.sum_univ_add (a := 512) (b := 256) (fun k => f (Fin.castAdd 256 k))
  have h3 := Fin.sum_univ_add (a := 256) (b := 256) (fun k => f (Fin.castAdd 256 (Fin.castAdd 256 k)))
  refine h1.trans ?_
  rw [h2, h3]
  refine congrArg₂ (· + ·) (congrArg₂ (· + ·) (congrArg₂ (· + ·) ?_ ?_) ?_) ?_
  · exact Finset.sum_congr rfl fun l _ => congrArg f (Fin.ext (by show l.val = 0 + l.val; omega))
  · exact Finset.sum_congr rfl fun l _ => congrArg f (Fin.ext rfl)
  · exact Finset.sum_congr rfl fun l _ => congrArg f (Fin.ext rfl)
  · exact Finset.sum_congr rfl fun l _ => congrArg f (Fin.ext rfl)

theorem sg_eq (x : EReal) : sg x = Idealize.ShloMosaic.Ideal.logistic x := sigmoid_eq x

end Cert.Math

namespace Cert.Kernel3Ideal.Mrg

open Cert.Kernel3Ideal Cert.Kernel3Ideal.Gen Cert.Math
open Cert.Reference3Ideal.Read
open Idealize.ShloMosaic

/-- The reference's norm on a head's lanes. -/
theorem norm_head (f v : FVec Ideal S4x4x8192x256 .f32) (g : FVec Ideal S1x1024 .f32) (b : Fin 4) (s : Fin 8192) (h : Fin 4) (l : Fin 256) :
    rN (rT f v) g (ix3 b s ⟨256 * h.val + l.val, by omega⟩)
      = hd (fun l => f (ix4 b h s l)) (fun l => v (ix4 b h s l)) (fun l => g (ix2 0 ⟨256 * h.val + l.val, by omega⟩)) l := by
  have e1 : (⟨(256 * h.val + l.val) / 256, by omega⟩ : Fin 4) = h := Fin.ext (by show (256 * h.val + l.val) / 256 = h.val; omega)
  have e2 : (⟨(256 * h.val + l.val) % 256, by omega⟩ : Fin 256) = l := Fin.ext (by show (256 * h.val + l.val) % 256 = l.val; omega)
  rw [rN_at]
  dsimp only
  rw [e1, e2]
  simp only [rT_at]
  rfl

variable {x0 x1 x2 x3 x4 x5 : Vec Ideal S1x512x1024 .bf16} {x6 : Vec Ideal S1x512x1024 .f32} {x7 : Vec Ideal S1x1x6144 .f32} {x8 : Vec Ideal S1x1024 .f32}
  {x9 x10 x11 : Vec Ideal S1024x1024 .bf16}
  {f v : FVec Ideal S4x4x8192x256 .f32} {mo ga gb hB x : FVec Ideal S4x8192x1024 .f32} {e : FVec Ideal S4x6144 .f32} {g : FVec Ideal S1x1024 .f32}
  {wa wb wo : FVec Ideal S1x1024x1024 .f32} {b : Fin 4} {s : Fin 8192} {r : Fin 512}

/-- A head's term. -/
theorem head_eq (e0 : ∀ d : Fin 1024, x0 (ix3 0 r d) = f (ix4 b ⟨d.val / 256, by omega⟩ s ⟨d.val % 256, by omega⟩))
    (e1 : ∀ d : Fin 1024, x1 (ix3 0 r d) = v (ix4 b ⟨d.val / 256, by omega⟩ s ⟨d.val % 256, by omega⟩))
    (e2 : ∀ d : Fin 1024, x2 (ix3 0 r d) = mo (ix3 b s d)) (e8 : ∀ d : Fin 1024, x8 (ix2 0 d) = g (ix2 0 d))
    (e9 : ∀ k d : Fin 1024, x9 (ix2 k d) = wa (ix3 0 k d)) (h : Fin 4) (o : ℕ) (ho : o = 256 * h.val) (inb) (inw) (l : Fin 256) (d : Fin 1024) :
    sg ((View.ld x2 (Rect.unit (s := S1x512x1024) ![0, 0, o] S1x512x256.size inb) : Vec Ideal S1x512x256 .bf16) (ix3 0 r l))
      * hd (fun l => (View.ld x0 (Rect.unit (s := S1x512x1024) ![0, 0, o] S1x512x256.size inb) : Vec Ideal S1x512x256 .bf16) (ix3 0 r l))
        (fun l => (View.ld x1 (Rect.unit (s := S1x512x1024) ![0, 0, o] S1x512x256.size inb) : Vec Ideal S1x512x256 .bf16) (ix3 0 r l))
        (fun l => x8 (ix2 0 ⟨o + l.val, by omega⟩)) l
      * (View.ld x9 (Rect.unit (s := S1024x1024) ![o, 0] S256x1024.size inw) : Vec Ideal S256x1024 .bf16) (ix2 l d)
      = rA mo (rN (rT f v) g) (ix3 b s ⟨o + l.val, by omega⟩) * wa (ix3 0 ⟨o + l.val, by omega⟩ d) := by
  subst ho
  have c0 : ∀ l, (View.ld x0 (Rect.unit (s := S1x512x1024) ![0, 0, 256 * h.val] S1x512x256.size inb) : Vec Ideal S1x512x256 .bf16) (ix3 0 r l) = f (ix4 b h s l) := fun l => by
    rw [ld_col x0 _ inb r l (by omega), e0]
    refine congrArg f ?_
    funext a
    apply Fin.ext
    match a with
    | ⟨0, _⟩ => rfl
    | ⟨1, _⟩ => show (256 * h.val + l.val) / 256 = h.val; omega
    | ⟨2, _⟩ => rfl
    | ⟨3, _⟩ => show (256 * h.val + l.val) % 256 = l.val; omega
  have c1 : ∀ l, (View.ld x1 (Rect.unit (s := S1x512x1024) ![0, 0, 256 * h.val] S1x512x256.size inb) : Vec Ideal S1x512x256 .bf16) (ix3 0 r l) = v (ix4 b h s l) := fun l => by
    rw [ld_col x1 _ inb r l (by omega), e1]
    refine congrArg v ?_
    funext a
    apply Fin.ext
    match a with
    | ⟨0, _⟩ => rfl
    | ⟨1, _⟩ => show (256 * h.val + l.val) / 256 = h.val; omega
    | ⟨2, _⟩ => rfl
    | ⟨3, _⟩ => show (256 * h.val + l.val) % 256 = l.val; omega
  have n := norm_head f v g b s h l
  rw [rA_at, rG_at, n, ld_col x2 _ inb r l (by omega), ld_row x9 _ inw l d (by omega), sg_eq, e2, e9]
  simp only [c0, c1, e8]

/-- The normed branch. -/
theorem branch_eq (e0 : ∀ d : Fin 1024, x0 (ix3 0 r d) = f (ix4 b ⟨d.val / 256, by omega⟩ s ⟨d.val % 256, by omega⟩))
    (e1 : ∀ d : Fin 1024, x1 (ix3 0 r d) = v (ix4 b ⟨d.val / 256, by omega⟩ s ⟨d.val % 256, by omega⟩))
    (e2 : ∀ d : Fin 1024, x2 (ix3 0 r d) = mo (ix3 b s d)) (e8 : ∀ d : Fin 1024, x8 (ix2 0 d) = g (ix2 0 d))
    (e9 : ∀ k d : Fin 1024, x9 (ix2 k d) = wa (ix3 0 k d)) (i0 i1 i2 i3) (j0 j1 j2 j3) (d : Fin 1024) :
    k0_pay10 x8
      (k0_pay9 x8
        (k0_pay6 (k0_pay3 x8 (View.ld x0 (Rect.unit (s := S1x512x1024) ![0, 0, 0] S1x512x256.size i0)) (View.ld x1 (Rect.unit (s := S1x512x1024) ![0, 0, 0] S1x512x256.size i0)))
          (k0_pay4 (View.ld x2 (Rect.unit (s := S1x512x1024) ![0, 0, 0] S1x512x256.size i0))) (k0_pay5 (F := Ideal))
          (View.ld x9 (Rect.unit (s := S1024x1024) ![0, 0] S256x1024.size j0)))
        (k0_pay7 x8 (View.ld x0 (Rect.unit (s := S1x512x1024) ![0, 0, 256] S1x512x256.size i1)) (View.ld x1 (Rect.unit (s := S1x512x1024) ![0, 0, 256] S1x512x256.size i1))
          (View.ld x2 (Rect.unit (s := S1x512x1024) ![0, 0, 256] S1x512x256.size i1)))
        (k0_pay8 (View.ld x9 (Rect.unit (s := S1024x1024) ![256, 0] S256x1024.size j1)))
        (View.ld x0 (Rect.unit (s := S1x512x1024) ![0, 0, 512] S1x512x256.size i2)) (View.ld x1 (Rect.unit (s := S1x512x1024) ![0, 0, 512] S1x512x256.size i2))
        (View.ld x2 (Rect.unit (s := S1x512x1024) ![0, 0, 512] S1x512x256.size i2))
        (View.ld x9 (Rect.unit (s := S1024x1024) ![512, 0] S256x1024.size j2)))
      (View.ld x0 (Rect.unit (s := S1x512x1024) ![0, 0, 768] S1x512x256.size i3)) (View.ld x1 (Rect.unit (s := S1x512x1024) ![0, 0, 768] S1x512x256.size i3))
      (View.ld x2 (Rect.unit (s := S1x512x1024) ![0, 0, 768] S1x512x256.size i3))
      (View.ld x9 (Rect.unit (s := S1024x1024) ![768, 0] S256x1024.size j3)) (ix2 r d)
      = ∑ k, rA mo (rN (rT f v) g) (ix3 b s k) * wa (ix3 0 k d) := by
  have z : (fun l : Fin 256 => x8 (ix2 0 ⟨l.val, by omega⟩)) = fun l => x8 (ix2 0 ⟨0 + l.val, by omega⟩) := funext fun l =>
    congrArg x8 (congrArg (ix2 0) (Fin.ext (by show l.val = 0 + l.val; omega)))
  rw [p10_at, p9_at, p6_at, sum_heads]
  refine congrArg₂ (· + ·) (congrArg₂ (· + ·) (congrArg₂ (· + ·) ?_ ?_) ?_) ?_
  · refine Finset.sum_congr rfl fun l _ => ?_
    rw [p5_at, p4_at, p3_at, z]
    exact head_eq e0 e1 e2 e8 e9 0 0 rfl i0 j0 l d
  · refine Finset.sum_congr rfl fun l _ => ?_
    rw [p7_at, p8_at]
    exact head_eq e0 e1 e2 e8 e9 1 256 rfl i1 j1 l d
  · exact Finset.sum_congr rfl fun l _ => head_eq e0 e1 e2 e8 e9 2 512 rfl i2 j2 l d
  · exact Finset.sum_congr rfl fun l _ => head_eq e0 e1 e2 e8 e9 3 768 rfl i3 j3 l d

/-- The body's result is the reference's. -/
theorem outP_eq (e0 : ∀ d : Fin 1024, x0 (ix3 0 r d) = f (ix4 b ⟨d.val / 256, by omega⟩ s ⟨d.val % 256, by omega⟩))
    (e1 : ∀ d : Fin 1024, x1 (ix3 0 r d) = v (ix4 b ⟨d.val / 256, by omega⟩ s ⟨d.val % 256, by omega⟩))
    (e2 : ∀ d : Fin 1024, x2 (ix3 0 r d) = mo (ix3 b s d)) (e3 : ∀ d : Fin 1024, x3 (ix3 0 r d) = ga (ix3 b s d))
    (e4 : ∀ d : Fin 1024, x4 (ix3 0 r d) = gb (ix3 b s d)) (e5 : ∀ d : Fin 1024, x5 (ix3 0 r d) = hB (ix3 b s d))
    (e6 : ∀ d : Fin 1024, x6 (ix3 0 r d) = x (ix3 b s d)) (e7 : ∀ k : Fin 6144, x7 (ix3 0 0 k) = e (ix2 b k)) (e8 : ∀ d : Fin 1024, x8 (ix2 0 d) = g (ix2 0 d))
    (e9 : ∀ k d : Fin 1024, x9 (ix2 k d) = wa (ix3 0 k d)) (e10 : ∀ k d : Fin 1024, x10 (ix2 k d) = wb (ix3 0 k d))
    (e11 : ∀ k d : Fin 1024, x11 (ix2 k d) = wo (ix3 0 k d)) (d : Fin 1024) :
    outP x0 x1 x2 x3 x4 x5 x6 x7 x8 x9 x10 x11 (ix3 0 r d) = res f v mo ga gb hB x e g wa wb wo (ix3 b s d) := by
  unfold outP res
  rw [p1_at, rR_at, e6, e7]
  refine congrArg (fun t : EReal => x (ix3 b s d) + e (ix2 b ⟨2048 + d.val, by omega⟩) * t) (Finset.sum_congr rfl fun k _ => ?_)
  rw [rY_at, rG_at, rG_at, e11, branch_eq e0 e1 e2 e8 e9, p2_at, p11_at, e3, e4, sg_eq]
  refine congrArg₂ (fun s t : EReal => (s + t) * wo (ix3 0 k d)) (congrArg (fun t : EReal => t * _) (sg_eq _)) (congrArg (HMul.hMul (α := EReal) (β := EReal) (γ := EReal) _) ?_)
  simp only [e5, e10]

end Cert.Kernel3Ideal.Mrg

end
-- ==== Proof.Merge.lean ====
/- The merge: its kernel's frame, and its result equal to the reference's over the extended reals. -/
module

public import proofs.«01_k».proof.Defs
public import proofs.«01_k».proof.Proof.Gen.Kernel3
public import proofs.«01_k».proof.Proof.MergeHost
public import proofs.«01_k».proof.Proof.MergePoint

@[expose] public section

set_option maxRecDepth 16384

noncomputable section

namespace Cert.Kernel3Ideal.Mrg

open Cert.Kernel3Ideal Cert.Kernel3Ideal.Gen Cert.Math
open Cert.Reference3Ideal.Read
open Idealize.ShloMosaic Idealize.ShloMosaic.TcCoe Idealize.SL.Sem

variable (m : (ℓ : Loc nD τ sig) → Buf (Elt Ideal) ℓ) (c : Dev nD)

/-- The reference's result of the kernel's arguments. -/
def want : FVec Ideal S4x8192x1024 .f32 :=
  res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The result array. -/
theorem result_eq : ((dats m 0 c).arrAt 12 cfg0.N : Vec Ideal S4x8192x1024 .f32) = want m c := by
  have key : ∀ (b : Fin 4) (s : Fin 8192) (d : Fin 1024), ((dats m 0 c).arrAt 12 cfg0.N : Vec Ideal S4x8192x1024 .f32) (ix3 b s d) = want m c (ix3 b s d) := fun b s d => by
    have h := (out_at m c b ⟨s.val / 512, by omega⟩ ⟨s.val % 512, by omega⟩ d).trans
      (outP_eq (blk0 m c b _ _) (blk1 m c b _ _) (blk2 m c b _ _) (blk3 m c b _ _) (blk4 m c b _ _) (blk5 m c b _ _) (blk6 m c b _ _) (blk7 m c b _) (blk8 m c b _)
        (blk9 m c b _) (blk10 m c b _) (blk11 m c b _) d)
    have hs : (⟨s.val / 512 * 512 + s.val % 512, by omega⟩ : Fin 8192) = s := Fin.ext (by show s.val / 512 * 512 + s.val % 512 = s.val; omega)
    dsimp only at h
    rw [hs] at h
    exact h
  funext j
  rw [eq_ix3 j]
  exact key _ _ _

/-- The array the kernel leaves. -/
def left : Buf (Elt Ideal) ((c.tc : Thread nD τ).loc main_v27) := (dats m 0 c).arrAt 12 cfg0.N

end Cert.Kernel3Ideal.Mrg

namespace Cert.Proof.Mrg

open Idealize.ShloMosaic Idealize.SL.Sem

section
variable {F : FTy → Type} [FloatOps F]

/-! The two kernel programs have one text. -/

theorem body_same (i : Cert.Kernel3.grid0.Coords) : @Cert.Kernel3.cc0_merge F _ _ i = @Cert.Kernel3Ideal.cc0_merge F _ _ i := rfl

set_option maxHeartbeats 4000000 in
theorem main_same : @Cert.Kernel3.main F _ _ = @Cert.Kernel3Ideal.main F _ _ := rfl

set_option maxHeartbeats 4000000 in
theorem table_same : @Cert.Kernel3.defs₀ F _ _ = @Cert.Kernel3Ideal.defs₀ F _ _ := by
  unfold Cert.Kernel3.defs₀ Cert.Kernel3Ideal.defs₀
  refine congrArg Defs.onTc (funext fun l => funext fun a => ?_)
  match l, a with
  | ⟨0, _⟩, (t, s) =>
    dsimp only
    rw [body_same]
    rfl

theorem defs_same : @Cert.Kernel3.defs F _ _ = @Cert.Kernel3Ideal.defs F _ _ := by
  unfold Cert.Kernel3.defs Cert.Kernel3Ideal.defs
  exact congrArg (Pipeline.defs (Cert.Kernel3.pcfgs (F := F))) table_same

end

theorem frame_ref : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_ideal : Cert.quiescent_Kernel3Ideal := fun m ρ _ => Cert.Kernel3Ideal.Gen.frame m ρ

/-- The kernel's frame: its text is the ideal program's, so the run over any floats is its run. -/
theorem frame_kernel : Cert.quiescent_Kernel3 := fun m ρ _ => by
  have h := Cert.Kernel3Ideal.Gen.frame (F := Bits) m ρ
  rw [← defs_same, ← main_same] at h
  exact h

/-- The two results are one array. -/
theorem algebraic : Cert.algebraic_Kernel3Ideal_Reference3Ideal (hKernel3Ideal := Cert.Kernel3Ideal.Gen.facts)
    (hReference3Ideal := Cert.Reference3Ideal.Gen.facts) := fun m g m' g' _ hag =>
  ⟨Cert.Kernel3Ideal.Mrg.left m, Cert.Kernel3Ideal.Value.run_blocks m g,
    (θ_run Cert.Reference3Ideal.defs _ _).mono (fun r h c => ⟨(h c).1.trans (by
      obtain ⟨h0, h1, h2, h3, h4, h5, h6, h7, h8, h9, h10, h11⟩ := hag c
      rw [h0, h1, h2, h3, h4, h5, h6, h7, h8, h9, h10, h11]
      exact (Cert.Kernel3Ideal.Mrg.result_eq m c).symm), (h c).2⟩)
      (Cert.Reference3Ideal.Value.run (F := Ideal) m' g')⟩

end Cert.Proof.Mrg

end
-- ==== Proof.Mod.lean ====
/- The modulation call: its kernel's frame, and its result equal to the reference's over the reals. -/
module

public import proofs.«01_k».proof.Defs
public import proofs.«01_k».proof.Proof.Gen.Kernel4
public import proofs.«01_k».proof.Proof.Gen.Kernel4Ideal.Value
public import proofs.«01_k».proof.Proof.Gen.Pre_finite_conditions
public import proofs.«01_k».proof.Proof.Gen.Reference4Ideal.Run
public import proofs.«01_k».proof.Proof.Finite
public import proofs.«01_k».proof.Proof.Layer
public import Idealize.ShloMosaic.Lib.StableHlo.ReadAt

@[expose] public section

set_option maxRecDepth 16384

noncomputable section

namespace Cert.Pre_finite_conditions

open Idealize.ShloMosaic Facts
open Cert.Pre_finite_inputs (and_one reals)

variable [Facts]

theorem split {s0 : FVec Ideal S4x1024 .f32} {s1 : FVec Ideal S1024 .f32} {s2 : FVec Ideal S1x1024x6144 .f32} {s3 : FVec Ideal S1x6144 .f32}
    (H : fn (F := Ideal) s0 s1 s2 s3 ix0 = 1#1) : (∀ i, ∃ r : ℝ, s0 i = (r : EReal)) ∧ (∀ i, ∃ r : ℝ, s1 i = (r : EReal)) := by
  have h1 := and_one (show IntOp.andi _ _ = 1#1 from H)
  exact ⟨reals _ _ _ _ h1.1, reals _ _ _ _ h1.2⟩

end Cert.Pre_finite_conditions

namespace Cert.Reference4Ideal.Read

open Cert.Reference4Ideal Cert.Reference4Ideal.Gen Cert.Math
open Idealize.ShloMosaic Idealize.ShloMosaic.TcCoe Idealize.SL.Sem

/-- A condition's modulation. -/
def modRow (C : Fin 1024 → EReal) (w : FVec Ideal S1x1024x6144 .f32) (b : FVec Ideal S1x6144 .f32) (k : Fin 6144) : EReal :=
  (∑ d, C d * Ideal.logistic (C d) * w (ix3 0 d k)) + b (ix2 0 k)

/-- The batches' rows. -/
def rB (x : FVec Ideal S4x1024 .f32) (w : FVec Ideal S1x1024x6144 .f32) (b : FVec Ideal S1x6144 .f32) : FVec Ideal S4x6144 .f32 :=
  addf (Host.dotGeneral dot_S4x1024_S1024x6144_S4x6144_1_0_0_1_n_n none (mulf x (Host.divf (broadcastInDim S4x1024 ![] bcast_S_S4x1024
    (constant S_ .f32 0x3F800000#32)) (addf (broadcastInDim S4x1024 ![] bcast_S_S4x1024 (constant S_ .f32 0x3F800000#32)) (Host.exp
    (Host.negf x))))) (shapeCast _ w shapeCasts_S1x1024x6144_S1024x6144)) (broadcastInDim S4x6144 ![0, 1] bcast_S1x6144_S4x6144_0_1
    (broadcastInDim S1x6144 ![1] bcast_S6144_S1x6144_1 (shapeCast _ b shapeCasts_S1x6144_S6144)))

/-- The context's row. -/
def rC (x : FVec Ideal S1024 .f32) (w : FVec Ideal S1x1024x6144 .f32) (b : FVec Ideal S1x6144 .f32) : FVec Ideal S1x6144 .f32 :=
  broadcastInDim S1x6144 ![1] bcast_S6144_S1x6144_1 (addf (Host.dotGeneral dot_S1024_S1024x6144_S6144_0_0_n_1_n_n none (mulf x (Host.divf
    (broadcastInDim S1024 ![] bcast_S_S1024 (constant S_ .f32 0x3F800000#32)) (addf (broadcastInDim S1024 ![] bcast_S_S1024 (constant S_
    .f32 0x3F800000#32)) (Host.exp (Host.negf x))))) (shapeCast _ w shapeCasts_S1x1024x6144_S1024x6144)) (shapeCast _ b
    shapeCasts_S1x6144_S6144))

/-- The unused rows. -/
def rU (b : FVec Ideal S1x6144 .f32) : FVec Ideal S3x6144 .f32 := broadcastInDim S3x6144 ![0, 1] bcast_S1x6144_S3x6144_0_1 b

/-- The result. -/
def rM (p : FVec Ideal S4x6144 .f32) (q : FVec Ideal S1x6144 .f32) (u : FVec Ideal S3x6144 .f32) : FVec Ideal S8x6144 .f32 :=
  concatenate S8x6144 0 [⟨S4x6144, p⟩, ⟨S1x6144, q⟩, ⟨S3x6144, u⟩] concatenates_S4x6144_S1x6144_S3x6144_S8x6144_d0

theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
        = rM (rB (m ((c.tc : Thread nD τ).loc main_arg0)) (m ((c.tc : Thread nD τ).loc main_arg2)) (m ((c.tc : Thread nD τ).loc main_arg3)))
          (rC (m ((c.tc : Thread nD τ).loc main_arg1)) (m ((c.tc : Thread nD τ).loc main_arg2)) (m ((c.tc : Thread nD τ).loc main_arg3)))
          (rU (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference4Ideal.Value.run (F := Ideal) m ρ

theorem rB_at (x : FVec Ideal S4x1024 .f32) (w : FVec Ideal S1x1024x6144 .f32) (b : FVec Ideal S1x6144 .f32) (r : Fin 4) (k : Fin 6144) :
    rB x w b (ix2 r k) = modRow (fun d => x (ix2 r d)) w b k := by
  unfold modRow Ideal.logistic
  rw [← one_bits]
  pointwise [rB]

theorem rC_at (x : FVec Ideal S1024 .f32) (w : FVec Ideal S1x1024x6144 .f32) (b : FVec Ideal S1x6144 .f32) (k : Fin 6144) :
    rC x w b (ix2 0 k) = modRow (fun d => x (ix1 d)) w b k := by
  unfold modRow Ideal.logistic
  rw [← one_bits]
  pointwise [rC]

theorem rU_at (b : FVec Ideal S1x6144 .f32) (r : Fin 3) (k : Fin 6144) : rU b (ix2 r k) = b (ix2 0 k) := by
  pointwise [rU]

theorem rM_lo (p : FVec Ideal S4x6144 .f32) (q : FVec Ideal S1x6144 .f32) (u : FVec Ideal S3x6144 .f32) (r : Fin 4) (k : Fin 6144) :
    rM p q u (ix2 ⟨r.val, by omega⟩ k) = p (ix2 r k) := by
  pointwise [rM]

theorem rM_mid (p : FVec Ideal S4x6144 .f32) (q : FVec Ideal S1x6144 .f32) (u : FVec Ideal S3x6144 .f32) (k : Fin 6144) :
    rM p q u (ix2 4 k) = q (ix2 0 k) := by
  pointwise [rM]

theorem rM_hi (p : FVec Ideal S4x6144 .f32) (q : FVec Ideal S1x6144 .f32) (u : FVec Ideal S3x6144 .f32) (r : Fin 3) (k : Fin 6144) :
    rM p q u (ix2 ⟨5 + r.val, by omega⟩ k) = u (ix2 r k) := by
  pointwise [rM]
  rw [dif_neg (by omega), dif_neg (by omega)]
  refine congrArg u ?_
  funext a
  apply Fin.ext
  match a with
  | ⟨0, _⟩ => show 5 + r.val - 4 - 1 = r.val; omega
  | ⟨1, _⟩ => rfl

end Cert.Reference4Ideal.Read

namespace Cert.Kernel4Ideal.Mod

open Cert.Kernel4Ideal Cert.Kernel4Ideal.Gen Cert.Math
open Cert.Reference4Ideal.Read
open Idealize.ShloMosaic Idealize.ShloMosaic.TcCoe Idealize.SL.Sem

theorem pay_at (x : Vec Ideal S8x1024 .f32) (w : Vec Ideal S1024x1024 .f32) (b : Vec Ideal S1x1024 .f32) (r : Fin 8) (k : Fin 1024) :
    k0_pay1 x w b (ix2 r k) = (∑ d, (Ideal.ofBits .f32 0x3F000000#32 * x (ix2 r d)
        + Ideal.ofBits .f32 0x3F000000#32 * x (ix2 r d) * Ideal.tanh (Ideal.ofBits .f32 0x3F000000#32 * x (ix2 r d))) * w (ix2 d k)) + b (ix2 0 k) := by
  pointwise [k0_pay1]

variable (m : (ℓ : Loc nD τ sig) → Buf (Elt Ideal) ℓ) (c : Dev nD)

theorem lo_at (r : Fin 4) (d : Fin 1024) : V m c main_v2 (ix2 ⟨r.val, by omega⟩ d) = m ((c : Thread nD τ).loc main_arg0) (ix2 r d) := by
  unfold V
  after_reads_at

theorem mid_at (d : Fin 1024) : V m c main_v2 (ix2 4 d) = m ((c : Thread nD τ).loc main_arg1) (ix1 d) := by
  unfold V
  after_reads_at
  after_reads_at

theorem hi_at (r : Fin 3) (d : Fin 1024) : V m c main_v2 (ix2 ⟨5 + r.val, by omega⟩ d) = ((0 : ℝ) : EReal) := by
  unfold V
  after_reads_at
  after_reads_at
  rw [dif_neg (by omega), dif_neg (by omega)]
  rfl

theorem w_at (d : Fin 1024) (k : Fin 6144) : V m c main_v3 (ix2 d k) = m ((c : Thread nD τ).loc main_arg2) (ix3 0 d k) := by
  unfold V
  after_reads_at

theorem b_at (k : Fin 6144) : V m c main_v5 (ix2 0 k) = m ((c : Thread nD τ).loc main_arg3) (ix2 0 k) := by
  unfold V
  after_reads_at

/-- The grid point of columns' block `i`. -/
def pt (i : Fin 6) : Fin cfg0.N := ⟨i.val, by show i.val < 6; omega⟩

theorem idx0 : ∀ i : Fin 6, win0_0.index (pt i) = ![0, 0] := by decide +kernel
theorem idx1 : ∀ i : Fin 6, win0_1.index (pt i) = ![0, i.val] := by decide +kernel
theorem idx2 : ∀ i : Fin 6, win0_2.index (pt i) = ![0, i.val] := by decide +kernel
theorem idx3 : ∀ i : Fin 6, win0_3.index (pt i) = ![0, i.val] := by decide +kernel
theorem flush3 : ∀ i : Fin 6, (cfg0.win 3).flush (pt i) = true := by decide +kernel

theorem rd0 (A : Buf (Elt Ideal) ((c : Thread nD τ).loc (Pipeline.arrRef spec0 0))) (i : Fin 6) (r : Fin 8) (d : Fin 1024) :
    (((cfg0.win 0).blk (pt i)).view.read (Elt Ideal) A : Vec Ideal S8x1024 .f32) (ix2 r d) = (A : Vec Ideal S8x1024 .f32) (ix2 r d) := by
  rw [View.read_apply]
  refine congrArg (A : Vec Ideal S8x1024 .f32) ?_
  funext x
  apply Fin.ext
  match x with
  | ⟨0, _⟩ => show win0_0.index (pt i) 0 * 8 + 1 * r.val = r.val; rw [idx0]; show 0 * 8 + 1 * r.val = _; omega
  | ⟨1, _⟩ => show win0_0.index (pt i) 1 * 1024 + 1 * d.val = d.val; rw [idx0]; show 0 * 1024 + 1 * d.val = _; omega

theorem rd1 (A : Buf (Elt Ideal) ((c : Thread nD τ).loc (Pipeline.arrRef spec0 1))) (i : Fin 6) (d k : Fin 1024) :
    (((cfg0.win 1).blk (pt i)).view.read (Elt Ideal) A : Vec Ideal S1024x1024 .f32) (ix2 d k) = (A : Vec Ideal S1024x6144 .f32) (ix2 d ⟨i.val * 1024 + k.val, by omega⟩) := by
  rw [View.read_apply]
  refine congrArg (A : Vec Ideal S1024x6144 .f32) ?_
  funext x
  apply Fin.ext
  match x with
  | ⟨0, _⟩ => show win0_1.index (pt i) 0 * 1024 + 1 * d.val = d.val; rw [idx1]; show 0 * 1024 + 1 * d.val = _; omega
  | ⟨1, _⟩ => show win0_1.index (pt i) 1 * 1024 + 1 * k.val = i.val * 1024 + k.val; rw [idx1]; show i.val * 1024 + 1 * k.val = _; omega

theorem rd2 (A : Buf (Elt Ideal) ((c : Thread nD τ).loc (Pipeline.arrRef spec0 2))) (i : Fin 6) (k : Fin 1024) :
    (((cfg0.win 2).blk (pt i)).view.read (Elt Ideal) A : Vec Ideal S1x1024 .f32) (ix2 0 k) = (A : Vec Ideal S1x6144 .f32) (ix2 0 ⟨i.val * 1024 + k.val, by omega⟩) := by
  rw [View.read_apply]
  refine congrArg (A : Vec Ideal S1x6144 .f32) ?_
  funext x
  apply Fin.ext
  match x with
  | ⟨0, _⟩ => show win0_2.index (pt i) 0 * 1 + 1 * 0 = 0; rw [idx2]; show 0 * 1 + 1 * 0 = _; omega
  | ⟨1, _⟩ => show win0_2.index (pt i) 1 * 1024 + 1 * k.val = i.val * 1024 + k.val; rw [idx2]; show i.val * 1024 + 1 * k.val = _; omega

theorem rd3 (A : Buf (Elt Ideal) ((c : Thread nD τ).loc main_v6)) (i : Fin 6) (r : Fin 8) (k : Fin 1024) :
    (((cfg0.win 3).blk (pt i)).view.read (Elt Ideal) A : Vec Ideal S8x1024 .f32) (ix2 r k) = (A : Vec Ideal S8x6144 .f32) (ix2 r ⟨i.val * 1024 + k.val, by omega⟩) := by
  rw [View.read_apply]
  refine congrArg (A : Vec Ideal S8x6144 .f32) ?_
  funext x
  apply Fin.ext
  match x with
  | ⟨0, _⟩ => show win0_3.index (pt i) 0 * 8 + 1 * r.val = r.val; rw [idx3]; show 0 * 8 + 1 * r.val = _; omega
  | ⟨1, _⟩ => show win0_3.index (pt i) 1 * 1024 + 1 * k.val = i.val * 1024 + k.val; rw [idx3]; show i.val * 1024 + 1 * k.val = _; omega

theorem out_eq (x0 : Vec Ideal S8x1024 .f32) (x1 : Vec Ideal S1024x1024 .f32) (x2 : Vec Ideal S1x1024 .f32) : out0_3 x0 x1 x2 = k0_pay1 x0 x1 x2 := by
  unfold out0_3
  rw [View.canon_unit_zero zero2, View.ld_unit_zero zero2, View.ld_unit_zero zero2, View.ld_unit_zero zero2]

theorem cut_at (t : Fin cfg0.N) (x : Vec Ideal S8x1024 .f32) (r : Fin 8) (k : Fin 1024) :
    ((cfg0.win 3).cut (grid0.coords t) x : Vec Ideal S8x1024 .f32) (ix2 r k) = x (ix2 r k) := rfl

theorem out_at (i : Fin 6) (r : Fin 8) (k : Fin 1024) :
    ((dats m 0 c).arrAt 3 cfg0.N : Vec Ideal S8x6144 .f32) (ix2 r ⟨i.val * 1024 + k.val, by omega⟩)
      = k0_pay1 (iblk m c 0 (pt i)) (iblk m c 1 (pt i)) (iblk m c 2 (pt i)) (ix2 r k) := by
  have h1 := Cert.Kernel4Ideal.Value.blocks3 m c (pt i) (flush3 i)
  rw [Cert.Kernel4Ideal.Value.flushed3, out_eq] at h1
  have h2 := congrFun h1 (ix2 r k)
  rw [← rd3 c ((dats m 0 c).arrAt 3 cfg0.N) i r k]
  exact h2.trans (cut_at (pt i) _ r k)

/-- A row of real conditions leaves their modulation. -/
theorem row_at (r : Fin 8) (C : Fin 1024 → ℝ) (hC : ∀ d, V m c main_v2 (ix2 r d) = (C d : EReal)) (k : Fin 6144) :
    ((dats m 0 c).arrAt 3 cfg0.N : Vec Ideal S8x6144 .f32) (ix2 r k)
      = modRow (fun d => (C d : EReal)) (m ((c : Thread nD τ).loc main_arg2)) (m ((c : Thread nD τ).loc main_arg3)) k := by
  have hk : (⟨k.val / 1024 * 1024 + k.val % 1024, by omega⟩ : Fin 6144) = k := Fin.ext (by show k.val / 1024 * 1024 + k.val % 1024 = k.val; omega)
  have h := out_at m c ⟨k.val / 1024, by omega⟩ r ⟨k.val % 1024, by omega⟩
  have e0 : ∀ d, (iblk m c 0 (pt ⟨k.val / 1024, by omega⟩) : Vec Ideal S8x1024 .f32) (ix2 r d) = (C d : EReal) := fun d =>
    (rd0 c (V m c main_v2) _ r d).trans (hC d)
  have e1 : ∀ d, (iblk m c 1 (pt ⟨k.val / 1024, by omega⟩) : Vec Ideal S1024x1024 .f32) (ix2 d ⟨k.val % 1024, by omega⟩) = m ((c : Thread nD τ).loc main_arg2) (ix3 0 d k) := fun d => by
    refine (rd1 c (V m c main_v3) _ d _).trans ((w_at m c d _).trans ?_)
    dsimp only
    rw [hk]
  have e2 : (iblk m c 2 (pt ⟨k.val / 1024, by omega⟩) : Vec Ideal S1x1024 .f32) (ix2 0 ⟨k.val % 1024, by omega⟩) = m ((c : Thread nD τ).loc main_arg3) (ix2 0 k) := by
    refine (rd2 c (V m c main_v5) _ _).trans ((b_at m c _).trans ?_)
    dsimp only
    rw [hk]
  generalize (iblk m c 0 (pt ⟨k.val / 1024, by omega⟩) : Vec Ideal S8x1024 .f32) = x0 at *
  generalize (iblk m c 1 (pt ⟨k.val / 1024, by omega⟩) : Vec Ideal S1024x1024 .f32) = x1 at *
  generalize (iblk m c 2 (pt ⟨k.val / 1024, by omega⟩) : Vec Ideal S1x1024 .f32) = x2 at *
  dsimp only at h
  rw [hk] at h
  rw [h, pay_at, e2]
  unfold modRow
  congr 1
  refine Finset.sum_congr rfl fun d _ => ?_
  rw [e0, e1, silu_eq]

theorem modRow_zero (w : FVec Ideal S1x1024x6144 .f32) (b : FVec Ideal S1x6144 .f32) (k : Fin 6144) :
    modRow (fun _ => ((0 : ℝ) : EReal)) w b k = b (ix2 0 k) := by
  unfold modRow
  simp

/-- The result array. -/
theorem result_eq (h0 : ∀ i, ∃ r : ℝ, m ((c : Thread nD τ).loc main_arg0) i = (r : EReal)) (h1 : ∀ i, ∃ r : ℝ, m ((c : Thread nD τ).loc main_arg1) i = (r : EReal)) :
    ((dats m 0 c).arrAt 3 cfg0.N : Vec Ideal S8x6144 .f32)
      = rM (rB (m ((c : Thread nD τ).loc main_arg0)) (m ((c : Thread nD τ).loc main_arg2)) (m ((c : Thread nD τ).loc main_arg3)))
          (rC (m ((c : Thread nD τ).loc main_arg1)) (m ((c : Thread nD τ).loc main_arg2)) (m ((c : Thread nD τ).loc main_arg3)))
          (rU (m ((c : Thread nD τ).loc main_arg3))) := by
  choose C0 hC0 using h0
  choose C1 hC1 using h1
  have key : ∀ (r : Fin 8) (k : Fin 6144), ((dats m 0 c).arrAt 3 cfg0.N : Vec Ideal S8x6144 .f32) (ix2 r k)
      = rM (rB (m ((c : Thread nD τ).loc main_arg0)) (m ((c : Thread nD τ).loc main_arg2)) (m ((c : Thread nD τ).loc main_arg3)))
          (rC (m ((c : Thread nD τ).loc main_arg1)) (m ((c : Thread nD τ).loc main_arg2)) (m ((c : Thread nD τ).loc main_arg3)))
          (rU (m ((c : Thread nD τ).loc main_arg3))) (ix2 r k) := fun r k => by
    rcases lt_trichotomy r.val 4 with hr | hr | hr
    · have e := row_at m c r (fun d => C0 (ix2 ⟨r.val, hr⟩ d)) (fun d => (lo_at m c ⟨r.val, hr⟩ d).trans (hC0 _)) k
      refine e.trans (Eq.symm ((rM_lo _ _ _ ⟨r.val, hr⟩ k).trans ?_))
      rw [rB_at]
      simp only [hC0]
    · obtain rfl : r = 4 := Fin.ext hr
      have e := row_at m c 4 (fun d => C1 (ix1 d)) (fun d => (mid_at m c d).trans (hC1 _)) k
      refine e.trans (Eq.symm ((rM_mid _ _ _ k).trans ?_))
      rw [rC_at]
      simp only [hC1]
    · obtain ⟨j, hj⟩ : ∃ j : Fin 3, r.val = 5 + j.val := ⟨⟨r.val - 5, by omega⟩, by show r.val = 5 + (r.val - 5); omega⟩
      rw [show r = ⟨5 + j.val, by omega⟩ from Fin.ext hj]
      have e := row_at m c ⟨5 + j.val, by omega⟩ (fun _ => 0) (fun d => hi_at m c j d) k
      refine e.trans (Eq.symm ((rM_hi _ _ _ j k).trans ?_))
      rw [rU_at, modRow_zero]
  funext j
  rw [eq_ix2 j]
  exact key _ _

/-- The array the kernel leaves. -/
def left : Buf (Elt Ideal) ((c.tc : Thread nD τ).loc main_v6) := (dats m 0 c).arrAt 3 cfg0.N

end Cert.Kernel4Ideal.Mod

namespace Cert.Proof.Mod

open Idealize.ShloMosaic Idealize.SL.Sem

section
variable {F : FTy → Type} [FloatOps F]

/-! The two kernel programs have one text. -/

theorem body_same (i : Cert.Kernel4.grid0.Coords) : @Cert.Kernel4.cc0_mod F _ _ i = @Cert.Kernel4Ideal.cc0_mod F _ _ i := rfl

theorem main_same : @Cert.Kernel4.main F _ _ = @Cert.Kernel4Ideal.main F _ _ := rfl

theorem table_same : @Cert.Kernel4.defs₀ F _ _ = @Cert.Kernel4Ideal.defs₀ F _ _ := by
  unfold Cert.Kernel4.defs₀ Cert.Kernel4Ideal.defs₀
  refine congrArg Defs.onTc (funext fun l => funext fun a => ?_)
  match l, a with
  | ⟨0, _⟩, (t, s) =>
    dsimp only
    rw [body_same]
    rfl

theorem defs_same : @Cert.Kernel4.defs F _ _ = @Cert.Kernel4Ideal.defs F _ _ := by
  unfold Cert.Kernel4.defs Cert.Kernel4Ideal.defs
  exact congrArg (Pipeline.defs (Cert.Kernel4.pcfgs (F := F))) table_same

end

theorem frame_ref : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem frame_ideal : Cert.quiescent_Kernel4Ideal := fun m ρ _ => Cert.Kernel4Ideal.Gen.frame m ρ

/-- The kernel's frame: its text is the ideal program's, so the run over any floats is its run. -/
theorem frame_kernel : Cert.quiescent_Kernel4 := fun m ρ _ => by
  have h := Cert.Kernel4Ideal.Gen.frame (F := Bits) m ρ
  rw [← defs_same, ← main_same] at h
  exact h

/-- The two results are one array. -/
theorem algebraic : Cert.algebraic_Kernel4Ideal_Reference4Ideal_pre_finite_conditions (hKernel4Ideal := Cert.Kernel4Ideal.Gen.facts)
    (hReference4Ideal := Cert.Reference4Ideal.Gen.facts) (hPre_finite_conditions := Cert.Pre_finite_conditions.Gen.facts) := fun m g m' g' hpre hag =>
  ⟨Cert.Kernel4Ideal.Mod.left m, Cert.Kernel4Ideal.Value.run_blocks m g,
    (θ_run Cert.Reference4Ideal.defs _ _).mono (fun r h c => ⟨(h c).1.trans (by
      obtain ⟨h0, h1, h2, h3⟩ := hag c
      obtain ⟨p0, p1⟩ := Cert.Pre_finite_conditions.split (congrFun (hpre c) ix0)
      rw [h0, h1, h2, h3]
      exact (Cert.Kernel4Ideal.Mod.result_eq m c p0 p1).symm), (h c).2⟩)
      (Cert.Reference4Ideal.Read.run_rows m' g')⟩

end Cert.Proof.Mod

end
-- ==== Proof.ProjKer.lean ====
/- The projection body's payloads that reach the values and gates, read at an index. -/
module

public import proofs.«01_k».proof.Proof.Gen.Kernel5Ideal.Skeleton
public import Idealize.ShloMosaic.Lib.Pointwise
public import proofs.«01_k».proof.Proof.Layer

@[expose] public section

set_option maxRecDepth 16384

noncomputable section

namespace Cert.Kernel5Ideal.Proj

open Cert.Kernel5Ideal Cert.Kernel5Ideal.Gen Cert.Math
open Idealize.ShloMosaic

/-- The bit by which the body takes its tokens' block over its context's. -/
def bit (i : grid0.Coords) : BitVec 1 :=
  let arg0 : BitVec 32 := BitVec.ofNat 32 (i 0).val
  let v3 : BitVec 32 := Scalar.minsi arg0 131#32
  let v4 : BitVec 1 := Scalar.cmpi .eq 33#32 0#32
  let v5 : BitVec 32 := Scalar.select v4 1#32 33#32
  let v6 : BitVec 32 := Scalar.remsi v3 v5
  let v7 : BitVec 1 := Scalar.cmpi .ne v6 0#32
  let v8 : BitVec 1 := Scalar.cmpi .slt v6 0#32
  let v9 : BitVec 1 := Scalar.cmpi .slt v5 0#32
  let v10 : BitVec 1 := Scalar.xori v8 v9
  let v11 : BitVec 1 := Scalar.andi v10 v7
  let v12 : BitVec 32 := Scalar.addi v6 v5
  let v13 : BitVec 32 := Scalar.select v11 v12 v6
  Scalar.cmpi .slt v13 32#32

theorem y_eq (i : grid0.Coords) (a b : Vec Ideal S1x256x1024 .f32) :
    k0_pay7 i a b = Scalar.select (bit i) (shapeCast S256x1024 a shapeCasts_S1x256x1024_S256x1024) (shapeCast S256x1024 b shapeCasts_S1x256x1024_S256x1024) := rfl

theorem y_tok (i : grid0.Coords) (h : bit i = 1#1) (a b : Vec Ideal S1x256x1024 .f32) (r : Fin 256) (d : Fin 1024) :
    k0_pay7 i a b (ix2 r d) = a (ix3 0 r d) := by
  rw [y_eq, h]
  show shapeCast S256x1024 a shapeCasts_S1x256x1024_S256x1024 (ix2 r d) = _
  pointwise []

theorem y_ctx (i : grid0.Coords) (h : bit i = 0#1) (a b : Vec Ideal S1x256x1024 .f32) (r : Fin 256) (d : Fin 1024) :
    k0_pay7 i a b (ix2 r d) = b (ix3 0 r d) := by
  rw [y_eq, h]
  show shapeCast S256x1024 b shapeCasts_S1x256x1024_S256x1024 (ix2 r d) = _
  pointwise []

theorem n_at (i : grid0.Coords) (a b : Vec Ideal S1x256x1024 .f32) (e : Vec Ideal S1x1x6144 .f32) (g : Vec Ideal S1x1024 .f32) (r : Fin 256) (d : Fin 1024) :
    k0_pay14 (k0_pay7 i a b) g (k0_pay9 e) (k0_pay10 e) (k0_pay11 i a b) (ix2 r d)
      = normed (fun d => k0_pay7 i a b (ix2 r d)) (fun d => g (ix2 0 d)) (fun d => e (ix3 0 0 ⟨d.val, by omega⟩)) (fun d => e (ix3 0 0 ⟨1024 + d.val, by omega⟩)) d := by
  unfold normed k0_pay14 k0_pay13 k0_pay12 k0_pay11
  generalize k0_pay7 i a b = y
  pointwise [k0_pay8, k0_pay9, k0_pay10]

theorem p0_at (n : Vec Ideal S256x1024 .bf16) (w : Vec Ideal S1024x1024 .bf16) (r : Fin 256) (k : Fin 1024) :
    k0_pay25 n w (ix3 0 r k) = ∑ e, n (ix2 r e) * w (ix2 e k) := by
  pointwise [k0_pay25]

theorem p1_at (n : Vec Ideal S256x1024 .bf16) (w : Vec Ideal S1024x1024 .bf16) (r : Fin 256) (k : Fin 1024) :
    k0_pay37 n w (ix3 0 r k) = ∑ e, n (ix2 r e) * w (ix2 e k) := by
  pointwise [k0_pay37]

theorem p2_at (n : Vec Ideal S256x1024 .bf16) (w : Vec Ideal S1024x1024 .bf16) (r : Fin 256) (k : Fin 1024) :
    k0_pay52 (k0_pay51 n w) (ix3 0 r k) = ∑ e, n (ix2 r e) * w (ix2 e k) := by
  pointwise [k0_pay51, k0_pay52]

theorem p3_at (n : Vec Ideal S256x1024 .bf16) (w : Vec Ideal S1024x1024 .bf16) (r : Fin 256) (k : Fin 1024) :
    k0_pay68 n w (ix3 0 r k) = ∑ e, n (ix2 r e) * w (ix2 e k) := by
  pointwise [k0_pay68]

end Cert.Kernel5Ideal.Proj

end
-- ==== Proof.ProjHost.lean ====
/- The projection call's blocks read at an index in the arguments. -/
module

public import proofs.«01_k».proof.Proof.Gen.Kernel5Ideal.Frame.Runs
public import proofs.«01_k».proof.Proof.ProjKer
public import Idealize.ShloMosaic.Lib.StableHlo.ReadAt

@[expose] public section

set_option maxRecDepth 16384

noncomputable section

namespace Cert.Kernel5Ideal.Proj

open Cert.Kernel5Ideal Cert.Kernel5Ideal.Gen Cert.Math
open Idealize.ShloMosaic Idealize.ShloMosaic.TcCoe Idealize.SL.Sem

variable (m : (ℓ : Loc nD τ sig) → Buf (Elt Ideal) ℓ) (c : Dev nD)

theorem wm_at (e : Fin 1024) (k : Fin 3072) : V m c main_v3 (ix2 e k) = m ((c : Thread nD τ).loc main_arg5) (ix3 0 e ⟨k.val, by omega⟩) := by
  unfold V
  after_reads_at

theorem wg_at (e : Fin 1024) (k : Fin 2048) : V m c main_v6 (ix2 e k) = m ((c : Thread nD τ).loc main_arg5) (ix3 0 e ⟨6160 + k.val, by omega⟩) := by
  unfold V
  after_reads_at

theorem mod_at (b : Fin 4) (e : Fin 6144) : V m c main_v89 (ix3 ⟨b.val, by omega⟩ 0 e) = m ((c : Thread nD τ).loc main_arg2) (ix2 b e) := by
  unfold V
  after_reads_at
  after_reads_at

theorem modc_at (e : Fin 6144) : V m c main_v89 (ix3 4 0 e) = m ((c : Thread nD τ).loc main_arg3) (ix2 0 e) := by
  unfold V
  after_reads_at
  after_reads_at

/-- The grid point of batch `b`, tokens' tile `i`. -/
def pl (b : Fin 4) (i : Fin 32) : Fin cfg0.N := ⟨b.val * 33 + i.val, by show b.val * 33 + i.val < 133; omega⟩

/-- The last grid point of batch `b`'s context. -/
def pc (b : Fin 4) : Fin cfg0.N := ⟨if b.val = 3 then 132 else b.val * 33 + 32, by show (if b.val = 3 then 132 else b.val * 33 + 32) < 133; split <;> omega⟩

theorem bit_l : ∀ (b : Fin 4) (i : Fin 32), bit (grid0.coords (pl b i)) = 1#1 := by decide +kernel
theorem bit_c : ∀ (b : Fin 4), bit (grid0.coords (pc b)) = 0#1 := by decide +kernel
theorem idx0_l : ∀ (b : Fin 4) (i : Fin 32), win0_0.index (pl b i) = ![b.val, i.val, 0] := by decide +kernel
theorem idx3_c : ∀ (b : Fin 4), win0_3.index (pc b) = ![b.val, 0, 0] := by decide +kernel
theorem idx4_l : ∀ (b : Fin 4) (i : Fin 32), win0_4.index (pl b i) = ![b.val, 0, 0] := by decide +kernel
theorem idx4_c : ∀ (b : Fin 4), win0_4.index (pc b) = ![4, 0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx19_l : ∀ (b : Fin 4) (i : Fin 32), win0_19.index (pl b i) = ![b.val, i.val, 0] := by decide +kernel
theorem idx19_c : ∀ (b : Fin 4), win0_19.index (pc b) = ![b.val, 32, 0] := by decide +kernel
theorem flush_l : ∀ (b : Fin 4) (i : Fin 32), (cfg0.win 19).flush (pl b i) = true := by decide +kernel
theorem flush_c : ∀ (b : Fin 4), (cfg0.win 19).flush (pc b) = true := by decide +kernel

theorem rd0 (A : Buf (Elt Ideal) ((c : Thread nD τ).loc (Pipeline.arrRef spec0 0))) (b : Fin 4) (i : Fin 32) (r : Fin 256) (d : Fin 1024) :
    (((cfg0.win 0).blk (pl b i)).view.read (Elt Ideal) A : Vec Ideal S1x256x1024 .f32) (ix3 0 r d) = (A : Vec Ideal S4x8192x1024 .f32) (ix3 b ⟨i.val * 256 + r.val, by omega⟩ d) := by
  rw [View.read_apply]
  refine congrArg (A : Vec Ideal S4x8192x1024 .f32) ?_
  funext x
  apply Fin.ext
  match x with
  | ⟨0, _⟩ => show win0_0.index (pl b i) 0 * 1 + 1 * 0 = b.val; rw [idx0_l]; show b.val * 1 + 1 * 0 = _; omega
  | ⟨1, _⟩ => show win0_0.index (pl b i) 1 * 256 + 1 * r.val = i.val * 256 + r.val; rw [idx0_l]; show i.val * 256 + 1 * r.val = _; omega
  | ⟨2, _⟩ => show win0_0.index (pl b i) 2 * 1024 + 1 * d.val = d.val; rw [idx0_l]; show 0 * 1024 + 1 * d.val = _; omega

theorem blk0 (b : Fin 4) (i : Fin 32) (r : Fin 256) (d : Fin 1024) :
    (iblk m c 0 (pl b i) : Vec Ideal S1x256x1024 .f32) (ix3 0 r d) = m ((c : Thread nD τ).loc main_arg0) (ix3 b ⟨i.val * 256 + r.val, by omega⟩ d) :=
  (rd0 c (V m c main_arg0) b i r d).trans (congrFun (V_main_arg0 m c) _)

theorem rd3 (A : Buf (Elt Ideal) ((c : Thread nD τ).loc (Pipeline.arrRef spec0 3))) (b : Fin 4) (r : Fin 256) (d : Fin 1024) :
    (((cfg0.win 3).blk (pc b)).view.read (Elt Ideal) A : Vec Ideal S1x256x1024 .f32) (ix3 0 r d) = (A : Vec Ideal S4x256x1024 .f32) (ix3 b r d) := by
  rw [View.read_apply]
  refine congrArg (A : Vec Ideal S4x256x1024 .f32) ?_
  funext x
  apply Fin.ext
  match x with
  | ⟨0, _⟩ => show win0_3.index (pc b) 0 * 1 + 1 * 0 = b.val; rw [idx3_c]; show b.val * 1 + 1 * 0 = _; omega
  | ⟨1, _⟩ => show win0_3.index (pc b) 1 * 256 + 1 * r.val = r.val; rw [idx3_c]; show 0 * 256 + 1 * r.val = _; omega
  | ⟨2, _⟩ => show win0_3.index (pc b) 2 * 1024 + 1 * d.val = d.val; rw [idx3_c]; show 0 * 1024 + 1 * d.val = _; omega

theorem blk3 (b : Fin 4) (r : Fin 256) (d : Fin 1024) :
    (iblk m c 3 (pc b) : Vec Ideal S1x256x1024 .f32) (ix3 0 r d) = m ((c : Thread nD τ).loc main_arg1) (ix3 b r d) :=
  (rd3 c (V m c main_arg1) b r d).trans (congrFun (V_main_arg1 m c) _)

theorem rd4_l (A : Buf (Elt Ideal) ((c : Thread nD τ).loc (Pipeline.arrRef spec0 4))) (b : Fin 4) (i : Fin 32) (e : Fin 6144) :
    (((cfg0.win 4).blk (pl b i)).view.read (Elt Ideal) A : Vec Ideal S1x1x6144 .f32) (ix3 0 0 e) = (A : Vec Ideal S8x1x6144 .f32) (ix3 ⟨b.val, by omega⟩ 0 e) := by
  rw [View.read_apply]
  refine congrArg (A : Vec Ideal S8x1x6144 .f32) ?_
  funext x
  apply Fin.ext
  match x with
  | ⟨0, _⟩ => show win0_4.index (pl b i) 0 * 1 + 1 * 0 = b.val; rw [idx4_l]; show b.val * 1 + 1 * 0 = _; omega
  | ⟨1, _⟩ => show win0_4.index (pl b i) 1 * 1 + 1 * 0 = 0; rw [idx4_l]; show 0 * 1 + 1 * 0 = _; omega
  | ⟨2, _⟩ => show win0_4.index (pl b i) 2 * 6144 + 1 * e.val = e.val; rw [idx4_l]; show 0 * 6144 + 1 * e.val = _; omega

theorem blk4_l (b : Fin 4) (i : Fin 32) (e : Fin 6144) :
    (iblk m c 4 (pl b i) : Vec Ideal S1x1x6144 .f32) (ix3 0 0 e) = m ((c : Thread nD τ).loc main_arg2) (ix2 b e) :=
  (rd4_l c (V m c main_v89) b i e).trans (mod_at m c b e)

theorem rd4_c (A : Buf (Elt Ideal) ((c : Thread nD τ).loc (Pipeline.arrRef spec0 4))) (b : Fin 4) (e : Fin 6144) :
    (((cfg0.win 4).blk (pc b)).view.read (Elt Ideal) A : Vec Ideal S1x1x6144 .f32) (ix3 0 0 e) = (A : Vec Ideal S8x1x6144 .f32) (ix3 4 0 e) := by
  rw [View.read_apply]
  refine congrArg (A : Vec Ideal S8x1x6144 .f32) ?_
  funext x
  apply Fin.ext
  match x with
  | ⟨0, _⟩ => show win0_4.index (pc b) 0 * 1 + 1 * 0 = 4; rw [idx4_c]; show 4 * 1 + 1 * 0 = _; omega
  | ⟨1, _⟩ => show win0_4.index (pc b) 1 * 1 + 1 * 0 = 0; rw [idx4_c]; show 0 * 1 + 1 * 0 = _; omega
  | ⟨2, _⟩ => show win0_4.index (pc b) 2 * 6144 + 1 * e.val = e.val; rw [idx4_c]; show 0 * 6144 + 1 * e.val = _; omega

theorem blk4_c (b : Fin 4) (e : Fin 6144) :
    (iblk m c 4 (pc b) : Vec Ideal S1x1x6144 .f32) (ix3 0 0 e) = m ((c : Thread nD τ).loc main_arg3) (ix2 0 e) :=
  (rd4_c c (V m c main_v89) b e).trans (modc_at m c e)

theorem rd5 (A : Buf (Elt Ideal) ((c : Thread nD τ).loc (Pipeline.arrRef spec0 5))) (t : Fin cfg0.N) (d : Fin 1024) :
    (((cfg0.win 5).blk t).view.read (Elt Ideal) A : Vec Ideal S1x1024 .f32) (ix2 0 d) = (A : Vec Ideal S1x1024 .f32) (ix2 0 d) := by
  rw [View.read_apply]
  refine congrArg (A : Vec Ideal S1x1024 .f32) ?_
  funext x
  apply Fin.ext
  match x with
  | ⟨0, _⟩ => show win0_5.index t 0 * 1 + 1 * 0 = 0; rw [idx5]; show 0 * 1 + 1 * 0 = _; omega
  | ⟨1, _⟩ => show win0_5.index t 1 * 1024 + 1 * d.val = d.val; rw [idx5]; show 0 * 1024 + 1 * d.val = _; omega

theorem blk5 (t : Fin cfg0.N) (d : Fin 1024) :
    (iblk m c 5 t : Vec Ideal S1x1024 .f32) (ix2 0 d) = m ((c : Thread nD τ).loc main_arg4) (ix2 0 d) :=
  (rd5 c (V m c main_arg4) t d).trans (congrFun (V_main_arg4 m c) _)

theorem rd6 (A : Buf (Elt Ideal) ((c : Thread nD τ).loc (Pipeline.arrRef spec0 6))) (t : Fin cfg0.N) (e : Fin 1024) (k : Fin 3072) :
    (((cfg0.win 6).blk t).view.read (Elt Ideal) A : Vec Ideal S1024x3072 .bf16) (ix2 e k) = (A : Vec Ideal S1024x3072 .bf16) (ix2 e k) := by
  rw [View.read_apply]
  refine congrArg (A : Vec Ideal S1024x3072 .bf16) ?_
  funext x
  apply Fin.ext
  match x with
  | ⟨0, _⟩ => show win0_6.index t 0 * 1024 + 1 * e.val = e.val; rw [idx6]; show 0 * 1024 + 1 * e.val = _; omega
  | ⟨1, _⟩ => show win0_6.index t 1 * 3072 + 1 * k.val = k.val; rw [idx6]; show 0 * 3072 + 1 * k.val = _; omega

theorem blk6 (t : Fin cfg0.N) (e : Fin 1024) (k : Fin 3072) :
    (iblk m c 6 t : Vec Ideal S1024x3072 .bf16) (ix2 e k) = m ((c : Thread nD τ).loc main_arg5) (ix3 0 e ⟨k.val, by omega⟩) :=
  (rd6 c (V m c main_v3) t e k).trans (wm_at m c e k)

theorem rd7 (A : Buf (Elt Ideal) ((c : Thread nD τ).loc (Pipeline.arrRef spec0 7))) (t : Fin cfg0.N) (e : Fin 1024) (k : Fin 2048) :
    (((cfg0.win 7).blk t).view.read (Elt Ideal) A : Vec Ideal S1024x2048 .bf16) (ix2 e k) = (A : Vec Ideal S1024x2048 .bf16) (ix2 e k) := by
  rw [View.read_apply]
  refine congrArg (A : Vec Ideal S1024x2048 .bf16) ?_
  funext x
  apply Fin.ext
  match x with
  | ⟨0, _⟩ => show win0_7.index t 0 * 1024 + 1 * e.val = e.val; rw [idx7]; show 0 * 1024 + 1 * e.val = _; omega
  | ⟨1, _⟩ => show win0_7.index t 1 * 2048 + 1 * k.val = k.val; rw [idx7]; show 0 * 2048 + 1 * k.val = _; omega

theorem blk7 (t : Fin cfg0.N) (e : Fin 1024) (k : Fin 2048) :
    (iblk m c 7 t : Vec Ideal S1024x2048 .bf16) (ix2 e k) = m ((c : Thread nD τ).loc main_arg5) (ix3 0 e ⟨6160 + k.val, by omega⟩) :=
  (rd7 c (V m c main_v6) t e k).trans (wg_at m c e k)

theorem rd19_l (A : Buf (Elt Ideal) ((c : Thread nD τ).loc main_v90_1)) (b : Fin 4) (i : Fin 32) (r : Fin 256) (k : Fin 4096) :
    (((cfg0.win 19).blk (pl b i)).view.read (Elt Ideal) A : Vec Ideal S1x256x4096 .bf16) (ix3 0 r k) = (A : Vec Ideal S4x8448x4096 .bf16) (ix3 b ⟨i.val * 256 + r.val, by omega⟩ k) := by
  rw [View.read_apply]
  refine congrArg (A : Vec Ideal S4x8448x4096 .bf16) ?_
  funext x
  apply Fin.ext
  match x with
  | ⟨0, _⟩ => show win0_19.index (pl b i) 0 * 1 + 1 * 0 = b.val; rw [idx19_l]; show b.val * 1 + 1 * 0 = _; omega
  | ⟨1, _⟩ => show win0_19.index (pl b i) 1 * 256 + 1 * r.val = i.val * 256 + r.val; rw [idx19_l]; show i.val * 256 + 1 * r.val = _; omega
  | ⟨2, _⟩ => show win0_19.index (pl b i) 2 * 4096 + 1 * k.val = k.val; rw [idx19_l]; show 0 * 4096 + 1 * k.val = _; omega

theorem rd19_c (A : Buf (Elt Ideal) ((c : Thread nD τ).loc main_v90_1)) (b : Fin 4) (r : Fin 256) (k : Fin 4096) :
    (((cfg0.win 19).blk (pc b)).view.read (Elt Ideal) A : Vec Ideal S1x256x4096 .bf16) (ix3 0 r k) = (A : Vec Ideal S4x8448x4096 .bf16) (ix3 b ⟨8192 + r.val, by omega⟩ k) := by
  rw [View.read_apply]
  refine congrArg (A : Vec Ideal S4x8448x4096 .bf16) ?_
  funext x
  apply Fin.ext
  match x with
  | ⟨0, _⟩ => show win0_19.index (pc b) 0 * 1 + 1 * 0 = b.val; rw [idx19_c]; show b.val * 1 + 1 * 0 = _; omega
  | ⟨1, _⟩ => show win0_19.index (pc b) 1 * 256 + 1 * r.val = 8192 + r.val; rw [idx19_c]; show 32 * 256 + 1 * r.val = _; omega
  | ⟨2, _⟩ => show win0_19.index (pc b) 2 * 4096 + 1 * k.val = k.val; rw [idx19_c]; show 0 * 4096 + 1 * k.val = _; omega

end Cert.Kernel5Ideal.Proj

end
-- ==== Proof.ProjOut.lean ====
/- What the projection's body leaves in the values and gates, read at an index. -/
module

public import proofs.«01_k».proof.Proof.Gen.Kernel5Ideal.Frame.RunB
public import proofs.«01_k».proof.Proof.ProjKer

@[expose] public section

set_option maxRecDepth 16384

noncomputable section

namespace Cert.Kernel5Ideal.Proj

open Cert.Kernel5Ideal Cert.Kernel5Ideal.Gen Cert.Math
open Idealize.ShloMosaic Idealize.ShloMosaic.TcCoe Idealize.SL.Sem

/-- The body's rows' norm. -/
def nrm (i : grid0.Coords) (x0 x3 : Vec Ideal S1x256x1024 .f32) (x4 : Vec Ideal S1x1x6144 .f32) (x5 : Vec Ideal S1x1024 .f32) : Vec Ideal S256x1024 .bf16 :=
  k0_pay14 (k0_pay7 i x0 x3) x5 (k0_pay9 x4) (k0_pay10 x4) (k0_pay11 i x0 x3)

abbrev w0 (x : Vec Ideal S1024x3072 .bf16) : Vec Ideal S1024x1024 .bf16 := View.ld x (Rect.unit (s := S1024x3072) ![0, 1024] ![1024, 1024] inb_S1024x3072_S1024x1024_0_1024)
abbrev w1 (x : Vec Ideal S1024x3072 .bf16) : Vec Ideal S1024x1024 .bf16 := View.ld x (Rect.unit (s := S1024x3072) ![0, 2048] ![1024, 1024] inb_S1024x3072_S1024x1024_0_2048)
abbrev w2 (x : Vec Ideal S1024x2048 .bf16) : Vec Ideal S1024x1024 .bf16 := View.ld x (Rect.unit (s := S1024x2048) ![0, 0] ![1024, 1024] inb_S1024x2048_S1024x1024_0_0)
abbrev w3 (x : Vec Ideal S1024x2048 .bf16) : Vec Ideal S1024x1024 .bf16 := View.ld x (Rect.unit (s := S1024x2048) ![0, 1024] ![1024, 1024] inb_S1024x2048_S1024x1024_0_1024)

/-- The four stores, the last first. -/
abbrev pieces (n : Vec Ideal S256x1024 .bf16) (x6 : Vec Ideal S1024x3072 .bf16) (x7 : Vec Ideal S1024x2048 .bf16) : List (View.Piece (Elt Ideal) S1x256x4096 .bf16) :=
  [⟨Rect.unit ![0, 0, 3072] ![1, 256, 1024] inb_S1x256x4096_S1x256x1024_0_0_3072, k0_pay68 n (w3 x7)⟩,
   ⟨Rect.unit ![0, 0, 2048] ![1, 256, 1024] inb_S1x256x4096_S1x256x1024_0_0_2048, k0_pay52 (k0_pay51 n (w2 x7))⟩,
   ⟨Rect.unit ![0, 0, 1024] ![1, 256, 1024] inb_S1x256x4096_S1x256x1024_0_0_1024, k0_pay37 n (w1 x6)⟩,
   ⟨Rect.unit ![0, 0, 0] ![1, 256, 1024] inb_S1x256x4096_S1x256x1024_0_0_0, k0_pay25 n (w0 x6)⟩]

/-- The norm's rows are loaded back as stored: the halo's rows lie past them. -/
theorem head_eq (v : View sig .tc .vmem S272x1024 .bf16) (h : Vec Ideal S16x1024 .bf16) (n : Vec Ideal S256x1024 .bf16) :
    v.readCov (Val := Elt Ideal) [⟨Rect.unit ![256, 0] ![16, 1024] inb_S272x1024_S16x1024_256_0, h⟩, ⟨Rect.unit ![0, 0] ![256, 1024] inb_S272x1024_S256x1024_0_0, n⟩]
      (Rect.unit (s := S272x1024) ![0, 0] ![256, 1024] inb_S272x1024_S256x1024_0_0).toLoadRect = n := by
  rw [View.readCov_eq_canon']
  funext j
  rw [View.canon_cons_of_not_mem _ _ (Rect.not_mem_set_of_axis _ _ 0 256 16 rfl rfl rfl (.inl (by
    show 0 + 1 * (j 0).val < 256
    have : (j 0).val < 256 := (j 0).isLt
    omega)))]
  exact View.canon_cons_emb _ _ _ _

theorem w0_at (x : Vec Ideal S1024x3072 .bf16) (e k : Fin 1024) : w0 x (ix2 e k) = x (ix2 e ⟨1024 + k.val, by omega⟩) := by
  refine congrArg x ?_
  funext a
  apply Fin.ext
  match a with
  | ⟨0, _⟩ => show 0 + 1 * e.val = e.val; omega
  | ⟨1, _⟩ => show 1024 + 1 * k.val = 1024 + k.val; omega

theorem w1_at (x : Vec Ideal S1024x3072 .bf16) (e k : Fin 1024) : w1 x (ix2 e k) = x (ix2 e ⟨2048 + k.val, by omega⟩) := by
  refine congrArg x ?_
  funext a
  apply Fin.ext
  match a with
  | ⟨0, _⟩ => show 0 + 1 * e.val = e.val; omega
  | ⟨1, _⟩ => show 2048 + 1 * k.val = 2048 + k.val; omega

theorem w2_at (x : Vec Ideal S1024x2048 .bf16) (e k : Fin 1024) : w2 x (ix2 e k) = x (ix2 e ⟨k.val, by omega⟩) := by
  refine congrArg x ?_
  funext a
  apply Fin.ext
  match a with
  | ⟨0, _⟩ => show 0 + 1 * e.val = e.val; omega
  | ⟨1, _⟩ => show 0 + 1 * k.val = k.val; omega

theorem w3_at (x : Vec Ideal S1024x2048 .bf16) (e k : Fin 1024) : w3 x (ix2 e k) = x (ix2 e ⟨1024 + k.val, by omega⟩) := by
  refine congrArg x ?_
  funext a
  apply Fin.ext
  match a with
  | ⟨0, _⟩ => show 0 + 1 * e.val = e.val; omega
  | ⟨1, _⟩ => show 1024 + 1 * k.val = 1024 + k.val; omega

theorem piece0_at (v : View sig .tc .vmem S1x256x4096 .bf16) (f) (n : Vec Ideal S256x1024 .bf16) (x6 : Vec Ideal S1024x3072 .bf16) (x7 : Vec Ideal S1024x2048 .bf16) (r : Fin 256) (k : Fin 1024) :
    v.read (Elt Ideal) (v.writes (Elt Ideal) f (pieces n x6 x7)) (ix3 0 r ⟨k.val, by omega⟩) = ∑ e, n (ix2 r e) * x6 (ix2 e ⟨1024 + k.val, by omega⟩) := by
  rw [View.read_writes_cons_miss_of_axis (a := 2) (o := 3072) (n := 1024) _ _ _ _ _ rfl rfl rfl (.inl (by show k.val < 3072; omega))]
  rw [View.read_writes_cons_miss_of_axis (a := 2) (o := 2048) (n := 1024) _ _ _ _ _ rfl rfl rfl (.inl (by show k.val < 2048; omega))]
  rw [View.read_writes_cons_miss_of_axis (a := 2) (o := 1024) (n := 1024) _ _ _ _ _ rfl rfl rfl (.inl (by show k.val < 1024; omega))]
  rw [View.read_writes_cons_hit_of_coords (x := (ix3 0 r k : S1x256x1024.Idx)) _ _ _ _ _ _ (fun a => by
    match a with
    | ⟨0, _⟩ => show 0 = 0 + 1 * 0; omega
    | ⟨1, _⟩ => show r.val = 0 + 1 * r.val; omega
    | ⟨2, _⟩ => show k.val = 0 + 1 * k.val; omega)]
  rw [p0_at]
  exact Finset.sum_congr rfl fun e _ => by rw [w0_at]

theorem piece1_at (v : View sig .tc .vmem S1x256x4096 .bf16) (f) (n : Vec Ideal S256x1024 .bf16) (x6 : Vec Ideal S1024x3072 .bf16) (x7 : Vec Ideal S1024x2048 .bf16) (r : Fin 256) (k : Fin 1024) :
    v.read (Elt Ideal) (v.writes (Elt Ideal) f (pieces n x6 x7)) (ix3 0 r ⟨1024 + k.val, by omega⟩) = ∑ e, n (ix2 r e) * x6 (ix2 e ⟨2048 + k.val, by omega⟩) := by
  rw [View.read_writes_cons_miss_of_axis (a := 2) (o := 3072) (n := 1024) _ _ _ _ _ rfl rfl rfl (.inl (by show 1024 + k.val < 3072; omega))]
  rw [View.read_writes_cons_miss_of_axis (a := 2) (o := 2048) (n := 1024) _ _ _ _ _ rfl rfl rfl (.inl (by show 1024 + k.val < 2048; omega))]
  rw [View.read_writes_cons_hit_of_coords (x := (ix3 0 r k : S1x256x1024.Idx)) _ _ _ _ _ _ (fun a => by
    match a with
    | ⟨0, _⟩ => show 0 = 0 + 1 * 0; omega
    | ⟨1, _⟩ => show r.val = 0 + 1 * r.val; omega
    | ⟨2, _⟩ => show 1024 + k.val = 1024 + 1 * k.val; omega)]
  rw [p1_at]
  exact Finset.sum_congr rfl fun e _ => by rw [w1_at]

theorem piece2_at (v : View sig .tc .vmem S1x256x4096 .bf16) (f) (n : Vec Ideal S256x1024 .bf16) (x6 : Vec Ideal S1024x3072 .bf16) (x7 : Vec Ideal S1024x2048 .bf16) (r : Fin 256) (k : Fin 1024) :
    v.read (Elt Ideal) (v.writes (Elt Ideal) f (pieces n x6 x7)) (ix3 0 r ⟨2048 + k.val, by omega⟩) = ∑ e, n (ix2 r e) * x7 (ix2 e ⟨k.val, by omega⟩) := by
  rw [View.read_writes_cons_miss_of_axis (a := 2) (o := 3072) (n := 1024) _ _ _ _ _ rfl rfl rfl (.inl (by show 2048 + k.val < 3072; omega))]
  rw [View.read_writes_cons_hit_of_coords (x := (ix3 0 r k : S1x256x1024.Idx)) _ _ _ _ _ _ (fun a => by
    match a with
    | ⟨0, _⟩ => show 0 = 0 + 1 * 0; omega
    | ⟨1, _⟩ => show r.val = 0 + 1 * r.val; omega
    | ⟨2, _⟩ => show 2048 + k.val = 2048 + 1 * k.val; omega)]
  rw [p2_at]
  exact Finset.sum_congr rfl fun e _ => by rw [w2_at]

theorem piece3_at (v : View sig .tc .vmem S1x256x4096 .bf16) (f) (n : Vec Ideal S256x1024 .bf16) (x6 : Vec Ideal S1024x3072 .bf16) (x7 : Vec Ideal S1024x2048 .bf16) (r : Fin 256) (k : Fin 1024) :
    v.read (Elt Ideal) (v.writes (Elt Ideal) f (pieces n x6 x7)) (ix3 0 r ⟨3072 + k.val, by omega⟩) = ∑ e, n (ix2 r e) * x7 (ix2 e ⟨1024 + k.val, by omega⟩) := by
  rw [View.read_writes_cons_hit_of_coords (x := (ix3 0 r k : S1x256x1024.Idx)) _ _ _ _ _ _ (fun a => by
    match a with
    | ⟨0, _⟩ => show 0 = 0 + 1 * 0; omega
    | ⟨1, _⟩ => show r.val = 0 + 1 * r.val; omega
    | ⟨2, _⟩ => show 3072 + k.val = 3072 + 1 * k.val; omega)]
  rw [p3_at]
  exact Finset.sum_congr rfl fun e _ => by rw [w3_at]

theorem list_A (c : Dev nD) (i : grid0.Coords) (arg1 : Memref sig .tc .vmem S1x256x1024 .f32) (harg1 : arg1.IsWhole) (arg2 : Memref sig .tc .vmem S1x8x1024 .f32) (harg2 : arg2.IsWhole) (arg3 : Memref sig .tc .vmem S1x8x1024 .f32) (harg3 : arg3.IsWhole) (arg4 : Memref sig .tc .vmem S1x256x1024 .f32) (harg4 : arg4.IsWhole) (arg5 : Memref sig .tc .vmem S1x1x6144 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S1024x2048 .bf16) (harg8 : arg8.IsWhole) (arg9 : Memref sig .tc .vmem S1024x3072 .bf16) (harg9 : arg9.IsWhole) (arg10 : Memref sig .tc .vmem S1024x256 .bf16) (harg10 : arg10.IsWhole) (arg11 : Memref sig .tc .vmem S1x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S256x256 .bf16) (harg16 : arg16.IsWhole) (arg17 : Memref sig .tc .vmem S8x1024 .f32) (harg17 : arg17.IsWhole) (arg18 : Memref sig .tc .vmem S1x1024 .f32) (harg18 : arg18.IsWhole) (arg19 : Memref sig .tc .vmem S1x256x1024 .bf16) (harg19 : arg19.IsWhole) (arg20 : Memref sig .tc .vmem S1x256x4096 .bf16) (harg20 : arg20.IsWhole) (arg21 : Memref sig .tc .vmem S1x1024x256 .bf16) (harg21 : arg21.IsWhole) (arg22 : Memref sig .tc .vmem S1x256x1024 .bf16) (harg22 : arg22.IsWhole) (arg23 : Memref sig .tc .vmem S1x1152x256 .bf16) (harg23 : arg23.IsWhole) (arg24 : Memref sig .tc .vmem S1x256x128 .f32) (harg24 : arg24.IsWhole) (arg25 : Memref sig .tc .vmem S1x1x16x256 .f32) (harg25 : arg25.IsWhole) (arg26 : Memref sig .tc .vmem S272x1024 .f32) (harg26 : arg26.IsWhole) (arg27 : Memref sig .tc .vmem S256x1024 .f32) (harg27 : arg27.IsWhole) (arg28 : Memref sig .tc .vmem S256x1024 .f32) (harg28 : arg28.IsWhole) (arg29 : Memref sig .tc .vmem S256x1024 .f32) (harg29 : arg29.IsWhole) (arg30 : Memref sig .tc .vmem S256x128 .f32) (harg30 : arg30.IsWhole) (arg31 : Memref sig .tc .vmem S272x1024 .bf16) (harg31 : arg31.IsWhole) (arg32 : Memref sig .tc .vmem S256x1024 .bf16) (harg32 : arg32.IsWhole) (hc0 : cond0_0 i)
    (x0 : Vec Ideal S1x256x1024 .f32) (x1 : Vec Ideal S1x8x1024 .f32) (x2 : Vec Ideal S1x8x1024 .f32) (x3 : Vec Ideal S1x256x1024 .f32) (x4 : Vec Ideal S1x1x6144 .f32) (x5 : Vec Ideal S1x1024 .f32) (x6 : Vec Ideal S1024x3072 .bf16) (x7 : Vec Ideal S1024x2048 .bf16) (x8 : Vec Ideal S1024x3072 .bf16) (x9 : Vec Ideal S1024x256 .bf16) (x10 : Vec Ideal S1x128 .f32) (x11 : Vec Ideal S256x128 .f32) (x12 : Vec Ideal S256x128 .f32) (x13 : Vec Ideal S1x128 .f32) (x14 : Vec Ideal S1x128 .f32) (x15 : Vec Ideal S256x256 .bf16) (x16 : Vec Ideal S8x1024 .f32) (x17 : Vec Ideal S1x1024 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17).2.1 = pieces (nrm i x0 x3 x4 x5) x6 x7 := by
  unfold kernelRun0_A
  dsimp only
  sl_unfold_words
  simp only [View.readAt_eq_ld, harg1.read_unread, harg4.read_unread, harg5.read_unread, harg6.read_unread, harg7.read_unread, harg8.read_unread]
  repeat first | rw [View.ld_unit_zero zero3] | rw [View.ld_unit_zero zero2]
  rw [head_eq]
  rfl

theorem list_B (c : Dev nD) (i : grid0.Coords) (arg1 : Memref sig .tc .vmem S1x256x1024 .f32) (harg1 : arg1.IsWhole) (arg2 : Memref sig .tc .vmem S1x8x1024 .f32) (harg2 : arg2.IsWhole) (arg3 : Memref sig .tc .vmem S1x8x1024 .f32) (harg3 : arg3.IsWhole) (arg4 : Memref sig .tc .vmem S1x256x1024 .f32) (harg4 : arg4.IsWhole) (arg5 : Memref sig .tc .vmem S1x1x6144 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S1024x2048 .bf16) (harg8 : arg8.IsWhole) (arg9 : Memref sig .tc .vmem S1024x3072 .bf16) (harg9 : arg9.IsWhole) (arg10 : Memref sig .tc .vmem S1024x256 .bf16) (harg10 : arg10.IsWhole) (arg11 : Memref sig .tc .vmem S1x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S256x256 .bf16) (harg16 : arg16.IsWhole) (arg17 : Memref sig .tc .vmem S8x1024 .f32) (harg17 : arg17.IsWhole) (arg18 : Memref sig .tc .vmem S1x1024 .f32) (harg18 : arg18.IsWhole) (arg19 : Memref sig .tc .vmem S1x256x1024 .bf16) (harg19 : arg19.IsWhole) (arg20 : Memref sig .tc .vmem S1x256x4096 .bf16) (harg20 : arg20.IsWhole) (arg21 : Memref sig .tc .vmem S1x1024x256 .bf16) (harg21 : arg21.IsWhole) (arg22 : Memref sig .tc .vmem S1x256x1024 .bf16) (harg22 : arg22.IsWhole) (arg23 : Memref sig .tc .vmem S1x1152x256 .bf16) (harg23 : arg23.IsWhole) (arg24 : Memref sig .tc .vmem S1x256x128 .f32) (harg24 : arg24.IsWhole) (arg25 : Memref sig .tc .vmem S1x1x16x256 .f32) (harg25 : arg25.IsWhole) (arg26 : Memref sig .tc .vmem S272x1024 .f32) (harg26 : arg26.IsWhole) (arg27 : Memref sig .tc .vmem S256x1024 .f32) (harg27 : arg27.IsWhole) (arg28 : Memref sig .tc .vmem S256x1024 .f32) (harg28 : arg28.IsWhole) (arg29 : Memref sig .tc .vmem S256x1024 .f32) (harg29 : arg29.IsWhole) (arg30 : Memref sig .tc .vmem S256x128 .f32) (harg30 : arg30.IsWhole) (arg31 : Memref sig .tc .vmem S272x1024 .bf16) (harg31 : arg31.IsWhole) (arg32 : Memref sig .tc .vmem S256x1024 .bf16) (harg32 : arg32.IsWhole) (hc0 : ¬cond0_0 i)
    (x0 : Vec Ideal S1x256x1024 .f32) (x1 : Vec Ideal S1x8x1024 .f32) (x2 : Vec Ideal S1x8x1024 .f32) (x3 : Vec Ideal S1x256x1024 .f32) (x4 : Vec Ideal S1x1x6144 .f32) (x5 : Vec Ideal S1x1024 .f32) (x6 : Vec Ideal S1024x3072 .bf16) (x7 : Vec Ideal S1024x2048 .bf16) (x8 : Vec Ideal S1024x3072 .bf16) (x9 : Vec Ideal S1024x256 .bf16) (x10 : Vec Ideal S1x128 .f32) (x11 : Vec Ideal S256x128 .f32) (x12 : Vec Ideal S256x128 .f32) (x13 : Vec Ideal S1x128 .f32) (x14 : Vec Ideal S1x128 .f32) (x15 : Vec Ideal S256x256 .bf16) (x16 : Vec Ideal S8x1024 .f32) (x17 : Vec Ideal S1x1024 .f32) (xs0 : Vec Ideal S272x1024 .f32) (xs1 : Vec Ideal S256x1024 .f32) (xs2 : Vec Ideal S256x1024 .f32) (xs3 : Vec Ideal S256x1024 .f32) (xs4 : Vec Ideal S256x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xs0 xs1 xs2 xs3 xs4).2.1 = pieces (nrm i x0 x3 x4 x5) x6 x7 := by
  unfold kernelRun0_B
  dsimp only
  sl_unfold_words
  simp only [View.readAt_eq_ld, harg1.read_unread, harg4.read_unread, harg5.read_unread, harg6.read_unread, harg7.read_unread, harg8.read_unread]
  repeat first | rw [View.ld_unit_zero zero3] | rw [View.ld_unit_zero zero2]
  rw [head_eq]
  rfl

end Cert.Kernel5Ideal.Proj

end
-- ==== Proof.ProjRef.lean ====
/- The projection's reference read at an index: the modulated norms of the tokens and of the context, and their products. -/
module

public import proofs.«01_k».proof.Proof.Gen.Reference5Ideal.Run
public import Idealize.ShloMosaic.Lib.Pointwise
public import proofs.«01_k».proof.Proof.Layer

@[expose] public section

set_option maxRecDepth 16384

noncomputable section

namespace Cert.Reference5Ideal.Read

open Cert.Reference5Ideal Cert.Reference5Ideal.Gen Cert.Reference5Ideal.Value Cert.Math
open Idealize.ShloMosaic Idealize.ShloMosaic.TcCoe Idealize.SL.Sem

/-- The tokens' modulated norm. -/
def rX (x : FVec Ideal S4x8192x1024 .f32) (e : FVec Ideal S4x6144 .f32) (g : FVec Ideal S1x1024 .f32) : FVec Ideal S4x8192x1024 .f32 :=
  addf (mulf (mulf (mulf x (broadcastInDim S4x8192x1024 ![0, 1, 2] bcast_S4x8192x1_S4x8192x1024_0_1_2 (Host.rsqrt (addf
    (Host.divf (broadcastInDim S4x8192x1 ![0, 1] bcast_S4x8192_S4x8192x1_0_1 (Host.reduceAdd (mulf x x) (constant S_ .f32 0x00000000#32)
    reducesTo_S4x8192x1024_S4x8192_d2 h_S_)) (broadcastInDim S4x8192x1 ![] bcast_S_S4x8192x1 (constant S_ .f32 0x44800000#32)))
    (broadcastInDim S4x8192x1 ![] bcast_S_S4x8192x1 (constant S_ .f32 0x358637BD#32)))))) (broadcastInDim S4x8192x1024 ![0, 1, 2]
    bcast_S1x1x1024_S4x8192x1024_0_1_2 (broadcastInDim S1x1x1024 ![2] bcast_S1024_S1x1x1024_2 (shapeCast _ g shapeCasts_S1x1024_S1024))))
    (broadcastInDim S4x8192x1024 ![0, 1, 2] bcast_S4x1x1024_S4x8192x1024_0_1_2 (addf (broadcastInDim S4x1x1024 ![] bcast_S_S4x1x1024
    (constant S_ .f32 0x3F800000#32)) (broadcastInDim S4x1x1024 ![0, 2] bcast_S4x1024_S4x1x1024_0_2 (extractStridedSlice S4x1024 ![0, 1024]
    e slices_S4x6144_S4x1024_0_1024))))) (broadcastInDim S4x8192x1024 ![0, 1, 2] bcast_S4x1x1024_S4x8192x1024_0_1_2 (broadcastInDim
    S4x1x1024 ![0, 2] bcast_S4x1024_S4x1x1024_0_2 (extractStridedSlice S4x1024 ![0, 0] e slices_S4x6144_S4x1024_0_0)))

/-- The context's modulated norm. -/
def rC (x : FVec Ideal S4x256x1024 .f32) (e : FVec Ideal S1x6144 .f32) (g : FVec Ideal S1x1024 .f32) : FVec Ideal S4x256x1024 .f32 :=
  addf (mulf (mulf (mulf x (broadcastInDim S4x256x1024 ![0, 1, 2] bcast_S4x256x1_S4x256x1024_0_1_2 (Host.rsqrt (addf (Host.divf
    (broadcastInDim S4x256x1 ![0, 1] bcast_S4x256_S4x256x1_0_1 (Host.reduceAdd (mulf x x) (constant S_ .f32 0x00000000#32)
    reducesTo_S4x256x1024_S4x256_d2 h_S_)) (broadcastInDim S4x256x1 ![] bcast_S_S4x256x1 (constant S_ .f32 0x44800000#32)))
    (broadcastInDim S4x256x1 ![] bcast_S_S4x256x1 (constant S_ .f32 0x358637BD#32)))))) (broadcastInDim S4x256x1024 ![0, 1, 2]
    bcast_S1x1x1024_S4x256x1024_0_1_2 (broadcastInDim S1x1x1024 ![2] bcast_S1024_S1x1x1024_2 (shapeCast _ g shapeCasts_S1x1024_S1024))))
    (broadcastInDim S4x256x1024 ![0, 1, 2] bcast_S1x1x1024_S4x256x1024_0_1_2 (broadcastInDim S1x1x1024 ![2] bcast_S1024_S1x1x1024_2 (addf
    (broadcastInDim S1024 ![] bcast_S_S1024 (constant S_ .f32 0x3F800000#32)) (extractStridedSlice S1024 ![1024] (shapeCast _ e
    shapeCasts_S1x6144_S6144) slices_S6144_S1024_1024))))) (broadcastInDim S4x256x1024 ![0, 1, 2] bcast_S1x1x1024_S4x256x1024_0_1_2
    (broadcastInDim S1x1x1024 ![2] bcast_S1024_S1x1x1024_2 (extractStridedSlice S1024 ![0] (shapeCast _ e shapeCasts_S1x6144_S6144)
    slices_S6144_S1024_0)))

/-- The tokens' products, all columns. -/
def rD (n : FVec Ideal S4x8192x1024 .f32) (w : FVec Ideal S1x1024x8208 .f32) : FVec Ideal S4x8192x8208 .f32 :=
  Host.dotGeneral dot_S4x8192x1024_S1024x8208_S4x8192x8208_2_0_01_1_n_n none n (shapeCast _ w shapeCasts_S1x1024x8208_S1024x8208)

/-- The context's products, all columns. -/
def rE (n : FVec Ideal S4x256x1024 .f32) (w : FVec Ideal S1x1024x8208 .f32) : FVec Ideal S4x256x8208 .f32 :=
  Host.dotGeneral dot_S4x256x1024_S1024x8208_S4x256x8208_2_0_01_1_n_n none n (shapeCast _ w shapeCasts_S1x1024x8208_S1024x8208)

/-- The tokens' values and gates. -/
def rP (y : FVec Ideal S4x8192x8208 .f32) : FVec Ideal S4x8192x4096 .f32 :=
  concatenate S4x8192x4096 2 [⟨S4x8192x1024, extractStridedSlice S4x8192x1024 ![0, 0, 1024] y slices_S4x8192x8208_S4x8192x1024_0_0_1024⟩,
    ⟨S4x8192x1024, extractStridedSlice S4x8192x1024 ![0, 0, 2048] y slices_S4x8192x8208_S4x8192x1024_0_0_2048⟩,
    ⟨S4x8192x1024, extractStridedSlice S4x8192x1024 ![0, 0, 6160] y slices_S4x8192x8208_S4x8192x1024_0_0_6160⟩,
    ⟨S4x8192x1024, extractStridedSlice S4x8192x1024 ![0, 0, 7184] y slices_S4x8192x8208_S4x8192x1024_0_0_7184⟩]
    concatenates_S4x8192x1024_S4x8192x1024_S4x8192x1024_S4x8192x1024_S4x8192x4096_d2

/-- The context's values and gates. -/
def rQ (y : FVec Ideal S4x256x8208 .f32) : FVec Ideal S4x256x4096 .f32 :=
  concatenate S4x256x4096 2 [⟨S4x256x1024, extractStridedSlice S4x256x1024 ![0, 0, 1024] y slices_S4x256x8208_S4x256x1024_0_0_1024⟩,
    ⟨S4x256x1024, extractStridedSlice S4x256x1024 ![0, 0, 2048] y slices_S4x256x8208_S4x256x1024_0_0_2048⟩,
    ⟨S4x256x1024, extractStridedSlice S4x256x1024 ![0, 0, 6160] y slices_S4x256x8208_S4x256x1024_0_0_6160⟩,
    ⟨S4x256x1024, extractStridedSlice S4x256x1024 ![0, 0, 7184] y slices_S4x256x8208_S4x256x1024_0_0_7184⟩]
    concatenates_S4x256x1024_S4x256x1024_S4x256x1024_S4x256x1024_S4x256x4096_d2

/-- The result. -/
def rR (p : FVec Ideal S4x8192x4096 .f32) (q : FVec Ideal S4x256x4096 .f32) : FVec Ideal S4x8448x4096 .bf16 :=
  truncf .bf16 (concatenate S4x8448x4096 1 [⟨S4x8192x4096, p⟩, ⟨S4x256x4096, q⟩] concatenates_S4x8192x4096_S4x256x4096_S4x8448x4096_d1) bitsLt_bf16_f32

/-- The attention's values of a head: the tokens', then the context's. -/
def rV (y : FVec Ideal S4x8192x8208 .f32) (y' : FVec Ideal S4x256x8208 .f32) : FVec Ideal S4x8x8448x128 .f32 :=
  concatenate S4x8x8448x128 2 [⟨S4x8x8192x128, transpose S4x8x8192x128 [0, 2, 1, 3] (shapeCast _ (extractStridedSlice S4x8192x1024 ![0, 0, 5136] y
    slices_S4x8192x8208_S4x8192x1024_0_0_5136) shapeCasts_S4x8192x1024_S4x8192x8x128) transposes_S4x8192x8x128_S4x8x8192x128_0_2_1_3⟩,
    ⟨S4x8x256x128, transpose S4x8x256x128 [0, 2, 1, 3] (shapeCast _ (extractStridedSlice S4x256x1024 ![0, 0, 5136] y'
    slices_S4x256x8208_S4x256x1024_0_0_5136) shapeCasts_S4x256x1024_S4x256x8x128) transposes_S4x256x8x128_S4x8x256x128_0_2_1_3⟩]
    concatenates_S4x8x8192x128_S4x8x256x128_S4x8x8448x128_d2

/-- The values' rows of a head, and under them its rows of ones. -/
def rO (v : FVec Ideal S4x8x8448x128 .f32) : FVec Ideal S4x8x144x8448 .f32 :=
  concatenate S4x8x144x8448 2 [⟨S4x8x128x8448, transpose S4x8x128x8448 [0, 1, 3, 2] v transposes_S4x8x8448x128_S4x8x128x8448_0_1_3_2⟩,
    ⟨S4x8x16x8448, broadcastInDim S4x8x16x8448 ![] bcast_S_S4x8x16x8448 (constant S_ .f32 0x3F800000#32)⟩] concatenates_S4x8x128x8448_S4x8x16x8448_S4x8x144x8448_d2

/-- The heads one under the other. -/
def rT (o : FVec Ideal S4x8x144x8448 .f32) : FVec Ideal S4x1152x8448 .bf16 :=
  truncf .bf16 (shapeCast _ o shapeCasts_S4x8x144x8448_S4x1152x8448) bitsLt_bf16_f32

theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v97)
        = rR (rP (rD (rX (m ((c.tc : Thread nD τ).loc main_arg0)) (m ((c.tc : Thread nD τ).loc main_arg2)) (m ((c.tc : Thread nD τ).loc main_arg4)))
            (m ((c.tc : Thread nD τ).loc main_arg5))))
          (rQ (rE (rC (m ((c.tc : Thread nD τ).loc main_arg1)) (m ((c.tc : Thread nD τ).loc main_arg3)) (m ((c.tc : Thread nD τ).loc main_arg4)))
            (m ((c.tc : Thread nD τ).loc main_arg5))))
      ∧ r.2.mem ((c.tc : Thread nD τ).loc main_v98)
        = rT (rO (rV (rD (rX (m ((c.tc : Thread nD τ).loc main_arg0)) (m ((c.tc : Thread nD τ).loc main_arg2)) (m ((c.tc : Thread nD τ).loc main_arg4)))
            (m ((c.tc : Thread nD τ).loc main_arg5)))
          (rE (rC (m ((c.tc : Thread nD τ).loc main_arg1)) (m ((c.tc : Thread nD τ).loc main_arg3)) (m ((c.tc : Thread nD τ).loc main_arg4)))
            (m ((c.tc : Thread nD τ).loc main_arg5)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Cert.Reference5Ideal.Value.run (F := Ideal) m ρ

theorem rX_at (x : FVec Ideal S4x8192x1024 .f32) (e : FVec Ideal S4x6144 .f32) (g : FVec Ideal S1x1024 .f32) (b : Fin 4) (s : Fin 8192) (d : Fin 1024) :
    rX x e g (ix3 b s d) = normed (fun d => x (ix3 b s d)) (fun d => g (ix2 0 d)) (fun d => e (ix2 b ⟨d.val, by omega⟩)) (fun d => e (ix2 b ⟨1024 + d.val, by omega⟩)) d := by
  unfold normed
  pointwise [rX]

theorem rC_at (x : FVec Ideal S4x256x1024 .f32) (e : FVec Ideal S1x6144 .f32) (g : FVec Ideal S1x1024 .f32) (b : Fin 4) (s : Fin 256) (d : Fin 1024) :
    rC x e g (ix3 b s d) = normed (fun d => x (ix3 b s d)) (fun d => g (ix2 0 d)) (fun d => e (ix2 0 ⟨d.val, by omega⟩)) (fun d => e (ix2 0 ⟨1024 + d.val, by omega⟩)) d := by
  unfold normed
  pointwise [rC]

theorem rD_at (n : FVec Ideal S4x8192x1024 .f32) (w : FVec Ideal S1x1024x8208 .f32) (b : Fin 4) (s : Fin 8192) (k : Fin 8208) :
    rD n w (ix3 b s k) = ∑ e, n (ix3 b s e) * w (ix3 0 e k) := by
  pointwise [rD]

theorem rE_at (n : FVec Ideal S4x256x1024 .f32) (w : FVec Ideal S1x1024x8208 .f32) (b : Fin 4) (s : Fin 256) (k : Fin 8208) :
    rE n w (ix3 b s k) = ∑ e, n (ix3 b s e) * w (ix3 0 e k) := by
  pointwise [rE]

/-- Where a quarter's columns start in the weights. -/
def at4 (q : Fin 4) : ℕ := ![1024, 2048, 6160, 7184] q

theorem at4_lt (q : Fin 4) (k : Fin 1024) : at4 q + k.val < 8208 := by
  match q with
  | 0 => show 1024 + k.val < 8208; omega
  | 1 => show 2048 + k.val < 8208; omega
  | 2 => show 6160 + k.val < 8208; omega
  | 3 => show 7184 + k.val < 8208; omega

theorem rP0 (y : FVec Ideal S4x8192x8208 .f32) (b : Fin 4) (s : Fin 8192) (k : Fin 1024) : rP y (ix3 b s ⟨0 + k.val, by omega⟩) = y (ix3 b s ⟨1024 + k.val, by omega⟩) := by
  pointwise [rP]
theorem rP1 (y : FVec Ideal S4x8192x8208 .f32) (b : Fin 4) (s : Fin 8192) (k : Fin 1024) : rP y (ix3 b s ⟨1024 + k.val, by omega⟩) = y (ix3 b s ⟨2048 + k.val, by omega⟩) := by
  pointwise [rP]
theorem rP2 (y : FVec Ideal S4x8192x8208 .f32) (b : Fin 4) (s : Fin 8192) (k : Fin 1024) : rP y (ix3 b s ⟨2048 + k.val, by omega⟩) = y (ix3 b s ⟨6160 + k.val, by omega⟩) := by
  pointwise [rP]
  rw [dif_neg (by omega), dif_neg (by omega), dif_pos (by omega)]
  exact congrArg (fun t => y (ix3 b s t)) (Fin.ext (by show 6160 + (2048 + k.val - 1024 - 1024) = 6160 + k.val; omega))
theorem rP3 (y : FVec Ideal S4x8192x8208 .f32) (b : Fin 4) (s : Fin 8192) (k : Fin 1024) : rP y (ix3 b s ⟨3072 + k.val, by omega⟩) = y (ix3 b s ⟨7184 + k.val, by omega⟩) := by
  pointwise [rP]
  rw [dif_neg (by omega), dif_neg (by omega), dif_neg (by omega)]
  exact congrArg (fun t => y (ix3 b s t)) (Fin.ext (by show 7184 + (3072 + k.val - 1024 - 1024 - 1024) = 7184 + k.val; omega))

/-- A quarter of the tokens' columns. -/
theorem rP_at (y : FVec Ideal S4x8192x8208 .f32) (b : Fin 4) (s : Fin 8192) (k : Fin 1024) (q : Fin 4) : rP y (ix3 b s ⟨1024 * q.val + k.val, by omega⟩) = y (ix3 b s ⟨at4 q + k.val, at4_lt q k⟩) := by
  match q with
  | 0 => exact rP0 y b s k
  | 1 => exact rP1 y b s k
  | 2 => exact rP2 y b s k
  | 3 => exact rP3 y b s k

theorem rQ0 (y : FVec Ideal S4x256x8208 .f32) (b : Fin 4) (s : Fin 256) (k : Fin 1024) : rQ y (ix3 b s ⟨0 + k.val, by omega⟩) = y (ix3 b s ⟨1024 + k.val, by omega⟩) := by
  pointwise [rQ]
theorem rQ1 (y : FVec Ideal S4x256x8208 .f32) (b : Fin 4) (s : Fin 256) (k : Fin 1024) : rQ y (ix3 b s ⟨1024 + k.val, by omega⟩) = y (ix3 b s ⟨2048 + k.val, by omega⟩) := by
  pointwise [rQ]
theorem rQ2 (y : FVec Ideal S4x256x8208 .f32) (b : Fin 4) (s : Fin 256) (k : Fin 1024) : rQ y (ix3 b s ⟨2048 + k.val, by omega⟩) = y (ix3 b s ⟨6160 + k.val, by omega⟩) := by
  pointwise [rQ]
  rw [dif_neg (by omega), dif_neg (by omega), dif_pos (by omega)]
  exact congrArg (fun t => y (ix3 b s t)) (Fin.ext (by show 6160 + (2048 + k.val - 1024 - 1024) = 6160 + k.val; omega))
theorem rQ3 (y : FVec Ideal S4x256x8208 .f32) (b : Fin 4) (s : Fin 256) (k : Fin 1024) : rQ y (ix3 b s ⟨3072 + k.val, by omega⟩) = y (ix3 b s ⟨7184 + k.val, by omega⟩) := by
  pointwise [rQ]
  rw [dif_neg (by omega), dif_neg (by omega), dif_neg (by omega)]
  exact congrArg (fun t => y (ix3 b s t)) (Fin.ext (by show 7184 + (3072 + k.val - 1024 - 1024 - 1024) = 7184 + k.val; omega))

/-- A quarter of the context's columns. -/
theorem rQ_at (y : FVec Ideal S4x256x8208 .f32) (b : Fin 4) (s : Fin 256) (k : Fin 1024) (q : Fin 4) : rQ y (ix3 b s ⟨1024 * q.val + k.val, by omega⟩) = y (ix3 b s ⟨at4 q + k.val, at4_lt q k⟩) := by
  match q with
  | 0 => exact rQ0 y b s k
  | 1 => exact rQ1 y b s k
  | 2 => exact rQ2 y b s k
  | 3 => exact rQ3 y b s k

theorem rR_lo (p : FVec Ideal S4x8192x4096 .f32) (q : FVec Ideal S4x256x4096 .f32) (b : Fin 4) (s : Fin 8192) (k : Fin 4096) :
    rR p q (ix3 b ⟨s.val, by omega⟩ k) = p (ix3 b s k) := by
  pointwise [rR]
theorem rR_hi (p : FVec Ideal S4x8192x4096 .f32) (q : FVec Ideal S4x256x4096 .f32) (b : Fin 4) (s : Fin 256) (k : Fin 4096) :
    rR p q (ix3 b ⟨8192 + s.val, by omega⟩ k) = q (ix3 b s k) := by
  pointwise [rR]

/-- A head's lane. -/
theorem rV_lo (y : FVec Ideal S4x8192x8208 .f32) (y' : FVec Ideal S4x256x8208 .f32) (b : Fin 4) (h : Fin 8) (s : Fin 8192) (e : Fin 128) :
    rV y y' (ix4 b h ⟨s.val, by omega⟩ e) = y (ix3 b s ⟨5136 + (h.val * 128 + e.val), by omega⟩) := by
  pointwise [rV]

theorem rV_hi (y : FVec Ideal S4x8192x8208 .f32) (y' : FVec Ideal S4x256x8208 .f32) (b : Fin 4) (h : Fin 8) (s : Fin 256) (e : Fin 128) :
    rV y y' (ix4 b h ⟨8192 + s.val, by omega⟩ e) = y' (ix3 b s ⟨5136 + (h.val * 128 + e.val), by omega⟩) := by
  pointwise [rV]

theorem rO_v (v : FVec Ideal S4x8x8448x128 .f32) (b : Fin 4) (h : Fin 8) (e : Fin 128) (s : Fin 8448) :
    rO v (ix4 b h ⟨e.val, by omega⟩ s) = v (ix4 b h s e) := by
  pointwise [rO]

theorem rO_o (v : FVec Ideal S4x8x8448x128 .f32) (b : Fin 4) (h : Fin 8) (e : Fin 16) (s : Fin 8448) :
    rO v (ix4 b h ⟨128 + e.val, by omega⟩ s) = 1 := by
  pointwise [rO]

theorem rT_at (o : FVec Ideal S4x8x144x8448 .f32) (b : Fin 4) (h : Fin 8) (e : Fin 144) (s : Fin 8448) :
    rT o (ix3 b ⟨144 * h.val + e.val, by omega⟩ s) = o (ix4 b h e s) := by
  pointwise [rT]

end Cert.Reference5Ideal.Read

end
-- ==== Proof.ProjEq.lean ====
/- The projection body's stores are the reference's values and gates. -/
module

public import proofs.«01_k».proof.Proof.ProjHost
public import proofs.«01_k».proof.Proof.ProjOut
public import proofs.«01_k».proof.Proof.ProjRef

@[expose] public section

set_option maxRecDepth 16384

noncomputable section

namespace Cert.Kernel5Ideal.Proj

open Cert.Kernel5Ideal Cert.Kernel5Ideal.Gen Cert.Math
open Cert.Reference5Ideal.Read
open Idealize.ShloMosaic Idealize.ShloMosaic.TcCoe Idealize.SL.Sem

variable (m : (ℓ : Loc nD τ sig) → Buf (Elt Ideal) ℓ) (c : Dev nD)

/-- The reference's norms of the kernel's arguments. -/
def tok : FVec Ideal S4x8192x1024 .f32 :=
  rX (m ((c.tc : Thread nD τ).loc main_arg0)) (m ((c.tc : Thread nD τ).loc main_arg2)) (m ((c.tc : Thread nD τ).loc main_arg4))
def ctx : FVec Ideal S4x256x1024 .f32 :=
  rC (m ((c.tc : Thread nD τ).loc main_arg1)) (m ((c.tc : Thread nD τ).loc main_arg3)) (m ((c.tc : Thread nD τ).loc main_arg4))

/-- The reference's result of the kernel's arguments. -/
def want : FVec Ideal S4x8448x4096 .bf16 :=
  rR (rP (rD (tok m c) (m ((c.tc : Thread nD τ).loc main_arg5)))) (rQ (rE (ctx m c) (m ((c.tc : Thread nD τ).loc main_arg5))))

theorem n_of (i : grid0.Coords) (a b : Vec Ideal S1x256x1024 .f32) (e : Vec Ideal S1x1x6144 .f32) (g : Vec Ideal S1x1024 .f32) (r : Fin 256) (X G SH SC : Fin 1024 → EReal)
    (hX : ∀ d, k0_pay7 i a b (ix2 r d) = X d) (hG : ∀ d, g (ix2 0 d) = G d) (hSH : ∀ d : Fin 1024, e (ix3 0 0 ⟨d.val, by omega⟩) = SH d)
    (hSC : ∀ d : Fin 1024, e (ix3 0 0 ⟨1024 + d.val, by omega⟩) = SC d) (d : Fin 1024) : nrm i a b e g (ix2 r d) = normed X G SH SC d := by
  unfold nrm
  rw [n_at]
  simp only [hX, hG, hSH, hSC]

theorem n_tok (b : Fin 4) (i : Fin 32) (r : Fin 256) (d : Fin 1024) :
    nrm (grid0.coords (pl b i)) (iblk m c 0 (pl b i)) (iblk m c 3 (pl b i)) (iblk m c 4 (pl b i)) (iblk m c 5 (pl b i)) (ix2 r d)
      = tok m c (ix3 b ⟨i.val * 256 + r.val, by omega⟩ d) := by
  unfold tok
  rw [rX_at]
  exact n_of _ _ _ _ _ r _ _ _ _ (fun d => (y_tok _ (bit_l b i) _ _ r d).trans (blk0 m c b i r d)) (fun d => blk5 m c _ d) (fun d => blk4_l m c b i _) (fun d => blk4_l m c b i _) d

theorem n_ctx (b : Fin 4) (r : Fin 256) (d : Fin 1024) :
    nrm (grid0.coords (pc b)) (iblk m c 0 (pc b)) (iblk m c 3 (pc b)) (iblk m c 4 (pc b)) (iblk m c 5 (pc b)) (ix2 r d) = ctx m c (ix3 b r d) := by
  unfold ctx
  rw [rC_at]
  exact n_of _ _ _ _ _ r _ _ _ _ (fun d => (y_ctx _ (bit_c b) _ _ r d).trans (blk3 m c b r d)) (fun d => blk5 m c _ d) (fun d => blk4_c m c b _) (fun d => blk4_c m c b _) d

/-- The four stores at once. -/
theorem piece_at (t : Fin cfg0.N) (v : View sig .tc .vmem S1x256x4096 .bf16) (f) (n : Vec Ideal S256x1024 .bf16) (r : Fin 256) (N : Fin 1024 → EReal) (hN : ∀ e, n (ix2 r e) = N e)
    (k : Fin 1024) (q : Fin 4) :
    v.read (Elt Ideal) (v.writes (Elt Ideal) f (pieces n (iblk m c 6 t) (iblk m c 7 t))) (ix3 0 r ⟨1024 * q.val + k.val, by omega⟩)
      = ∑ e, N e * m ((c.tc : Thread nD τ).loc main_arg5) (ix3 0 e ⟨at4 q + k.val, at4_lt q k⟩) := by
  match q with
  | 0 =>
    refine (congrArg (fun j => v.read (Elt Ideal) (v.writes (Elt Ideal) f (pieces n (iblk m c 6 t) (iblk m c 7 t))) (ix3 0 r j)) (Fin.ext (by show 1024 * 0 + k.val = k.val; omega))).trans
      ((piece0_at v f n _ _ r k).trans (Finset.sum_congr rfl fun e _ => ?_))
    exact congrArg₂ (· * ·) (hN e) (blk6 m c t e _)
  | 1 =>
    refine (piece1_at v f n _ _ r k).trans (Finset.sum_congr rfl fun e _ => ?_)
    exact congrArg₂ (· * ·) (hN e) (blk6 m c t e _)
  | 2 =>
    refine (piece2_at v f n _ _ r k).trans (Finset.sum_congr rfl fun e _ => ?_)
    exact congrArg₂ (· * ·) (hN e) (blk7 m c t e _)
  | 3 =>
    refine (piece3_at v f n _ _ r k).trans (Finset.sum_congr rfl fun e _ => ?_)
    refine congrArg₂ (· * ·) (hN e) ((blk7 m c t e _).trans (congrArg (fun j => m ((c.tc : Thread nD τ).loc main_arg5) (ix3 0 e j)) (Fin.ext ?_)))
    show 6160 + (1024 + k.val) = 7184 + k.val
    omega

theorem tok_at (v : View sig .tc .vmem S1x256x4096 .bf16) (f) (b : Fin 4) (i : Fin 32) (r : Fin 256) (k : Fin 1024) (q : Fin 4) :
    v.read (Elt Ideal) (v.writes (Elt Ideal) f (pieces (nrm (grid0.coords (pl b i)) (iblk m c 0 (pl b i)) (iblk m c 3 (pl b i)) (iblk m c 4 (pl b i)) (iblk m c 5 (pl b i)))
        (iblk m c 6 (pl b i)) (iblk m c 7 (pl b i)))) (ix3 0 r ⟨1024 * q.val + k.val, by omega⟩)
      = want m c (ix3 b ⟨i.val * 256 + r.val, by omega⟩ ⟨1024 * q.val + k.val, by omega⟩) := by
  refine (piece_at m c _ v f _ r _ (fun e => n_tok m c b i r e) k q).trans ?_
  unfold want
  refine Eq.symm ((rR_lo _ _ b ⟨i.val * 256 + r.val, by omega⟩ _).trans ?_)
  rw [rP_at, rD_at]

theorem ctx_at (v : View sig .tc .vmem S1x256x4096 .bf16) (f) (b : Fin 4) (r : Fin 256) (k : Fin 1024) (q : Fin 4) :
    v.read (Elt Ideal) (v.writes (Elt Ideal) f (pieces (nrm (grid0.coords (pc b)) (iblk m c 0 (pc b)) (iblk m c 3 (pc b)) (iblk m c 4 (pc b)) (iblk m c 5 (pc b)))
        (iblk m c 6 (pc b)) (iblk m c 7 (pc b)))) (ix3 0 r ⟨1024 * q.val + k.val, by omega⟩)
      = want m c (ix3 b ⟨8192 + r.val, by omega⟩ ⟨1024 * q.val + k.val, by omega⟩) := by
  refine (piece_at m c _ v f _ r _ (fun e => n_ctx m c b r e) k q).trans ?_
  unfold want
  refine Eq.symm ((rR_hi _ _ b r _).trans ?_)
  rw [rQ_at, rE_at]

/-- Two points that write back write distinct blocks. -/
theorem idx_inj : ∀ t t' : Fin cfg0.N, (cfg0.win 19).flush t = true → (cfg0.win 19).flush t' = true → win0_19.index t = win0_19.index t' → t = t' := by
  decide +kernel

end Cert.Kernel5Ideal.Proj

end
-- ==== Proof.ProjVtHost.lean ====
/- The blocks that the attention's values need, read at an index in the arguments. -/
module

public import proofs.«01_k».proof.Proof.ProjEq

@[expose] public section

set_option maxRecDepth 16384

noncomputable section

namespace Cert.Kernel5Ideal.Proj

open Cert.Kernel5Ideal Cert.Kernel5Ideal.Gen Cert.Math
open Cert.Reference5Ideal.Read
open Idealize.ShloMosaic Idealize.ShloMosaic.TcCoe Idealize.SL.Sem

variable (m : (ℓ : Loc nD τ sig) → Buf (Elt Ideal) ℓ) (c : Dev nD)

theorem wv_at (e k : Fin 1024) : V m c main_v26 (ix2 e ⟨2048 + k.val, by omega⟩) = m ((c : Thread nD τ).loc main_arg5) (ix3 0 e ⟨5136 + k.val, by omega⟩) := by
  unfold V
  after_reads_at
  rw [dif_neg (by omega), dif_neg (by omega)]
  after_reads_at
  refine congrArg (fun j => m ((c : Thread nD τ).loc main_arg5) (ix3 0 e j)) (Fin.ext ?_)
  show 5136 + (2048 + k.val - 1024 - 1024) = 5136 + k.val
  omega

/-- The grid point of batch `b`'s context, and the points after the tokens' and after the context's. -/
def pk (b : Fin 4) : Fin cfg0.N := ⟨b.val * 33 + 32, by show b.val * 33 + 32 < 133; omega⟩
def nl (b : Fin 4) (i : Fin 32) : Fin cfg0.N := ⟨b.val * 33 + i.val + 1, by show b.val * 33 + i.val + 1 < 133; omega⟩
def nk (b : Fin 4) : Fin cfg0.N := ⟨b.val * 33 + 32 + 1, by show b.val * 33 + 32 + 1 < 133; omega⟩

theorem bit_k : ∀ (b : Fin 4), bit (grid0.coords (pk b)) = 0#1 := by decide +kernel
theorem idx3_k : ∀ (b : Fin 4), win0_3.index (pk b) = ![b.val, 0, 0] := by decide +kernel
theorem idx4_k : ∀ (b : Fin 4), win0_4.index (pk b) = ![4, 0, 0] := by decide +kernel
theorem idx8 : ∀ t : Fin cfg0.N, win0_8.index t = ![0, 0] := by decide +kernel
theorem idx22_l : ∀ (b : Fin 4) (i : Fin 32), win0_22.index (nl b i) = ![b.val, 0, i.val] := by decide +kernel
theorem idx22_k : ∀ (b : Fin 4), win0_22.index (nk b) = ![b.val, 0, 32] := by decide +kernel
theorem flush22_l : ∀ (b : Fin 4) (i : Fin 32), (cfg0.win 22).flush (nl b i) = true := by decide +kernel
theorem flush22_k : ∀ (b : Fin 4), (cfg0.win 22).flush (nk b) = true := by decide +kernel

/-- Two points that write back write distinct blocks. -/
theorem idx22_inj : ∀ t t' : Fin cfg0.N, (cfg0.win 22).flush t = true → (cfg0.win 22).flush t' = true → win0_22.index t = win0_22.index t' → t = t' := by
  decide +kernel

theorem rd3_k (A : Buf (Elt Ideal) ((c : Thread nD τ).loc (Pipeline.arrRef spec0 3))) (b : Fin 4) (r : Fin 256) (d : Fin 1024) :
    (((cfg0.win 3).blk (pk b)).view.read (Elt Ideal) A : Vec Ideal S1x256x1024 .f32) (ix3 0 r d) = (A : Vec Ideal S4x256x1024 .f32) (ix3 b r d) := by
  rw [View.read_apply]
  refine congrArg (A : Vec Ideal S4x256x1024 .f32) ?_
  funext x
  apply Fin.ext
  match x with
  | ⟨0, _⟩ => show win0_3.index (pk b) 0 * 1 + 1 * 0 = b.val; rw [idx3_k]; show b.val * 1 + 1 * 0 = _; omega
  | ⟨1, _⟩ => show win0_3.index (pk b) 1 * 256 + 1 * r.val = r.val; rw [idx3_k]; show 0 * 256 + 1 * r.val = _; omega
  | ⟨2, _⟩ => show win0_3.index (pk b) 2 * 1024 + 1 * d.val = d.val; rw [idx3_k]; show 0 * 1024 + 1 * d.val = _; omega

theorem blk3_k (b : Fin 4) (r : Fin 256) (d : Fin 1024) :
    (iblk m c 3 (pk b) : Vec Ideal S1x256x1024 .f32) (ix3 0 r d) = m ((c : Thread nD τ).loc main_arg1) (ix3 b r d) :=
  (rd3_k c (V m c main_arg1) b r d).trans (congrFun (V_main_arg1 m c) _)

theorem rd4_k (A : Buf (Elt Ideal) ((c : Thread nD τ).loc (Pipeline.arrRef spec0 4))) (b : Fin 4) (e : Fin 6144) :
    (((cfg0.win 4).blk (pk b)).view.read (Elt Ideal) A : Vec Ideal S1x1x6144 .f32) (ix3 0 0 e) = (A : Vec Ideal S8x1x6144 .f32) (ix3 4 0 e) := by
  rw [View.read_apply]
  refine congrArg (A : Vec Ideal S8x1x6144 .f32) ?_
  funext x
  apply Fin.ext
  match x with
  | ⟨0, _⟩ => show win0_4.index (pk b) 0 * 1 + 1 * 0 = 4; rw [idx4_k]; show 4 * 1 + 1 * 0 = _; omega
  | ⟨1, _⟩ => show win0_4.index (pk b) 1 * 1 + 1 * 0 = 0; rw [idx4_k]; show 0 * 1 + 1 * 0 = _; omega
  | ⟨2, _⟩ => show win0_4.index (pk b) 2 * 6144 + 1 * e.val = e.val; rw [idx4_k]; show 0 * 6144 + 1 * e.val = _; omega

theorem blk4_k (b : Fin 4) (e : Fin 6144) :
    (iblk m c 4 (pk b) : Vec Ideal S1x1x6144 .f32) (ix3 0 0 e) = m ((c : Thread nD τ).loc main_arg3) (ix2 0 e) :=
  (rd4_k c (V m c main_v89) b e).trans (modc_at m c e)

theorem n_ctx_k (b : Fin 4) (r : Fin 256) (d : Fin 1024) :
    nrm (grid0.coords (pk b)) (iblk m c 0 (pk b)) (iblk m c 3 (pk b)) (iblk m c 4 (pk b)) (iblk m c 5 (pk b)) (ix2 r d) = ctx m c (ix3 b r d) := by
  unfold ctx
  rw [rC_at]
  exact n_of _ _ _ _ _ r _ _ _ _ (fun d => (y_ctx _ (bit_k b) _ _ r d).trans (blk3_k m c b r d)) (fun d => blk5 m c _ d) (fun d => blk4_k m c b _) (fun d => blk4_k m c b _) d

theorem rd8 (A : Buf (Elt Ideal) ((c : Thread nD τ).loc (Pipeline.arrRef spec0 8))) (t : Fin cfg0.N) (e : Fin 1024) (k : Fin 3072) :
    (((cfg0.win 8).blk t).view.read (Elt Ideal) A : Vec Ideal S1024x3072 .bf16) (ix2 e k) = (A : Vec Ideal S1024x3072 .bf16) (ix2 e k) := by
  rw [View.read_apply]
  refine congrArg (A : Vec Ideal S1024x3072 .bf16) ?_
  funext x
  apply Fin.ext
  match x with
  | ⟨0, _⟩ => show win0_8.index t 0 * 1024 + 1 * e.val = e.val; rw [idx8]; show 0 * 1024 + 1 * e.val = _; omega
  | ⟨1, _⟩ => show win0_8.index t 1 * 3072 + 1 * k.val = k.val; rw [idx8]; show 0 * 3072 + 1 * k.val = _; omega

theorem blk8 (t : Fin cfg0.N) (e k : Fin 1024) :
    (iblk m c 8 t : Vec Ideal S1024x3072 .bf16) (ix2 e ⟨2048 + k.val, by omega⟩) = m ((c : Thread nD τ).loc main_arg5) (ix3 0 e ⟨5136 + k.val, by omega⟩) :=
  (rd8 c (V m c main_v26) t e _).trans (wv_at m c e k)

theorem rd22_l (A : Buf (Elt Ideal) ((c : Thread nD τ).loc main_v90_4)) (b : Fin 4) (i : Fin 32) (j : Fin 1152) (r : Fin 256) :
    (((cfg0.win 22).blk (nl b i)).view.read (Elt Ideal) A : Vec Ideal S1x1152x256 .bf16) (ix3 0 j r) = (A : Vec Ideal S4x1152x8448 .bf16) (ix3 b j ⟨i.val * 256 + r.val, by omega⟩) := by
  rw [View.read_apply]
  refine congrArg (A : Vec Ideal S4x1152x8448 .bf16) ?_
  funext x
  apply Fin.ext
  match x with
  | ⟨0, _⟩ => show win0_22.index (nl b i) 0 * 1 + 1 * 0 = b.val; rw [idx22_l]; show b.val * 1 + 1 * 0 = _; omega
  | ⟨1, _⟩ => show win0_22.index (nl b i) 1 * 1152 + 1 * j.val = j.val; rw [idx22_l]; show 0 * 1152 + 1 * j.val = _; omega
  | ⟨2, _⟩ => show win0_22.index (nl b i) 2 * 256 + 1 * r.val = i.val * 256 + r.val; rw [idx22_l]; show i.val * 256 + 1 * r.val = _; omega

theorem rd22_k (A : Buf (Elt Ideal) ((c : Thread nD τ).loc main_v90_4)) (b : Fin 4) (j : Fin 1152) (r : Fin 256) :
    (((cfg0.win 22).blk (nk b)).view.read (Elt Ideal) A : Vec Ideal S1x1152x256 .bf16) (ix3 0 j r) = (A : Vec Ideal S4x1152x8448 .bf16) (ix3 b j ⟨8192 + r.val, by omega⟩) := by
  rw [View.read_apply]
  refine congrArg (A : Vec Ideal S4x1152x8448 .bf16) ?_
  funext x
  apply Fin.ext
  match x with
  | ⟨0, _⟩ => show win0_22.index (nk b) 0 * 1 + 1 * 0 = b.val; rw [idx22_k]; show b.val * 1 + 1 * 0 = _; omega
  | ⟨1, _⟩ => show win0_22.index (nk b) 1 * 1152 + 1 * j.val = j.val; rw [idx22_k]; show 0 * 1152 + 1 * j.val = _; omega
  | ⟨2, _⟩ => show win0_22.index (nk b) 2 * 256 + 1 * r.val = 8192 + r.val; rw [idx22_k]; show 32 * 256 + 1 * r.val = _; omega

end Cert.Kernel5Ideal.Proj

end
-- ==== Proof.ProjVtOut.lean ====
/- What the projection's body leaves in the attention's values. -/
module

public import proofs.«01_k».proof.Proof.ProjOut

@[expose] public section

set_option maxRecDepth 16384

noncomputable section

namespace Cert.Kernel5Ideal.Proj

open Cert.Kernel5Ideal Cert.Kernel5Ideal.Gen Cert.Math
open Idealize.ShloMosaic Idealize.ShloMosaic.TcCoe Idealize.SL.Sem

theorem inb_o (n : Nat) (h : n < 8) : ∀ a, (![0, 144 * n + 128, 0] : Fin 3 → Nat) a + S1x16x256.size a ≤ S1x1152x256.size a := fun a => by
  match a with
  | ⟨0, _⟩ => show 0 + 1 ≤ 1; omega
  | ⟨1, _⟩ => show 144 * n + 128 + 16 ≤ 1152; omega
  | ⟨2, _⟩ => show 0 + 256 ≤ 256; omega

theorem inb_v (n : Nat) (h : n < 8) : ∀ a, (![0, 144 * n, 0] : Fin 3 → Nat) a + S1x128x256.size a ≤ S1x1152x256.size a := fun a => by
  match a with
  | ⟨0, _⟩ => show 0 + 1 ≤ 1; omega
  | ⟨1, _⟩ => show 144 * n + 128 ≤ 1152; omega
  | ⟨2, _⟩ => show 0 + 256 ≤ 256; omega

theorem inb_x (n : Nat) (h : n < 8) : ∀ a, (![0, 128 * n] : Fin 2 → Nat) a + S256x128.size a ≤ S256x1024.size a := fun a => by
  match a with
  | ⟨0, _⟩ => show 0 + 256 ≤ 256; omega
  | ⟨1, _⟩ => show 128 * n + 128 ≤ 1024; omega

/-- The values' columns of a head. -/
def hd (x : Vec Ideal S256x1024 .f32) (n : Nat) (h : n < 8) : Vec Ideal S256x128 .f32 := View.ld x (Rect.unit (s := S256x1024) ![0, 128 * n] S256x128.size (inb_x n h))

/-- The stores of the first heads, the last first: a head's values, then its ones. -/
def pvs (x : Vec Ideal S256x1024 .f32) : (n : Nat) → n ≤ 8 → List (View.Piece (Elt Ideal) S1x1152x256 .bf16)
  | 0, _ => []
  | n + 1, h => ⟨Rect.unit ![0, 144 * n + 128, 0] S1x16x256.size (inb_o n h), k0_pay31 (k0_pay24 (F := Ideal))⟩ ::
      ⟨Rect.unit ![0, 144 * n, 0] S1x128x256.size (inb_v n h), k0_pay30 (hd x n h)⟩ :: pvs x n (by omega)

theorem hd_at (x : Vec Ideal S256x1024 .f32) (n : Nat) (h : n < 8) (r : Fin 256) (e : Fin 128) : hd x n h (ix2 r e) = x (ix2 r ⟨128 * n + e.val, by omega⟩) := by
  refine congrArg x ?_
  funext a
  apply Fin.ext
  match a with
  | ⟨0, _⟩ => show 0 + 1 * r.val = r.val; omega
  | ⟨1, _⟩ => show 128 * n + 1 * e.val = 128 * n + e.val; omega

theorem p30_at (x : Vec Ideal S256x128 .f32) (r : Fin 256) (e : Fin 128) : k0_pay30 x (ix3 0 e r) = x (ix2 r e) := by
  pointwise [k0_pay30]

theorem p31_at (r : Fin 256) (e : Fin 16) : k0_pay31 (k0_pay24 (F := Ideal)) (ix3 0 e r) = 1 := by
  pointwise [k0_pay31, k0_pay24]

theorem p94_at (n : Vec Ideal S256x1024 .bf16) (w : Vec Ideal S1024x1024 .bf16) (r : Fin 256) (k : Fin 1024) :
    k0_pay94 n w (ix2 r k) = ∑ e, n (ix2 r e) * w (ix2 e k) := by
  pointwise [k0_pay94]

theorem pvs_v (v : View sig .tc .vmem S1x1152x256 .bf16) (f) (x : Vec Ideal S256x1024 .f32) (h : Fin 8) (e : Fin 128) (r : Fin 256) :
    ∀ (n : Nat) (hn : n ≤ 8), h.val < n → v.read (Elt Ideal) (v.writes (Elt Ideal) f (pvs x n hn)) (ix3 0 ⟨144 * h.val + e.val, by omega⟩ r)
      = x (ix2 r ⟨128 * h.val + e.val, by omega⟩)
  | 0, _, h0 => absurd h0 (by omega)
  | n + 1, hn, h1 => by
    unfold pvs
    rw [View.read_writes_cons_miss_of_axis (a := 1) (o := 144 * n + 128) (n := 16) _ _ _ _ _ rfl rfl rfl (.inl (by show 144 * h.val + e.val < 144 * n + 128; omega))]
    by_cases hh : h.val = n
    · subst hh
      rw [View.read_writes_cons_hit_of_coords (x := (ix3 0 e r : S1x128x256.Idx)) _ _ _ _ _ _ (fun a => by
        match a with
        | ⟨0, _⟩ => show 0 = 0 + 1 * 0; omega
        | ⟨1, _⟩ => show 144 * h.val + e.val = 144 * h.val + 1 * e.val; omega
        | ⟨2, _⟩ => show r.val = 0 + 1 * r.val; omega)]
      rw [p30_at, hd_at]
    · rw [View.read_writes_cons_miss_of_axis (a := 1) (o := 144 * n) (n := 128) _ _ _ _ _ rfl rfl rfl (.inl (by show 144 * h.val + e.val < 144 * n; omega))]
      exact pvs_v v f x h e r n (by omega) (by omega)

theorem pvs_o (v : View sig .tc .vmem S1x1152x256 .bf16) (f) (x : Vec Ideal S256x1024 .f32) (h : Fin 8) (e : Fin 16) (r : Fin 256) :
    ∀ (n : Nat) (hn : n ≤ 8), h.val < n → v.read (Elt Ideal) (v.writes (Elt Ideal) f (pvs x n hn)) (ix3 0 ⟨144 * h.val + (128 + e.val), by omega⟩ r) = 1
  | 0, _, h0 => absurd h0 (by omega)
  | n + 1, hn, h1 => by
    unfold pvs
    by_cases hh : h.val = n
    · subst hh
      rw [View.read_writes_cons_hit_of_coords (x := (ix3 0 e r : S1x16x256.Idx)) _ _ _ _ _ _ (fun a => by
        match a with
        | ⟨0, _⟩ => show 0 = 0 + 1 * 0; omega
        | ⟨1, _⟩ => show 144 * h.val + (128 + e.val) = 144 * h.val + 128 + 1 * e.val; omega
        | ⟨2, _⟩ => show r.val = 0 + 1 * r.val; omega)]
      rw [p31_at]
    · rw [View.read_writes_cons_miss_of_axis (a := 1) (o := 144 * n + 128) (n := 16) _ _ _ _ _ rfl rfl rfl (.inl (by show 144 * h.val + (128 + e.val) < 144 * n + 128; omega))]
      rw [View.read_writes_cons_miss_of_axis (a := 1) (o := 144 * n) (n := 128) _ _ _ _ _ rfl rfl rfl (.inl (by show 144 * h.val + (128 + e.val) < 144 * n; omega))]
      exact pvs_o v f x h e r n (by omega) (by omega)

theorem list22_B (c : Dev nD) (i : grid0.Coords) (arg1 : Memref sig .tc .vmem S1x256x1024 .f32) (harg1 : arg1.IsWhole) (arg2 : Memref sig .tc .vmem S1x8x1024 .f32) (harg2 : arg2.IsWhole) (arg3 : Memref sig .tc .vmem S1x8x1024 .f32) (harg3 : arg3.IsWhole) (arg4 : Memref sig .tc .vmem S1x256x1024 .f32) (harg4 : arg4.IsWhole) (arg5 : Memref sig .tc .vmem S1x1x6144 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S1024x2048 .bf16) (harg8 : arg8.IsWhole) (arg9 : Memref sig .tc .vmem S1024x3072 .bf16) (harg9 : arg9.IsWhole) (arg10 : Memref sig .tc .vmem S1024x256 .bf16) (harg10 : arg10.IsWhole) (arg11 : Memref sig .tc .vmem S1x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S256x256 .bf16) (harg16 : arg16.IsWhole) (arg17 : Memref sig .tc .vmem S8x1024 .f32) (harg17 : arg17.IsWhole) (arg18 : Memref sig .tc .vmem S1x1024 .f32) (harg18 : arg18.IsWhole) (arg19 : Memref sig .tc .vmem S1x256x1024 .bf16) (harg19 : arg19.IsWhole) (arg20 : Memref sig .tc .vmem S1x256x4096 .bf16) (harg20 : arg20.IsWhole) (arg21 : Memref sig .tc .vmem S1x1024x256 .bf16) (harg21 : arg21.IsWhole) (arg22 : Memref sig .tc .vmem S1x256x1024 .bf16) (harg22 : arg22.IsWhole) (arg23 : Memref sig .tc .vmem S1x1152x256 .bf16) (harg23 : arg23.IsWhole) (arg24 : Memref sig .tc .vmem S1x256x128 .f32) (harg24 : arg24.IsWhole) (arg25 : Memref sig .tc .vmem S1x1x16x256 .f32) (harg25 : arg25.IsWhole) (arg26 : Memref sig .tc .vmem S272x1024 .f32) (harg26 : arg26.IsWhole) (arg27 : Memref sig .tc .vmem S256x1024 .f32) (harg27 : arg27.IsWhole) (arg28 : Memref sig .tc .vmem S256x1024 .f32) (harg28 : arg28.IsWhole) (arg29 : Memref sig .tc .vmem S256x1024 .f32) (harg29 : arg29.IsWhole) (arg30 : Memref sig .tc .vmem S256x128 .f32) (harg30 : arg30.IsWhole) (arg31 : Memref sig .tc .vmem S272x1024 .bf16) (harg31 : arg31.IsWhole) (arg32 : Memref sig .tc .vmem S256x1024 .bf16) (harg32 : arg32.IsWhole) (hc0 : ¬cond0_0 i)
    (x0 : Vec Ideal S1x256x1024 .f32) (x1 : Vec Ideal S1x8x1024 .f32) (x2 : Vec Ideal S1x8x1024 .f32) (x3 : Vec Ideal S1x256x1024 .f32) (x4 : Vec Ideal S1x1x6144 .f32) (x5 : Vec Ideal S1x1024 .f32) (x6 : Vec Ideal S1024x3072 .bf16) (x7 : Vec Ideal S1024x2048 .bf16) (x8 : Vec Ideal S1024x3072 .bf16) (x9 : Vec Ideal S1024x256 .bf16) (x10 : Vec Ideal S1x128 .f32) (x11 : Vec Ideal S256x128 .f32) (x12 : Vec Ideal S256x128 .f32) (x13 : Vec Ideal S1x128 .f32) (x14 : Vec Ideal S1x128 .f32) (x15 : Vec Ideal S256x256 .bf16) (x16 : Vec Ideal S8x1024 .f32) (x17 : Vec Ideal S1x1024 .f32) (xs0 : Vec Ideal S272x1024 .f32) (xs1 : Vec Ideal S256x1024 .f32) (xs2 : Vec Ideal S256x1024 .f32) (xs3 : Vec Ideal S256x1024 .f32) (xs4 : Vec Ideal S256x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xs0 xs1 xs2 xs3 xs4).2.2.2.2.1 = pvs xs3 8 (Nat.le_refl 8) := by
  unfold kernelRun0_B
  dsimp only
  sl_unfold_words
  simp only [View.readAt_eq_ld, harg29.read_unread]
  simp only [pvs, hd]
  refine List.cons_eq_cons.2 ⟨rfl, List.cons_eq_cons.2 ⟨rfl, ?_⟩⟩
  refine List.cons_eq_cons.2 ⟨rfl, List.cons_eq_cons.2 ⟨rfl, ?_⟩⟩
  refine List.cons_eq_cons.2 ⟨rfl, List.cons_eq_cons.2 ⟨rfl, ?_⟩⟩
  refine List.cons_eq_cons.2 ⟨rfl, List.cons_eq_cons.2 ⟨rfl, ?_⟩⟩
  refine List.cons_eq_cons.2 ⟨rfl, List.cons_eq_cons.2 ⟨rfl, ?_⟩⟩
  refine List.cons_eq_cons.2 ⟨rfl, List.cons_eq_cons.2 ⟨rfl, ?_⟩⟩
  refine List.cons_eq_cons.2 ⟨rfl, List.cons_eq_cons.2 ⟨rfl, ?_⟩⟩
  exact List.cons_eq_cons.2 ⟨rfl, List.cons_eq_cons.2 ⟨rfl, rfl⟩⟩

theorem list3_B (c : Dev nD) (i : grid0.Coords) (arg1 : Memref sig .tc .vmem S1x256x1024 .f32) (harg1 : arg1.IsWhole) (arg2 : Memref sig .tc .vmem S1x8x1024 .f32) (harg2 : arg2.IsWhole) (arg3 : Memref sig .tc .vmem S1x8x1024 .f32) (harg3 : arg3.IsWhole) (arg4 : Memref sig .tc .vmem S1x256x1024 .f32) (harg4 : arg4.IsWhole) (arg5 : Memref sig .tc .vmem S1x1x6144 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S1024x2048 .bf16) (harg8 : arg8.IsWhole) (arg9 : Memref sig .tc .vmem S1024x3072 .bf16) (harg9 : arg9.IsWhole) (arg10 : Memref sig .tc .vmem S1024x256 .bf16) (harg10 : arg10.IsWhole) (arg11 : Memref sig .tc .vmem S1x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S256x256 .bf16) (harg16 : arg16.IsWhole) (arg17 : Memref sig .tc .vmem S8x1024 .f32) (harg17 : arg17.IsWhole) (arg18 : Memref sig .tc .vmem S1x1024 .f32) (harg18 : arg18.IsWhole) (arg19 : Memref sig .tc .vmem S1x256x1024 .bf16) (harg19 : arg19.IsWhole) (arg20 : Memref sig .tc .vmem S1x256x4096 .bf16) (harg20 : arg20.IsWhole) (arg21 : Memref sig .tc .vmem S1x1024x256 .bf16) (harg21 : arg21.IsWhole) (arg22 : Memref sig .tc .vmem S1x256x1024 .bf16) (harg22 : arg22.IsWhole) (arg23 : Memref sig .tc .vmem S1x1152x256 .bf16) (harg23 : arg23.IsWhole) (arg24 : Memref sig .tc .vmem S1x256x128 .f32) (harg24 : arg24.IsWhole) (arg25 : Memref sig .tc .vmem S1x1x16x256 .f32) (harg25 : arg25.IsWhole) (arg26 : Memref sig .tc .vmem S272x1024 .f32) (harg26 : arg26.IsWhole) (arg27 : Memref sig .tc .vmem S256x1024 .f32) (harg27 : arg27.IsWhole) (arg28 : Memref sig .tc .vmem S256x1024 .f32) (harg28 : arg28.IsWhole) (arg29 : Memref sig .tc .vmem S256x1024 .f32) (harg29 : arg29.IsWhole) (arg30 : Memref sig .tc .vmem S256x128 .f32) (harg30 : arg30.IsWhole) (arg31 : Memref sig .tc .vmem S272x1024 .bf16) (harg31 : arg31.IsWhole) (arg32 : Memref sig .tc .vmem S256x1024 .bf16) (harg32 : arg32.IsWhole) (hc0 : ¬cond0_0 i)
    (x0 : Vec Ideal S1x256x1024 .f32) (x1 : Vec Ideal S1x8x1024 .f32) (x2 : Vec Ideal S1x8x1024 .f32) (x3 : Vec Ideal S1x256x1024 .f32) (x4 : Vec Ideal S1x1x6144 .f32) (x5 : Vec Ideal S1x1024 .f32) (x6 : Vec Ideal S1024x3072 .bf16) (x7 : Vec Ideal S1024x2048 .bf16) (x8 : Vec Ideal S1024x3072 .bf16) (x9 : Vec Ideal S1024x256 .bf16) (x10 : Vec Ideal S1x128 .f32) (x11 : Vec Ideal S256x128 .f32) (x12 : Vec Ideal S256x128 .f32) (x13 : Vec Ideal S1x128 .f32) (x14 : Vec Ideal S1x128 .f32) (x15 : Vec Ideal S256x256 .bf16) (x16 : Vec Ideal S8x1024 .f32) (x17 : Vec Ideal S1x1024 .f32) (xs0 : Vec Ideal S272x1024 .f32) (xs1 : Vec Ideal S256x1024 .f32) (xs2 : Vec Ideal S256x1024 .f32) (xs3 : Vec Ideal S256x1024 .f32) (xs4 : Vec Ideal S256x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xs0 xs1 xs2 xs3 xs4).2.2.2.2.2.2.2.2.2.2.1 = [⟨Rect.unit ![0, 0] ![256, 1024] inb_S256x1024_S256x1024_0_0, k0_pay94 (nrm i x0 x3 x4 x5) (w1 x8)⟩] := by
  unfold kernelRun0_B
  dsimp only
  sl_unfold_words
  simp only [View.readAt_eq_ld, harg1.read_unread, harg4.read_unread, harg5.read_unread, harg6.read_unread, harg9.read_unread]
  repeat first | rw [View.ld_unit_zero zero3] | rw [View.ld_unit_zero zero2]
  rw [head_eq]
  rfl

theorem list3_A (c : Dev nD) (i : grid0.Coords) (arg1 : Memref sig .tc .vmem S1x256x1024 .f32) (harg1 : arg1.IsWhole) (arg2 : Memref sig .tc .vmem S1x8x1024 .f32) (harg2 : arg2.IsWhole) (arg3 : Memref sig .tc .vmem S1x8x1024 .f32) (harg3 : arg3.IsWhole) (arg4 : Memref sig .tc .vmem S1x256x1024 .f32) (harg4 : arg4.IsWhole) (arg5 : Memref sig .tc .vmem S1x1x6144 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S1024x2048 .bf16) (harg8 : arg8.IsWhole) (arg9 : Memref sig .tc .vmem S1024x3072 .bf16) (harg9 : arg9.IsWhole) (arg10 : Memref sig .tc .vmem S1024x256 .bf16) (harg10 : arg10.IsWhole) (arg11 : Memref sig .tc .vmem S1x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S256x256 .bf16) (harg16 : arg16.IsWhole) (arg17 : Memref sig .tc .vmem S8x1024 .f32) (harg17 : arg17.IsWhole) (arg18 : Memref sig .tc .vmem S1x1024 .f32) (harg18 : arg18.IsWhole) (arg19 : Memref sig .tc .vmem S1x256x1024 .bf16) (harg19 : arg19.IsWhole) (arg20 : Memref sig .tc .vmem S1x256x4096 .bf16) (harg20 : arg20.IsWhole) (arg21 : Memref sig .tc .vmem S1x1024x256 .bf16) (harg21 : arg21.IsWhole) (arg22 : Memref sig .tc .vmem S1x256x1024 .bf16) (harg22 : arg22.IsWhole) (arg23 : Memref sig .tc .vmem S1x1152x256 .bf16) (harg23 : arg23.IsWhole) (arg24 : Memref sig .tc .vmem S1x256x128 .f32) (harg24 : arg24.IsWhole) (arg25 : Memref sig .tc .vmem S1x1x16x256 .f32) (harg25 : arg25.IsWhole) (arg26 : Memref sig .tc .vmem S272x1024 .f32) (harg26 : arg26.IsWhole) (arg27 : Memref sig .tc .vmem S256x1024 .f32) (harg27 : arg27.IsWhole) (arg28 : Memref sig .tc .vmem S256x1024 .f32) (harg28 : arg28.IsWhole) (arg29 : Memref sig .tc .vmem S256x1024 .f32) (harg29 : arg29.IsWhole) (arg30 : Memref sig .tc .vmem S256x128 .f32) (harg30 : arg30.IsWhole) (arg31 : Memref sig .tc .vmem S272x1024 .bf16) (harg31 : arg31.IsWhole) (arg32 : Memref sig .tc .vmem S256x1024 .bf16) (harg32 : arg32.IsWhole) (hc0 : cond0_0 i)
    (x0 : Vec Ideal S1x256x1024 .f32) (x1 : Vec Ideal S1x8x1024 .f32) (x2 : Vec Ideal S1x8x1024 .f32) (x3 : Vec Ideal S1x256x1024 .f32) (x4 : Vec Ideal S1x1x6144 .f32) (x5 : Vec Ideal S1x1024 .f32) (x6 : Vec Ideal S1024x3072 .bf16) (x7 : Vec Ideal S1024x2048 .bf16) (x8 : Vec Ideal S1024x3072 .bf16) (x9 : Vec Ideal S1024x256 .bf16) (x10 : Vec Ideal S1x128 .f32) (x11 : Vec Ideal S256x128 .f32) (x12 : Vec Ideal S256x128 .f32) (x13 : Vec Ideal S1x128 .f32) (x14 : Vec Ideal S1x128 .f32) (x15 : Vec Ideal S256x256 .bf16) (x16 : Vec Ideal S8x1024 .f32) (x17 : Vec Ideal S1x1024 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17).2.2.2.2.2.2.2.2.2.2.1 = [⟨Rect.unit ![0, 0] ![256, 1024] inb_S256x1024_S256x1024_0_0, k0_pay94 (nrm i x0 x3 x4 x5) (w1 x8)⟩, ⟨Rect.unit ![0, 0] ![256, 1024] inb_S256x1024_S256x1024_0_0, k0_pay5 (F := Ideal)⟩] := by
  unfold kernelRun0_A
  dsimp only
  sl_unfold_words
  simp only [View.readAt_eq_ld, harg1.read_unread, harg4.read_unread, harg5.read_unread, harg6.read_unread, harg9.read_unread]
  repeat first | rw [View.ld_unit_zero zero3] | rw [View.ld_unit_zero zero2]
  rw [head_eq]
  rfl

end Cert.Kernel5Ideal.Proj

end
-- ==== Proof.ProjVt.lean ====
/- The attention's values that the projection leaves are the reference's. -/
module

public import proofs.«01_k».proof.Proof.Gen.Kernel5Ideal.Value
public import proofs.«01_k».proof.Proof.ProjVtHost
public import proofs.«01_k».proof.Proof.ProjVtOut

@[expose] public section

set_option maxRecDepth 16384

noncomputable section

namespace Cert.Kernel5Ideal.Proj

open Cert.Kernel5Ideal Cert.Kernel5Ideal.Gen Cert.Math
open Cert.Reference5Ideal.Read
open Idealize.ShloMosaic Idealize.ShloMosaic.TcCoe Idealize.SL.Sem

variable (m : (ℓ : Loc nD τ sig) → Buf (Elt Ideal) ℓ) (c : Dev nD)

/-- What a point keeps for the next one: its rows' values. -/
def kept (t : Fin cfg0.N) : Vec Ideal S256x1024 .f32 :=
  k0_pay94 (nrm (grid0.coords t) (iblk m c 0 t) (iblk m c 3 t) (iblk m c 4 t) (iblk m c 5 t)) (w1 (iblk m c 8 t))

theorem whole_read (v : View sig .tc .vmem S256x1024 .f32) (f) (x : Vec Ideal S256x1024 .f32) (L : List (View.Piece (Elt Ideal) S256x1024 .f32)) :
    v.read (Elt Ideal) (v.writes (Elt Ideal) f (⟨Rect.unit ![0, 0] ![256, 1024] inb_S256x1024_S256x1024_0_0, x⟩ :: L)) = x := by
  funext j
  rw [View.read_writes_cons_hit_of_coords (x := (j : S256x1024.Idx)) _ _ _ _ _ _ (fun a => by
    match a with
    | ⟨0, _⟩ => show (j 0).val = 0 + 1 * (j 0).val; omega
    | ⟨1, _⟩ => show (j 1).val = 0 + 1 * (j 1).val; omega)]

theorem kept_eq (t : Fin cfg0.N) : (outsAt0 m c t.val t.isLt).2.2.2.2.2.2.2.2.2.2.1 = kept m c t := by
  unfold kept
  by_cases h0 : t.val % 133 = 0
  · rw [outsAt0_A m c t h0]
    dsimp only
    unfold sout0_A_3
    rw [list3_A, whole_read]
  · rw [outsAt0_B m c t h0]
    dsimp only
    unfold sout0_B_3
    rw [list3_B, whole_read]

theorem outs_of (t : Fin cfg0.N) (n : Nat) (hn : n < cfg0.N) (h : n = t.val) : outsAt0 m c n hn = outsAt0 m c t.val t.isLt := by
  subst h
  rfl

/-- What a point writes back: the values the point before it kept. -/
theorem flushed22_eq (t t' : Fin cfg0.N) (h : t'.val = t.val + 1) :
    (dats m 0 c).flushed 22 t' = (cfg0.win 22).cut (grid0.coords t') (VO0_22.read (Elt Ideal) (VO0_22.writes (Elt Ideal) VO0_22.junk
      (pvs (kept m c t) 8 (Nat.le_refl 8)))) := by
  have h0 : ¬ t'.val % 133 = 0 := by
    have : t'.val < 133 := t'.isLt
    omega
  rw [Cert.Kernel5Ideal.Value.flushed22_B m c t' h0]
  unfold out0_B_22
  rw [list22_B, outs_of m c t (t'.val - 1) _ (by omega), kept_eq]

theorem blocks22 (t : Fin cfg0.N) (hf : (cfg0.win 22).flush t = true) :
    ((cfg0.win 22).blk t).view.read (Elt Ideal) ((dats m 0 c).arrAt 22 cfg0.N) = (dats m 0 c).flushed 22 t :=
  (dats m 0 c).read_blk_arrAt_eq_flushed 22 (fun t t' h h' hne => (cfg0.win 22).disjoint_blk fun e => hne (idx22_inj t t' h h' e)) cfg0.N t t.isLt hf

theorem cut22_at (t : Fin cfg0.N) (x : Vec Ideal S1x1152x256 .bf16) (j : Fin 1152) (r : Fin 256) :
    ((cfg0.win 22).cut (grid0.coords t) x : Vec Ideal S1x1152x256 .bf16) (ix3 0 j r) = x (ix3 0 j r) := rfl

/-- The reference's second result of the kernel's arguments. -/
def wantV : FVec Ideal Cert.Reference5Ideal.S4x8x144x8448 .f32 :=
  rO (rV (rD (tok m c) (m ((c.tc : Thread nD τ).loc main_arg5))) (rE (ctx m c) (m ((c.tc : Thread nD τ).loc main_arg5))))

theorem kept_l (b : Fin 4) (i : Fin 32) (r : Fin 256) (h : Fin 8) (e : Fin 128) (s : Fin 8192) (hs : s.val = i.val * 256 + r.val) :
    kept m c (pl b i) (ix2 r ⟨128 * h.val + e.val, by omega⟩) = wantV m c (ix4 b h ⟨e.val, by omega⟩ ⟨s.val, by omega⟩) := by
  unfold kept wantV
  rw [rO_v, rV_lo, rD_at, p94_at]
  refine Finset.sum_congr rfl fun d _ => ?_
  rw [n_tok, w1_at, blk8 m c _ d ⟨128 * h.val + e.val, by omega⟩]
  refine congrArg₂ (· * ·) (congrArg (fun j => tok m c (ix3 b j d)) (Fin.ext hs.symm)) (congrArg (fun j => m ((c.tc : Thread nD τ).loc main_arg5) (ix3 0 d j)) (Fin.ext ?_))
  show 5136 + (128 * h.val + e.val) = 5136 + (h.val * 128 + e.val)
  omega

theorem kept_k (b : Fin 4) (r : Fin 256) (h : Fin 8) (e : Fin 128) :
    kept m c (pk b) (ix2 r ⟨128 * h.val + e.val, by omega⟩) = wantV m c (ix4 b h ⟨e.val, by omega⟩ ⟨8192 + r.val, by omega⟩) := by
  unfold kept wantV
  rw [rO_v, rV_hi, rE_at, p94_at]
  refine Finset.sum_congr rfl fun d _ => ?_
  rw [n_ctx_k, w1_at, blk8 m c _ d ⟨128 * h.val + e.val, by omega⟩]
  refine congrArg₂ (· * ·) rfl (congrArg (fun j => m ((c.tc : Thread nD τ).loc main_arg5) (ix3 0 d j)) (Fin.ext ?_))
  show 5136 + (128 * h.val + e.val) = 5136 + (h.val * 128 + e.val)
  omega

/-- A head's rows of a block, its values and its ones, from the kept rows. -/
theorem rows_at (v : View sig .tc .vmem S1x1152x256 .bf16) (f) (x : Vec Ideal S256x1024 .f32) (b : Fin 4) (h : Fin 8) (e : Fin 144) (r : Fin 256) (s : Fin 8448)
    (hx : ∀ e : Fin 128, x (ix2 r ⟨128 * h.val + e.val, by omega⟩) = wantV m c (ix4 b h ⟨e.val, by omega⟩ s)) :
    v.read (Elt Ideal) (v.writes (Elt Ideal) f (pvs x 8 (Nat.le_refl 8))) (ix3 0 ⟨144 * h.val + e.val, by omega⟩ r) = wantV m c (ix4 b h e s) := by
  by_cases he : e.val < 128
  · exact (pvs_v v f x h ⟨e.val, he⟩ r 8 _ h.isLt).trans (hx ⟨e.val, he⟩)
  · have q : e.val = 128 + (e.val - 128) := by omega
    have h1 := pvs_o v f x h ⟨e.val - 128, by omega⟩ r 8 (Nat.le_refl 8) h.isLt
    have h2 : wantV m c (ix4 b h ⟨128 + (e.val - 128), by omega⟩ s) = 1 := rO_o _ b h ⟨e.val - 128, by omega⟩ s
    refine (congrArg (fun j => v.read (Elt Ideal) (v.writes (Elt Ideal) f (pvs x 8 (Nat.le_refl 8))) (ix3 0 j r)) (Fin.ext ?_)).trans
      (h1.trans (h2.symm.trans (congrArg (fun j => wantV m c (ix4 b h j s)) (Fin.ext q.symm))))
    show 144 * h.val + e.val = 144 * h.val + (128 + (e.val - 128))
    omega

theorem vlo_at (b : Fin 4) (i : Fin 32) (r : Fin 256) (h : Fin 8) (e : Fin 144) :
    ((dats m 0 c).arrAt 22 cfg0.N : Vec Ideal S4x1152x8448 .bf16) (ix3 b ⟨144 * h.val + e.val, by omega⟩ ⟨i.val * 256 + r.val, by omega⟩)
      = wantV m c (ix4 b h e ⟨i.val * 256 + r.val, by omega⟩) := by
  have h1 := blocks22 m c (nl b i) (flush22_l b i)
  rw [flushed22_eq m c (pl b i) (nl b i) rfl] at h1
  have h2 := congrFun h1 (ix3 0 ⟨144 * h.val + e.val, by omega⟩ r)
  rw [← rd22_l c ((dats m 0 c).arrAt 22 cfg0.N) b i ⟨144 * h.val + e.val, by omega⟩ r]
  exact h2.trans ((cut22_at (nl b i) _ _ r).trans (rows_at m c VO0_22 _ _ b h e r _ (fun e => kept_l m c b i r h e ⟨i.val * 256 + r.val, by omega⟩ rfl)))

theorem vhi_at (b : Fin 4) (r : Fin 256) (h : Fin 8) (e : Fin 144) :
    ((dats m 0 c).arrAt 22 cfg0.N : Vec Ideal S4x1152x8448 .bf16) (ix3 b ⟨144 * h.val + e.val, by omega⟩ ⟨8192 + r.val, by omega⟩)
      = wantV m c (ix4 b h e ⟨8192 + r.val, by omega⟩) := by
  have h1 := blocks22 m c (nk b) (flush22_k b)
  rw [flushed22_eq m c (pk b) (nk b) rfl] at h1
  have h2 := congrFun h1 (ix3 0 ⟨144 * h.val + e.val, by omega⟩ r)
  rw [← rd22_k c ((dats m 0 c).arrAt 22 cfg0.N) b ⟨144 * h.val + e.val, by omega⟩ r]
  exact h2.trans ((cut22_at (nk b) _ _ r).trans (rows_at m c VO0_22 _ _ b h e r _ (fun e => kept_k m c b r h e)))

/-- The second result array. -/
theorem values_eq : ((dats m 0 c).arrAt 22 cfg0.N : Vec Ideal S4x1152x8448 .bf16) = rT (wantV m c) := by
  have key : ∀ (b : Fin 4) (j : Fin 1152) (s : Fin 8448), ((dats m 0 c).arrAt 22 cfg0.N : Vec Ideal S4x1152x8448 .bf16) (ix3 b j s) = rT (wantV m c) (ix3 b j s) := fun b j s => by
    have hj : (⟨144 * (j.val / 144) + j.val % 144, by omega⟩ : Fin 1152) = j := Fin.ext (by show 144 * (j.val / 144) + j.val % 144 = j.val; omega)
    have hT := rT_at (wantV m c) b ⟨j.val / 144, by omega⟩ ⟨j.val % 144, by omega⟩ s
    dsimp only at hT
    rw [hj] at hT
    rw [hT]
    by_cases hs : s.val < 8192
    · have h := vlo_at m c b ⟨s.val / 256, by omega⟩ ⟨s.val % 256, by omega⟩ ⟨j.val / 144, by omega⟩ ⟨j.val % 144, by omega⟩
      have e : (⟨s.val / 256 * 256 + s.val % 256, by omega⟩ : Fin 8448) = s := Fin.ext (by show s.val / 256 * 256 + s.val % 256 = s.val; omega)
      dsimp only at h
      rw [hj, e] at h
      exact h
    · have h := vhi_at m c b ⟨s.val - 8192, by omega⟩ ⟨j.val / 144, by omega⟩ ⟨j.val % 144, by omega⟩
      have e : (⟨8192 + (s.val - 8192), by omega⟩ : Fin 8448) = s := Fin.ext (by show 8192 + (s.val - 8192) = s.val; omega)
      dsimp only at h
      rw [hj, e] at h
      exact h
  funext x
  rw [eq_ix3 x]
  exact key _ _ _

/-- The second array the kernel leaves. -/
def leftV : Buf (Elt Ideal) ((c.tc : Thread nD τ).loc main_v90_4) := (dats m 0 c).arrAt 22 cfg0.N

end Cert.Kernel5Ideal.Proj

end
-- ==== Proof.ProjSame.lean ====
/- The projection's two kernel programs have one text. -/
module

public import proofs.«01_k».proof.Proof.Gen.Kernel5
public import proofs.«01_k».proof.Proof.Gen.Kernel5Ideal
public import Idealize.ShloMosaic.Lib.Tactic

@[expose] public section

set_option maxRecDepth 16384

noncomputable section

namespace Cert.Proof.Proj

open Idealize.ShloMosaic Idealize.SL.Sem

variable {F : FTy → Type} [FloatOps F]

theorem main_same : @Cert.Kernel5.main F _ _ = @Cert.Kernel5Ideal.main F _ _ := by sl_kernel_rfl

theorem defs_same : @Cert.Kernel5.defs F _ _ = @Cert.Kernel5Ideal.defs F _ _ := by sl_kernel_rfl

end Cert.Proof.Proj

end
-- ==== Proof.Proj.lean ====
/- The projection: its kernel's frame, and its values, gates and attention's values equal to the reference's over the extended reals. -/
module

public import proofs.«01_k».proof.Defs
public import proofs.«01_k».proof.Proof.Gen.Kernel5
public import proofs.«01_k».proof.Proof.Gen.Kernel5Ideal.Value
public import proofs.«01_k».proof.Proof.ProjEq
public import proofs.«01_k».proof.Proof.ProjVt
public import proofs.«01_k».proof.Proof.ProjSame

@[expose] public section

set_option maxRecDepth 16384

noncomputable section

namespace Cert.Kernel5Ideal.Proj

open Cert.Kernel5Ideal Cert.Kernel5Ideal.Gen Cert.Math
open Idealize.ShloMosaic Idealize.ShloMosaic.TcCoe Idealize.SL.Sem

variable (m : (ℓ : Loc nD τ sig) → Buf (Elt Ideal) ℓ) (c : Dev nD)

/-- A block of the final array is what the last point on it wrote back. -/
theorem blocks (t : Fin cfg0.N) (hf : (cfg0.win 19).flush t = true) :
    ((cfg0.win 19).blk t).view.read (Elt Ideal) ((dats m 0 c).arrAt 19 cfg0.N) = (dats m 0 c).flushed 19 t :=
  (dats m 0 c).read_blk_arrAt_eq_flushed 19 (fun t t' h h' hne => (cfg0.win 19).disjoint_blk fun e => hne (idx_inj t t' h h' e)) cfg0.N t t.isLt hf

theorem cut_at (t : Fin cfg0.N) (x : Vec Ideal S1x256x4096 .bf16) (r : Fin 256) (k : Fin 4096) :
    ((cfg0.win 19).cut (grid0.coords t) x : Vec Ideal S1x256x4096 .bf16) (ix3 0 r k) = x (ix3 0 r k) := rfl

/-- What a point writes back: its four stores. -/
theorem flushed_eq (t : Fin cfg0.N) :
    (dats m 0 c).flushed 19 t = (cfg0.win 19).cut (grid0.coords t) (VO0_19.read (Elt Ideal) (VO0_19.writes (Elt Ideal) VO0_19.junk
      (pieces (nrm (grid0.coords t) (iblk m c 0 t) (iblk m c 3 t) (iblk m c 4 t) (iblk m c 5 t)) (iblk m c 6 t) (iblk m c 7 t)))) := by
  by_cases h0 : t.val % 133 = 0
  · rw [Cert.Kernel5Ideal.Value.flushed19_A m c t h0]
    unfold out0_A_19
    rw [list_A]
  · rw [Cert.Kernel5Ideal.Value.flushed19_B m c t h0]
    unfold out0_B_19
    rw [list_B]

theorem lo_at (b : Fin 4) (i : Fin 32) (r : Fin 256) (k : Fin 1024) (q : Fin 4) :
    ((dats m 0 c).arrAt 19 cfg0.N : Vec Ideal S4x8448x4096 .bf16) (ix3 b ⟨i.val * 256 + r.val, by omega⟩ ⟨1024 * q.val + k.val, by omega⟩)
      = want m c (ix3 b ⟨i.val * 256 + r.val, by omega⟩ ⟨1024 * q.val + k.val, by omega⟩) := by
  have h1 := blocks m c (pl b i) (flush_l b i)
  rw [flushed_eq] at h1
  have h2 := congrFun h1 (ix3 0 r ⟨1024 * q.val + k.val, by omega⟩)
  rw [← rd19_l c ((dats m 0 c).arrAt 19 cfg0.N) b i r ⟨1024 * q.val + k.val, by omega⟩]
  exact h2.trans ((cut_at (pl b i) _ r _).trans (tok_at m c VO0_19 _ b i r k q))

theorem hi_at (b : Fin 4) (r : Fin 256) (k : Fin 1024) (q : Fin 4) :
    ((dats m 0 c).arrAt 19 cfg0.N : Vec Ideal S4x8448x4096 .bf16) (ix3 b ⟨8192 + r.val, by omega⟩ ⟨1024 * q.val + k.val, by omega⟩)
      = want m c (ix3 b ⟨8192 + r.val, by omega⟩ ⟨1024 * q.val + k.val, by omega⟩) := by
  have h1 := blocks m c (pc b) (flush_c b)
  rw [flushed_eq] at h1
  have h2 := congrFun h1 (ix3 0 r ⟨1024 * q.val + k.val, by omega⟩)
  rw [← rd19_c c ((dats m 0 c).arrAt 19 cfg0.N) b r ⟨1024 * q.val + k.val, by omega⟩]
  exact h2.trans ((cut_at (pc b) _ r _).trans (ctx_at m c VO0_19 _ b r k q))

/-- The result array. -/
theorem result_eq : ((dats m 0 c).arrAt 19 cfg0.N : Vec Ideal S4x8448x4096 .bf16) = want m c := by
  have key : ∀ (b : Fin 4) (s : Fin 8448) (k : Fin 4096), ((dats m 0 c).arrAt 19 cfg0.N : Vec Ideal S4x8448x4096 .bf16) (ix3 b s k) = want m c (ix3 b s k) := fun b s k => by
    have hk : (⟨1024 * (k.val / 1024) + k.val % 1024, by omega⟩ : Fin 4096) = k := Fin.ext (by show 1024 * (k.val / 1024) + k.val % 1024 = k.val; omega)
    by_cases hs : s.val < 8192
    · have h := lo_at m c b ⟨s.val / 256, by omega⟩ ⟨s.val % 256, by omega⟩ ⟨k.val % 1024, by omega⟩ ⟨k.val / 1024, by omega⟩
      have e : (⟨s.val / 256 * 256 + s.val % 256, by omega⟩ : Fin 8448) = s := Fin.ext (by show s.val / 256 * 256 + s.val % 256 = s.val; omega)
      dsimp only at h
      rw [hk, e] at h
      exact h
    · have h := hi_at m c b ⟨s.val - 8192, by omega⟩ ⟨k.val % 1024, by omega⟩ ⟨k.val / 1024, by omega⟩
      have e : (⟨8192 + (s.val - 8192), by omega⟩ : Fin 8448) = s := Fin.ext (by show 8192 + (s.val - 8192) = s.val; omega)
      dsimp only at h
      rw [hk, e] at h
      exact h
  funext j
  rw [eq_ix3 j]
  exact key _ _ _

/-- The array the kernel leaves. -/
def left : Buf (Elt Ideal) ((c.tc : Thread nD τ).loc main_v90_1) := (dats m 0 c).arrAt 19 cfg0.N

end Cert.Kernel5Ideal.Proj

namespace Cert.Proof.Proj

open Idealize.ShloMosaic Idealize.SL.Sem

theorem frame_ref : Cert.quiescent_Reference5Ideal := fun m ρ _ =>
  (θ_run Cert.Reference5Ideal.defs _ _).mono (fun r h => ⟨fun c => (h c).2.2, Idealize.ShloMosaic.sem_eq_zero_of_no_sems (by decide) r.2⟩)
    (Cert.Reference5Ideal.Value.run (F := Ideal) m ρ)

theorem frame_ideal : Cert.quiescent_Kernel5Ideal := fun m ρ _ => Cert.Kernel5Ideal.Gen.frame m ρ

set_option maxHeartbeats 4000000 in
/-- The kernel's frame: its text is the ideal program's, so the run over any floats is its run. -/
theorem frame_kernel : Cert.quiescent_Kernel5 := fun m ρ _ => by
  have h := Cert.Kernel5Ideal.Gen.frame (F := Bits) m ρ
  rw [← defs_same, ← main_same] at h
  exact h

/-- The two programs' results are the same arrays. -/
theorem algebraic : Cert.algebraic_Kernel5Ideal_Reference5Ideal (hKernel5Ideal := Cert.Kernel5Ideal.Gen.facts)
    (hReference5Ideal := Cert.Reference5Ideal.Gen.facts) := fun m g m' g' _ hag =>
  ⟨Cert.Kernel5Ideal.Proj.left m, Cert.Kernel5Ideal.Proj.leftV m,
    (θ_run Cert.Kernel5Ideal.defs _ _).mono (fun r h c => ⟨(h c).2.1, (h c).2.2.2.2.1, (h c).2.2.2.2.2.2.2⟩) (Cert.Kernel5Ideal.Value.run_blocks m g),
    (θ_run Cert.Reference5Ideal.defs _ _).mono (fun r h c => ⟨(h c).1.trans (by
      obtain ⟨h0, h1, h2, h3, h4, h5, h6, h7, h8, h9, h10⟩ := hag c
      rw [h0, h1, h2, h3, h4, h5]
      exact (Cert.Kernel5Ideal.Proj.result_eq m c).symm), (h c).2.1.trans (by
      obtain ⟨h0, h1, h2, h3, h4, h5, h6, h7, h8, h9, h10⟩ := hag c
      rw [h0, h1, h2, h3, h4, h5]
      exact (Cert.Kernel5Ideal.Proj.values_eq m c).symm), (h c).2.2⟩)
      (Cert.Reference5Ideal.Read.run_rows m' g')⟩

end Cert.Proof.Proj

end
-- ==== Proof.Same.lean ====
/- The two kernel programs have one text: the same body, tables and host program. -/
module

public import proofs.«01_k».proof.Proof.Gen.Kernel
public import proofs.«01_k».proof.Proof.Gen.KernelIdeal

@[expose] public section

set_option maxRecDepth 16384

noncomputable section

namespace Cert.Same

open Idealize.ShloMosaic Idealize.SL.Sem

variable {F : FTy → Type} [FloatOps F]

theorem body_same (i : Cert.Kernel.grid0.Coords) : @Cert.Kernel.cc0_attn F _ _ i = @Cert.KernelIdeal.cc0_attn F _ _ i := rfl

theorem main_same : @Cert.Kernel.main F _ _ = @Cert.KernelIdeal.main F _ _ := rfl

theorem table_same : @Cert.Kernel.defs₀ F _ _ = @Cert.KernelIdeal.defs₀ F _ _ := by
  unfold Cert.Kernel.defs₀ Cert.KernelIdeal.defs₀
  refine congrArg Defs.onTc (funext fun l => funext fun a => ?_)
  match l, a with
  | ⟨0, _⟩, (t, s) =>
    dsimp only
    rw [body_same]
    rfl

theorem defs_same : @Cert.Kernel.defs F _ _ = @Cert.KernelIdeal.defs F _ _ := by
  unfold Cert.Kernel.defs Cert.KernelIdeal.defs
  exact congrArg (Pipeline.defs (Cert.Kernel.pcfgs (F := F))) table_same

end Cert.Same

end
-- ==== Proof.lean ====
/- The claims: of the attention, the feed-forward part, the merge, the modulation and the projection, the frames, the idealization, and the results equal to the references'. -/
module

public import proofs.«01_k».proof.Defs
public import proofs.«01_k».proof.Proof.Gen.Kernel
public import proofs.«01_k».proof.Proof.Launch
public import proofs.«01_k».proof.Proof.Result
public import proofs.«01_k».proof.Proof.Ffn
public import proofs.«01_k».proof.Proof.Merge
public import proofs.«01_k».proof.Proof.Mod
public import proofs.«01_k».proof.Proof.Proj
public import proofs.«01_k».proof.Proof.Same
public import proofs.«01_k».proof.Proof.Gen.Pre_finite_inputs
public import proofs.«01_k».proof.Proof.Gen.ReferenceIdeal.Run

@[expose] public section

set_option maxRecDepth 16384

noncomputable section

namespace Cert.Proof

open Idealize.ShloMosaic Idealize.SL.Sem Cert.Kernel

/-- The reference's frame: its run read at the arguments; it declares no semaphore. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's frame: its text is the ideal program's, so the run over any floats is its run. -/
theorem frame_kernel : Cert.quiescent_Kernel := fun m ρ _ => by
  have h := Cert.KernelIdeal.Att.quiet (F := Bits) m ρ
  rw [← Cert.Same.defs_same, ← Cert.Same.main_same] at h
  exact h

/-- The two results are one array: the kernel's, read as the reference's. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := fun m g m' g' hpre hag =>
  ⟨Cert.KernelIdeal.Att.left m, Cert.KernelIdeal.Att.run_result m g,
    (θ_run Cert.ReferenceIdeal.defs _ _).mono (fun r h c => ⟨(h c).1.trans (by
      obtain ⟨h0, h1, h2, h3, h4, h5, h6⟩ := hag c
      rw [Cert.ReferenceIdeal.Read.res_eq, h0, h1, h2, h3, h4, h5, h6]
      exact (Cert.KernelIdeal.Att.result_eq m c (Cert.KernelIdeal.Att.reals m c hpre)).symm), (h c).2⟩)
      (Cert.ReferenceIdeal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite_inputs.Gen.facts, Cert.Pre_finite_ffn.Gen.facts, Cert.Pre_finite_conditions.Gen.facts,
  frame_kernel, fun m ρ _ => Cert.KernelIdeal.Att.quiet m ρ, fun m ρ _ => Cert.KernelIdeal.Att.quiet m ρ,
  frame_ref, fun m ρ _ => frame_ref m ρ trivial,
  Ffn.frame_kernel, Ffn.frame_ideal, fun m ρ _ => Ffn.frame_ideal m ρ trivial, Ffn.frame_ref, fun m ρ _ => Ffn.frame_ref m ρ trivial,
  Mrg.frame_kernel, Mrg.frame_ideal, Mrg.frame_ref,
  Mod.frame_kernel, Mod.frame_ideal, fun m ρ _ => Mod.frame_ideal m ρ trivial, Mod.frame_ref, fun m ρ _ => Mod.frame_ref m ρ trivial,
  Proj.frame_kernel, Proj.frame_ideal, Proj.frame_ref,
  trivial, algebraic, trivial, Ffn.algebraic, trivial, Mrg.algebraic, trivial, Mod.algebraic, trivial, Proj.algebraic⟩

end Cert.Proof

end
